-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)) (v3 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_v9_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)) (v5 : (c : Dev Cert.Kernel2Ideal.nD) → Buf (Elt Ideal) ((c.tc : Thread Cert.Kernel2Ideal.nD Cert.Kernel2Ideal.τ).loc Cert.Kernel2Ideal.main_v7_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_v7_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v33) = v3 c
          ∧ r.2.mem ((c.tc : Thread Cert.Reference2Ideal.nD Cert.Reference2Ideal.τ).loc Cert.Reference2Ideal.main_v38) = v4 c
          ∧ r.2.mem ((c.tc : Thread Cert.Reference2Ideal.nD Cert.Reference2Ideal.τ).loc Cert.Reference2Ideal.main_v61) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_v31) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)) (v3 : (c : Dev Cert.Kernel9Ideal.nD) → Buf (Elt Ideal) ((c.tc : Thread Cert.Kernel9Ideal.nD Cert.Kernel9Ideal.τ).loc Cert.Kernel9Ideal.main_v2_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_v2_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v25) = v2 c
          ∧ r.2.mem ((c.tc : Thread Cert.Reference9Ideal.nD Cert.Reference9Ideal.τ).loc Cert.Reference9Ideal.main_v23) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v23) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)) (v3 : (c : Dev Cert.Kernel11Ideal.nD) → Buf (Elt Ideal) ((c.tc : Thread Cert.Kernel11Ideal.nD Cert.Kernel11Ideal.τ).loc Cert.Kernel11Ideal.main_v4_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_v4_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v52) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_v30) = v2 c
          ∧ r.2.mem ((c.tc : Thread Cert.Reference11Ideal.nD Cert.Reference11Ideal.τ).loc Cert.Reference11Ideal.main_v35) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_arguments.lean ====
abbrev S4x8192x128 : Shape := ⟨3, ![4, 8192, 128]⟩
abbrev S2x8448x128 : Shape := ⟨3, ![2, 8448, 128]⟩
abbrev S8192x512 : Shape := ⟨2, ![8192, 512]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S2x8448x128 : S_.BroadcastsInDim S2x8448x128 (![] : Fin 0 → Fin S2x8448x128.rank)
  reducesTo_S2x8448x128_S_d0_1_2 : S2x8448x128.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S4x8192x128 .f32) (main_arg1 : FVec F S2x8448x128 .f32) (main_arg2 : FVec F S2x8448x128 .f32) (main_arg3 : FVec F S8192x512 .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S2x8448x128 .f32 := Host.absf main_arg1
  let main_cst_0 : FVec F S_ .f32 := constant S_ .f32 0x7F800000#32
  let main_v5 : FVec F S2x8448x128 .f32 := broadcastInDim S2x8448x128 ![] bcast_S_S2x8448x128 main_cst_0
  let main_v6 : IVec S2x8448x128 1 := cmpf .olt main_v4 main_v5
  let main_c_1 : IVec S_ 1 := constantI S_ 1 1#1
  let main_v7 : IVec S_ 1 := (fun x v => Host.reduce IntOp.andi x v reducesTo_S2x8448x128_S_d0_1_2 h_S_) main_v6 main_c_1
  let main_v8 : IVec S_ 1 := andi main_v3 main_v7
  let main_v9 : FVec F S2x8448x128 .f32 := Host.absf main_arg2
  let main_cst_2 : FVec F S_ .f32 := constant S_ .f32 0x7F800000#32
  let main_v10 : FVec F S2x8448x128 .f32 := broadcastInDim S2x8448x128 ![] bcast_S_S2x8448x128 main_cst_2
  let main_v11 : IVec S2x8448x128 1 := cmpf .olt main_v9 main_v10
  let main_c_3 : IVec S_ 1 := constantI S_ 1 1#1
  let main_v12 : IVec S_ 1 := (fun x v => Host.reduce IntOp.andi x v reducesTo_S2x8448x128_S_d0_1_2 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Kernel.lean ====
abbrev S4x8192x128 : Shape := ⟨3, ![4, 8192, 128]⟩
abbrev S2x8448x128 : Shape := ⟨3, ![2, 8448, 128]⟩
abbrev S8192x512 : Shape := ⟨2, ![8192, 512]⟩
abbrev S_ : Shape := ⟨0, ![]⟩
abbrev S4x8192x1 : Shape := ⟨3, ![4, 8192, 1]⟩
abbrev S2x512x128 : Shape := ⟨3, ![2, 512, 128]⟩
abbrev S1x8448x128 : Shape := ⟨3, ![1, 8448, 128]⟩
abbrev S512x256 : Shape := ⟨2, ![512, 256]⟩
abbrev S2x512x1 : Shape := ⟨3, ![2, 512, 1]⟩
abbrev S1024x128 : Shape := ⟨2, ![1024, 128]⟩
abbrev S256x128 : Shape := ⟨2, ![256, 128]⟩
abbrev S8448x128 : Shape := ⟨2, ![8448, 128]⟩
abbrev S256x8448 : Shape := ⟨2, ![256, 8448]⟩
abbrev S256 : Shape := ⟨1, ![256]⟩
abbrev S256x1 : Shape := ⟨2, ![256, 1]⟩
abbrev S512x128 : Shape := ⟨2, ![512, 128]⟩
abbrev S1024x1 : Shape := ⟨2, ![1024, 1]⟩
abbrev S2x256x128 : Shape := ⟨3, ![2, 256, 128]⟩
abbrev S256x256 : Shape := ⟨2, ![256, 256]⟩
abbrev S2x256x1 : Shape := ⟨3, ![2, 256, 1]⟩
abbrev S512 : Shape := ⟨1, ![512]⟩
abbrev S512x1 : Shape := ⟨2, ![512, 1]⟩
abbrev S512x8448 : Shape := ⟨2, ![512, 8448]⟩

abbrev nBuf : Space → Nat
  | .hbm => 19
  | .vmem => 28
  | .smem => 0
  | _ => 0

abbrev bufTy : (tb : Table) → Fin (tcTables nBuf tb) → BufTy
  | .hbm, ⟨0, _⟩ => ⟨S4x8192x128, .f32⟩
  | .hbm, ⟨1, _⟩ => ⟨S2x8448x128, .f32⟩
  | .hbm, ⟨2, _⟩ => ⟨S2x8448x128, .f32⟩
  | .hbm, ⟨3, _⟩ => ⟨S8192x512, .f32⟩
  | .hbm, ⟨4, _⟩ => ⟨S_, .f32⟩
  | .hbm, ⟨5, _⟩ => ⟨S4x8192x128, .f32⟩
  | .hbm, ⟨6, _⟩ => ⟨S4x8192x128, .f32⟩
  | .hbm, ⟨7, _⟩ => ⟨S_, .f32⟩
  | .hbm, ⟨8, _⟩ => ⟨S_, .f32⟩
  | .hbm, ⟨9, _⟩ => ⟨S4x8192x128, .f32⟩
  | .hbm, ⟨10, _⟩ => ⟨S4x8192x128, .f32⟩
  | .hbm, ⟨11, _⟩ => ⟨S4x8192x128, .bf16⟩
  | .hbm, ⟨12, _⟩ => ⟨S2x8448x128, .bf16⟩
  | .hbm, ⟨13, _⟩ => ⟨S2x8448x128, .bf16⟩
  | .hbm, ⟨14, _⟩ => ⟨S8192x512, .f32⟩
  | .hbm, ⟨15, _⟩ => ⟨S4x8192x1, .f32⟩
  | .hbm, ⟨16, _⟩ => ⟨S4x8192x128, .f32⟩
  | .hbm, ⟨17, _⟩ => ⟨S2x8448x128, .f32⟩
  | .hbm, ⟨18, _⟩ => ⟨S2x8448x128, .f32⟩
  | .local _ .vmem, ⟨0, _⟩ => ⟨S2x512x128, .bf16⟩
  | .local _ .vmem, ⟨1, _⟩ => ⟨S2x512x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S512x256, .f32⟩
  | .local _ .vmem, ⟨7, _⟩ => ⟨S512x256, .f32⟩
  | .local _ .vmem, ⟨8, _⟩ => ⟨S2x512x1, .f32⟩
  | .local _ .vmem, ⟨9, _⟩ => ⟨S2x512x1, .f32⟩
  | .local _ .vmem, ⟨10, _⟩ => ⟨S2x256x128, .bf16⟩
  | .local _ .vmem, ⟨11, _⟩ => ⟨S2x256x128, .bf16⟩
  | .local _ .vmem, ⟨12, _⟩ => ⟨S1x8448x128, .bf16⟩
  | .local _ .vmem, ⟨13, _⟩ => ⟨S1x8448x128, .bf16⟩
  | .local _ .vmem, ⟨14, _⟩ => ⟨S1x8448x128, .bf16⟩
  | .local _ .vmem, ⟨15, _⟩ => ⟨S1x8448x128, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S2x256x1, .f32⟩
  | .local _ .vmem, ⟨21, _⟩ => ⟨S2x256x1, .f32⟩
  | .local _ .vmem, ⟨22, _⟩ => ⟨S2x256x128, .f32⟩
  | .local _ .vmem, ⟨23, _⟩ => ⟨S2x256x128, .f32⟩
  | .local _ .vmem, ⟨24, _⟩ => ⟨S1x8448x128, .f32⟩
  | .local _ .vmem, ⟨25, _⟩ => ⟨S1x8448x128, .f32⟩
  | .local _ .vmem, ⟨26, _⟩ => ⟨S1x8448x128, .f32⟩
  | .local _ .vmem, ⟨27, _⟩ => ⟨S1x8448x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8448x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8448x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x8448x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x8448x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S4x8192x128 : Shape := ⟨3, ![4, 8192, 128]⟩
abbrev S2x8448x128 : Shape := ⟨3, ![2, 8448, 128]⟩
abbrev S8192x512 : Shape := ⟨2, ![8192, 512]⟩
abbrev S8192x4x128 : Shape := ⟨3, ![8192, 4, 128]⟩
abbrev S1x8192x2x2x128 : Shape := ⟨5, ![1, 8192, 2, 2, 128]⟩
abbrev S8448x2x128 : Shape := ⟨3, ![8448, 2, 128]⟩
abbrev S1x8448x2x128 : Shape := ⟨4, ![1, 8448, 2, 128]⟩
abbrev S1x2x8448x8192x2 : Shape := ⟨5, ![1, 2, 8448, 8192, 2]⟩
abbrev S1x2x2x8192x8448 : Shape := ⟨5, ![1, 2, 2, 8192, 8448]⟩
abbrev S_ : Shape := ⟨0, ![]⟩
abbrev S1x2x2x8192 : Shape := ⟨4, ![1, 2, 2, 8192]⟩
abbrev S1x2x2x8192x1 : Shape := ⟨5, ![1, 2, 2, 8192, 1]⟩
abbrev S1x2x128x2x8192 : Shape := ⟨5, ![1, 2, 128, 2, 8192]⟩
abbrev S1x2x128x8448 : Shape := ⟨4, ![1, 2, 128, 8448]⟩
abbrev S2x2x8192 : Shape := ⟨3, ![2, 2, 8192]⟩
abbrev S1x2x8192x2x128 : Shape := ⟨5, ![1, 2, 8192, 2, 128]⟩
abbrev S1x2x8448x128 : Shape := ⟨4, ![1, 2, 8448, 128]⟩

abbrev nBuf : Space → Nat
  | .hbm => 92
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S2x8448x128, .f32⟩
  | .hbm, ⟨2, _⟩ => ⟨S2x8448x128, .f32⟩
  | .hbm, ⟨3, _⟩ => ⟨S8192x512, .f32⟩
  | .hbm, ⟨4, _⟩ => ⟨S8192x4x128, .f32⟩
  | .hbm, ⟨5, _⟩ => ⟨S1x8192x2x2x128, .f32⟩
  | .hbm, ⟨6, _⟩ => ⟨S8448x2x128, .f32⟩
  | .hbm, ⟨7, _⟩ => ⟨S1x8448x2x128, .f32⟩
  | .hbm, ⟨8, _⟩ => ⟨S8448x2x128, .f32⟩
  | .hbm, ⟨9, _⟩ => ⟨S1x8448x2x128, .f32⟩
  | .hbm, ⟨10, _⟩ => ⟨S1x2x8448x8192x2, .f32⟩
  | .hbm, ⟨11, _⟩ => ⟨S1x2x2x8192x8448, .f32⟩
  | .hbm, ⟨12, _⟩ => ⟨S_, .f32⟩
  | .hbm, ⟨13, _⟩ => ⟨S1x2x2x8192x8448, .f32⟩
  | .hbm, ⟨14, _⟩ => ⟨S1x2x2x8192x8448, .f32⟩
  | .hbm, ⟨15, _⟩ => ⟨S_, .f32⟩
  | .hbm, ⟨16, _⟩ => ⟨S1x2x2x8192, .f32⟩
  | .hbm, ⟨17, _⟩ => ⟨S1x2x2x8192x1, .f32⟩
  | .hbm, ⟨18, _⟩ => ⟨S1x2x2x8192x8448, .f32⟩
  | .hbm, ⟨19, _⟩ => ⟨S1x2x2x8192x8448, .i1⟩
  | .hbm, ⟨20, _⟩ => ⟨S1x2x2x8192x8448, .f32⟩
  | .hbm, ⟨21, _⟩ => ⟨S_, .f32⟩
  | .hbm, ⟨22, _⟩ => ⟨S1x2x2x8192, .f32⟩
  | .hbm, ⟨23, _⟩ => ⟨S_, .f32⟩
  | .hbm, ⟨24, _⟩ => ⟨S1x2x2x8192, .f32⟩
  | .hbm, ⟨25, _⟩ => ⟨S1x2x2x8192, .f32⟩
  | .hbm, ⟨26, _⟩ => ⟨S_, .f32⟩
  | .hbm, ⟨27, _⟩ => ⟨S1x2x2x8192, .f32⟩
  | .hbm, ⟨28, _⟩ => ⟨S1x2x2x8192, .i1⟩
  | .hbm, ⟨29, _⟩ => ⟨S_, .f32⟩
  | .hbm, ⟨30, _⟩ => ⟨S1x2x2x8192, .f32⟩
  | .hbm, ⟨31, _⟩ => ⟨S1x2x2x8192, .i1⟩
  | .hbm, ⟨32, _⟩ => ⟨S_, .f32⟩
  | .hbm, ⟨33, _⟩ => ⟨S1x2x2x8192, .f32⟩
  | .hbm, ⟨34, _⟩ => ⟨S_, .f32⟩
  | .hbm, ⟨35, _⟩ => ⟨S1x2x2x8192, .f32⟩
  | .hbm, ⟨36, _⟩ => ⟨S_, .f32⟩
  | .hbm, ⟨37, _⟩ => ⟨S1x2x2x8192, .f32⟩
  | .hbm, ⟨38, _⟩ => ⟨S1x2x2x8192, .f32⟩
  | .hbm, ⟨39, _⟩ => ⟨S1x2x2x8192, .f32⟩
  | .hbm, ⟨40, _⟩ => ⟨S1x2x2x8192x1, .f32⟩
  | .hbm, ⟨41, _⟩ => ⟨S1x2x2x8192x8448, .f32⟩
  | .hbm, ⟨42, _⟩ => ⟨S1x2x2x8192x8448, .f32⟩
  | .hbm, ⟨43, _⟩ => ⟨S1x2x2x8192x8448, .f32⟩
  | .hbm, ⟨44, _⟩ => ⟨S_, .f32⟩
  | .hbm, ⟨45, _⟩ => ⟨S1x2x2x8192, .f32⟩
  | .hbm, ⟨46, _⟩ => ⟨S1x2x2x8192x1, .f32⟩
  | .hbm, ⟨47, _⟩ => ⟨S1x2x2x8192x8448, .f32⟩
  | .hbm, ⟨48, _⟩ => ⟨S1x2x2x8192x8448, .f32⟩
  | .hbm, ⟨49, _⟩ => ⟨S1x2x2x8192x1, .f32⟩
  | .hbm, ⟨50, _⟩ => ⟨S_, .f32⟩
  | .hbm, ⟨51, _⟩ => ⟨S1x2x2x8192x1, .f32⟩
  | .hbm, ⟨52, _⟩ => ⟨S1x2x2x8192x1, .f32⟩
  | .hbm, ⟨53, _⟩ => ⟨S1x2x128x2x8192, .f32⟩
  | .hbm, ⟨54, _⟩ => ⟨S1x8192x2x2x128, .f32⟩
  | .hbm, ⟨55, _⟩ => ⟨S8192x512, .f32⟩
  | .hbm, ⟨56, _⟩ => ⟨S1x8192x2x2x128, .f32⟩
  | .hbm, ⟨57, _⟩ => ⟨S1x2x128x2x8192, .f32⟩
  | .hbm, ⟨58, _⟩ => ⟨S1x2x2x8192x8448, .f32⟩
  | .hbm, ⟨59, _⟩ => ⟨S1x2x128x8448, .f32⟩
  | .hbm, ⟨60, _⟩ => ⟨S1x8448x2x128, .f32⟩
  | .hbm, ⟨61, _⟩ => ⟨S1x2x2x8192x8448, .f32⟩
  | .hbm, ⟨62, _⟩ => ⟨S1x2x2x8192x8448, .f32⟩
  | .hbm, ⟨63, _⟩ => ⟨S1x2x2x8192x8448, .f32⟩
  | .hbm, ⟨64, _⟩ => ⟨S_, .f32⟩
  | .hbm, ⟨65, _⟩ => ⟨S1x2x2x8192, .f32⟩
  | .hbm, ⟨66, _⟩ => ⟨S1x2x2x8192x1, .f32⟩
  | .hbm, ⟨67, _⟩ => ⟨S1x2x2x8192x1, .f32⟩
  | .hbm, ⟨68, _⟩ => ⟨S1x2x2x8192x8448, .f32⟩
  | .hbm, ⟨69, _⟩ => ⟨S1x2x2x8192x8448, .f32⟩
  | .hbm, ⟨70, _⟩ => ⟨S_, .f32⟩
  | .hbm, ⟨71, _⟩ => ⟨S2x2x8192, .f32⟩
  | .hbm, ⟨72, _⟩ => ⟨S1x2x2x8192, .f32⟩
  | .hbm, ⟨73, _⟩ => ⟨S1x2x2x8192x8448, .f32⟩
  | .hbm, ⟨74, _⟩ => ⟨S1x2x2x8192x8448, .f32⟩
  | .hbm, ⟨75, _⟩ => ⟨S1x2x2x8192x8448, .f32⟩
  | .hbm, ⟨76, _⟩ => ⟨S_, .f32⟩
  | .hbm, ⟨77, _⟩ => ⟨S1x2x2x8192x8448, .f32⟩
  | .hbm, ⟨78, _⟩ => ⟨S1x2x2x8192x8448, .f32⟩
  | .hbm, ⟨79, _⟩ => ⟨S1x2x8448x8192x2, .f32⟩
  | .hbm, ⟨80, _⟩ => ⟨S1x2x8192x2x128, .f32⟩
  | .hbm, ⟨81, _⟩ => ⟨S1x8192x2x2x128, .f32⟩
  | .hbm, ⟨82, _⟩ => ⟨S1x2x8448x128, .f32⟩
  | .hbm, ⟨83, _⟩ => ⟨S1x8448x2x128, .f32⟩
  | .hbm, ⟨84, _⟩ => ⟨S_, .f32⟩
  | .hbm, ⟨85, _⟩ => ⟨S8448x2x128, .f32⟩
  | .hbm, ⟨86, _⟩ => ⟨S2x8448x128, .f32⟩
  | .hbm, ⟨87, _⟩ => ⟨S_, .f32⟩
  | .hbm, ⟨88, _⟩ => ⟨S8448x2x128, .f32⟩
  | .hbm, ⟨89, _⟩ => ⟨S2x8448x128, .f32⟩
  | .hbm, ⟨90, _⟩ => ⟨S8192x4x128, .f32⟩
  | .hbm, ⟨91, _⟩ => ⟨S4x8192x128, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S5632x1024 : Shape := ⟨2, ![5632, 1024]⟩
abbrev S256x2816 : Shape := ⟨2, ![256, 2816]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S5632x1024, .f32⟩
  | .hbm, ⟨11, _⟩ => ⟨S5632x1024, .bf16⟩
  | .hbm, ⟨12, _⟩ => ⟨S8192x2816, .bf16⟩
  | .hbm, ⟨13, _⟩ => ⟨S8192x2816, .bf16⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x5632, .f32⟩
  | .hbm, ⟨40, _⟩ => ⟨S8192x2816, .f32⟩
  | .hbm, ⟨41, _⟩ => ⟨S8192x2816, .f32⟩
  | .hbm, ⟨42, _⟩ => ⟨S8192x5632, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S5632x1024 : Shape := ⟨2, ![5632, 1024]⟩
abbrev S256x2816 : Shape := ⟨2, ![256, 2816]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S5632x1024, .f32⟩
  | .hbm, ⟨9, _⟩ => ⟨S5632x1024, .bf16⟩
  | .hbm, ⟨10, _⟩ => ⟨S8192x2816, .bf16⟩
  | .hbm, ⟨11, _⟩ => ⟨S8192x2816, .bf16⟩
  | .hbm, ⟨12, _⟩ => ⟨S8192x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S8192x1024 : Shape := ⟨2, ![8192, 1024]⟩
abbrev S1x1024 : Shape := ⟨2, ![1, 1024]⟩
abbrev S1024x5632 : Shape := ⟨2, ![1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x5632, .f32⟩
  | .hbm, ⟨35, _⟩ => ⟨S8192x2816, .f32⟩
  | .hbm, ⟨36, _⟩ => ⟨S8192x2816, .f32⟩
  | .hbm, ⟨37, _⟩ => ⟨S8192x5632, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S1024x5632 : Shape := ⟨2, ![1024, 5632]⟩
abbrev S3x2816 : Shape := ⟨2, ![3, 2816]⟩
abbrev S1x2816 : Shape := ⟨2, ![1, 2816]⟩
abbrev S8192x5632 : Shape := ⟨2, ![8192, 5632]⟩
abbrev S8192x2816 : Shape := ⟨2, ![8192, 2816]⟩
abbrev S256x1024 : Shape := ⟨2, ![256, 1024]⟩
abbrev S16x1024 : Shape := ⟨2, ![16, 1024]⟩
abbrev S256x5632 : Shape := ⟨2, ![256, 5632]⟩
abbrev S256x2816 : Shape := ⟨2, ![256, 2816]⟩
abbrev S288x1024 : Shape := ⟨2, ![288, 1024]⟩
abbrev S1024x256 : Shape := ⟨2, ![1024, 256]⟩
abbrev S288x256 : Shape := ⟨2, ![288, 256]⟩
abbrev S256x256 : Shape := ⟨2, ![256, 256]⟩
abbrev S1x256 : Shape := ⟨2, ![1, 256]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x2816, .f32⟩
  | .hbm, ⟨3, _⟩ => ⟨S1x2816, .f32⟩
  | .hbm, ⟨4, _⟩ => ⟨S8192x1024, .bf16⟩
  | .hbm, ⟨5, _⟩ => ⟨S1024x5632, .bf16⟩
  | .hbm, ⟨6, _⟩ => ⟨S8192x5632, .f32⟩
  | .hbm, ⟨7, _⟩ => ⟨S8192x2816, .f32⟩
  | .hbm, ⟨8, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x5632, .bf16⟩
  | .local _ .vmem, ⟨7, _⟩ => ⟨S3x2816, .f32⟩
  | .local _ .vmem, ⟨8, _⟩ => ⟨S1x2816, .f32⟩
  | .local _ .vmem, ⟨9, _⟩ => ⟨S256x5632, .f32⟩
  | .local _ .vmem, ⟨10, _⟩ => ⟨S256x5632, .f32⟩
  | .local _ .vmem, ⟨11, _⟩ => ⟨S256x2816, .f32⟩
  | .local _ .vmem, ⟨12, _⟩ => ⟨S256x2816, .f32⟩
  | .local _ .vmem, ⟨13, _⟩ => ⟨S256x2816, .bf16⟩
  | .local _ .vmem, ⟨14, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8192x1024 : Shape := ⟨2, ![8192, 1024]⟩
abbrev S1024x5632 : Shape := ⟨2, ![1024, 5632]⟩
abbrev S3x2816 : Shape := ⟨2, ![3, 2816]⟩
abbrev S1x2816 : Shape := ⟨2, ![1, 2816]⟩
abbrev S8192x5632 : Shape := ⟨2, ![8192, 5632]⟩
abbrev S8192x2816 : Shape := ⟨2, ![8192, 2816]⟩
abbrev S_ : Shape := ⟨0, ![]⟩
abbrev S8194x2816 : Shape := ⟨2, ![8194, 2816]⟩
abbrev S2816 : Shape := ⟨1, ![2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x2816, .f32⟩
  | .hbm, ⟨3, _⟩ => ⟨S1x2816, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S1x2816, .f32⟩
  | .hbm, ⟨9, _⟩ => ⟨S8194x2816, .f32⟩
  | .hbm, ⟨10, _⟩ => ⟨S8192x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S1x2816, .f32⟩
  | .hbm, ⟨21, _⟩ => ⟨S2816, .f32⟩
  | .hbm, ⟨22, _⟩ => ⟨S1x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel8.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S8192x1024, .bf16⟩
  | .hbm, ⟨9, _⟩ => ⟨S1x128, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S1024 : Shape := ⟨1, ![1024]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .bf16⟩
  | .hbm, ⟨39, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S512x512 : Shape := ⟨2, ![512, 512]⟩
abbrev S512x1024 : Shape := ⟨2, ![512, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x512, .bf16⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x2560 : Shape := ⟨2, ![1024, 2560]⟩
abbrev S8192x1536 : Shape := ⟨2, ![8192, 1536]⟩
abbrev S2560x1024 : Shape := ⟨2, ![2560, 1024]⟩
abbrev S512x1024 : Shape := ⟨2, ![512, 1024]⟩
abbrev S512x1536 : Shape := ⟨2, ![512, 1536]⟩
abbrev S256x1024 : Shape := ⟨2, ![256, 1024]⟩
abbrev S1024x1024 : Shape := ⟨2, ![1024, 1024]⟩
abbrev S256x1536 : Shape := ⟨2, ![256, 1536]⟩
abbrev S1536x1024 : Shape := ⟨2, ![1536, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2560, .f32⟩
  | .hbm, ⟨5, _⟩ => ⟨S8192x1024, .f32⟩
  | .hbm, ⟨6, _⟩ => ⟨S8192x1024, .f32⟩
  | .hbm, ⟨7, _⟩ => ⟨S8192x1536, .f32⟩
  | .hbm, ⟨8, _⟩ => ⟨S8192x1024, .bf16⟩
  | .hbm, ⟨9, _⟩ => ⟨S8192x1536, .bf16⟩
  | .hbm, ⟨10, _⟩ => ⟨S2560x1024, .f32⟩
  | .hbm, ⟨11, _⟩ => ⟨S2560x1024, .bf16⟩
  | .hbm, ⟨12, _⟩ => ⟨S8192x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S2560x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference11Ideal.lean ====
abbrev S8192x1024 : Shape := ⟨2, ![8192, 1024]⟩
abbrev S1x1024 : Shape := ⟨2, ![1, 1024]⟩
abbrev S1024x2560 : Shape := ⟨2, ![1024, 2560]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2560, .f32⟩
  | .hbm, ⟨5, _⟩ => ⟨S8192x1024, .f32⟩
  | .hbm, ⟨6, _⟩ => ⟨S8192x1024, .f32⟩
  | .hbm, ⟨7, _⟩ => ⟨S8192x1536, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x2560, .f32⟩
  | .hbm, ⟨35, _⟩ => ⟨S8192x1024, .f32⟩
  | .hbm, ⟨36, _⟩ => ⟨S8192x1536, .f32⟩
  | .hbm, ⟨37, _⟩ => ⟨S8192x2560, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel12.lean ====
abbrev S8192x1536 : Shape := ⟨2, ![8192, 1536]⟩
abbrev S8192x1024 : Shape := ⟨2, ![8192, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S8192x1536, .bf16⟩
  | .hbm, ⟨3, _⟩ => ⟨S8192x1024, .bf16⟩
  | .hbm, ⟨4, _⟩ => ⟨S1536x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference12Ideal.lean ====
abbrev S8192x1536 : Shape := ⟨2, ![8192, 1536]⟩
abbrev S8192x1024 : Shape := ⟨2, ![8192, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | .hbm, ⟨7, _⟩ => ⟨S1536x1024, .f32⟩
  | .hbm, ⟨8, _⟩ => ⟨S1536x1024, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .bf16⟩
  | .hbm, ⟨3, _⟩ => ⟨S512x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference13Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference14Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Run.lean ====
/-
  WHERE THE KERNEL'S RUN ENDS: every fair run terminates with the four result arrays, and the arguments, at the contents
  that the fold through the program gives them (`Gen.W3`). The launch set-up is the frame certificate's; what is read from
  the final state is more than the frame reads.
-/
module

public import proofs.«01_k».proof.Proof.Gen.KernelIdeal.Frame

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair run of the kernel from `m` ends, and in its last state each buffer of a core outside the regions' scopes
    holds what the fold `Gen.W3` says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The same, read at the four results and the four arguments: the attention's output from the first call's array, the three
    gradients from the second's, the arguments as launched. -/
theorem run_results : θ_run defs (onTc (τ := τ) (main (F := F))) ⟨m, fun _ => 0, ρ⟩ (fun r => ∀ c : Dev nD,
      r.2.mem ((c.tc : Thread nD τ).loc main_v8_0) = (dat0 (V1 m ρ) c).arrAt 3 cfg0.N
      ∧ r.2.mem ((c.tc : Thread nD τ).loc main_v9_0) = (dat1 (V2 m ρ) c).arrAt 6 cfg1.N
      ∧ r.2.mem ((c.tc : Thread nD τ).loc main_v9_1) = (dat1 (V2 m ρ) c).arrAt 7 cfg1.N
      ∧ r.2.mem ((c.tc : Thread nD τ).loc main_v9_2) = (dat1 (V2 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v8_0 (by decide))).trans ((W3_of m ρ c main_v8_0 (by decide)).trans (W2_arr m ρ c 3)),
     (h c _ (mem_uc main_v9_0 (by decide))).trans (W3_arr m ρ c 6),
     (h c _ (mem_uc main_v9_1 (by decide))).trans (W3_arr m ρ c 7),
     (h c _ (mem_uc main_v9_2 (by decide))).trans (W3_arr m ρ c 8),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.KernelIdeal.Attn

end
-- ==== Proof.Math.lean ====
/-
  THE MATHEMATICS of the attention and of its gradients, over the real numbers, and the two forms in which the programs
  compute it: the kernel's (base-2 exponentials, the row's logarithm kept for the backward call) and the reference's
  (a shifted exponential divided by its sum, and that quotient's derivative). Nothing here mentions a program.
-/
module

public import Idealize.ShloMosaic.PureOps.Ideal

@[expose] public section

noncomputable section

namespace Cert.Attn

open Idealize.ShloMosaic

/-! ## Real numbers among the extended reals -/

/-- A finite sum of reals is the same sum taken among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of finitely many reals, at least one of them, taken from `-∞` up, is a real. -/
theorem fold_max_coe {ι : Type*} (s : Finset ι) (hs : s.Nonempty) (f : ι → ℝ) :
    ∃ m : ℝ, s.fold max (⊥ : EReal) (fun t => ((f t : ℝ) : EReal)) = (m : EReal) := by
  classical
  have key : ∀ s : Finset ι, s = ∅ ∨ ∃ m : ℝ, s.fold max (⊥ : EReal) (fun t => ((f t : ℝ) : EReal)) = (m : EReal) := by
    intro s
    induction s using Finset.induction_on with
    | empty => exact .inl rfl
    | insert a s ha ih =>
      right
      rw [Finset.fold_insert ha]
      rcases ih with rfl | ⟨m, hm⟩
      · exact ⟨f a, by simp⟩
      · exact ⟨max (f a) m, by rw [hm]; exact (EReal.coe_strictMono.monotone.map_max).symm⟩
  rcases key s with h | h
  · exact absurd h hs.ne_empty
  · exact h

theorem coe_div {x y : ℝ} (hy : y ≠ 0) : Ideal.div (x : EReal) (y : EReal) = ((x / y : ℝ) : EReal) := by
  rw [Ideal.div_coe hy, ← EReal.coe_mul, mul_one_div]

/-- The base-2 exponential of a real is the natural one at the rescaled argument. -/
theorem exp2_coe' (r : ℝ) : Ideal.exp2 (r : EReal) = ((Real.exp (r * Real.log 2) : ℝ) : EReal) := by
  rw [Ideal.exp2_coe]
  exact congrArg _ ((Real.rpow_def_of_pos two_pos r).trans (by rw [mul_comm]))

theorem log_coe_pos {r : ℝ} (hr : 0 < r) : Ideal.log (r : EReal) = ((Real.log r : ℝ) : EReal) := by
  rw [Ideal.log_coe, if_neg (not_le.mpr hr)]

theorem log2_ne : Real.log 2 ≠ 0 := (Real.log_pos one_lt_two).ne'

/-! ## One row of scores -/

section Row
variable {T : Type*} [Fintype T] [Nonempty T]

theorem den_pos (a : T → ℝ) : 0 < ∑ t, Real.exp (a t) :=
  Finset.sum_pos (fun _ _ => Real.exp_pos _) Finset.univ_nonempty

/-- Subtracting `m` from every score divides the sum of exponentials by `exp m`. -/
theorem sum_exp_sub (a : T → ℝ) (m : ℝ) : ∑ t, Real.exp (a t - m) = (∑ t, Real.exp (a t)) / Real.exp m := by
  rw [Finset.sum_div]; exact Finset.sum_congr rfl fun t _ => Real.exp_sub _ _

/-- The shifted weights are the unshifted ones. -/
theorem shifted_weight (a : T → ℝ) (m : ℝ) (t : T) :
    Real.exp (a t - m) / ∑ u, Real.exp (a u - m) = Real.exp (a t) / ∑ u, Real.exp (a u) := by
  rw [sum_exp_sub, Real.exp_sub, div_div_div_cancel_right₀ (Real.exp_pos m).ne']

/-- THE FORWARD ROW as the kernel computes it: with the base-2 scores `s`, the weighted mean of `w` under the softmax of the
    natural scores `s * log 2`, whatever the row's maximum was. -/
theorem row_mean (s w : T → ℝ) :
    Ideal.div (∑ t, Ideal.exp2 ((s t : EReal) - Finset.univ.fold max ⊥ (fun u => (s u : EReal))) * (w t : EReal))
        (∑ t, Ideal.exp2 ((s t : EReal) - Finset.univ.fold max ⊥ (fun u => (s u : EReal))))
      = ((∑ t, Real.exp (s t * Real.log 2) / (∑ u, Real.exp (s u * Real.log 2)) * w t : ℝ) : EReal) := by
  obtain ⟨m, hm⟩ := fold_max_coe Finset.univ Finset.univ_nonempty s
  rw [hm]
  simp only [← EReal.coe_sub, exp2_coe', ← EReal.coe_mul, coe_sum, sub_mul]
  rw [coe_div (den_pos _).ne', Finset.sum_div]
  congr 1
  refine Finset.sum_congr rfl fun t _ => ?_
  rw [← shifted_weight (fun t => s t * Real.log 2) (m * Real.log 2) t]
  ring

/-- THE ROW'S LOGARITHM as the kernel keeps it: the base-2 logarithm of the sum of the exponentials. -/
theorem row_log (s : T → ℝ) :
    Finset.univ.fold max ⊥ (fun u => (s u : EReal))
        + Ideal.log (∑ t, Ideal.exp2 ((s t : EReal) - Finset.univ.fold max ⊥ (fun u => (s u : EReal)))) * (((Real.log 2)⁻¹ : ℝ) : EReal)
      = ((Real.log (∑ u, Real.exp (s u * Real.log 2)) / Real.log 2 : ℝ) : EReal) := by
  obtain ⟨m, hm⟩ := fold_max_coe Finset.univ Finset.univ_nonempty s
  rw [hm]
  simp only [← EReal.coe_sub, exp2_coe', coe_sum, sub_mul]
  rw [log_coe_pos (den_pos _), ← EReal.coe_mul, ← EReal.coe_add]
  congr 1
  rw [sum_exp_sub (fun u => s u * Real.log 2), Real.log_div (den_pos _).ne' (Real.exp_pos _).ne', Real.log_exp]
  field_simp [log2_ne]
  ring_nf

/-- What the backward call makes of that logarithm: the row's weight again. -/
theorem weight_of_log (s : T → ℝ) (t : T) :
    Ideal.exp2 ((s t : EReal) - ((Real.log (∑ u, Real.exp (s u * Real.log 2)) / Real.log 2 : ℝ) : EReal))
      = ((Real.exp (s t * Real.log 2) / ∑ u, Real.exp (s u * Real.log 2) : ℝ) : EReal) := by
  rw [← EReal.coe_sub, exp2_coe', sub_mul, div_mul_cancel₀ _ log2_ne, Real.exp_sub, Real.exp_log (den_pos _)]

/-- THE DERIVATIVE of the quotient, as the reference writes it, is the softmax's: weight times the excess of `g` over its mean. -/
theorem quotient_grad (a g : T → ℝ) (m : ℝ) (t : T) :
    (g t / (∑ u, Real.exp (a u - m))
        + -(∑ u, g u * (1 / ((∑ w, Real.exp (a w - m)) * (∑ w, Real.exp (a w - m)))) * Real.exp (a u - m))) * Real.exp (a t - m)
      = Real.exp (a t) / (∑ u, Real.exp (a u)) * (g t - ∑ u, Real.exp (a u) / (∑ w, Real.exp (a w)) * g u) := by
  have hL := (den_pos fun u => a u - m).ne'
  rw [← shifted_weight a m t]
  simp only [← shifted_weight a m]
  have h1 : ∑ u, g u * (1 / ((∑ w, Real.exp (a w - m)) * (∑ w, Real.exp (a w - m)))) * Real.exp (a u - m)
      = (∑ u, Real.exp (a u - m) / (∑ w, Real.exp (a w - m)) * g u) / ∑ w, Real.exp (a w - m) := by
    rw [Finset.sum_div]
    exact Finset.sum_congr rfl fun u _ => by field_simp
  rw [h1]
  field_simp
  ring

end Row

/-! ## The attention and its gradients -/

/-- The key and value head that serves query head `h`. -/
def grp (h : Fin 4) : Fin 2 := ⟨h.val / 2, by omega⟩
/-- The `r`-th query head of key head `g`. -/
def hd (g r : Fin 2) : Fin 4 := ⟨2 * g.val + r.val, by omega⟩
/-- Where channel `d` of head `h` lies in a token's row of the output. -/
def col (h : Fin 4) (d : Fin 128) : Fin 512 := ⟨128 * h.val + d.val, by omega⟩

theorem grp_hd (g r : Fin 2) : grp (hd g r) = g := Fin.ext (by show (2 * g.val + r.val) / 2 = g.val; omega)

/-- The scale of the scores, the number that the binary32 word nearest to `1 / sqrt 128` stands for. -/
def sc : ℝ := 11863283 / 134217728

section Arrays
variable (q : Fin 4 → Fin 8192 → Fin 128 → ℝ) (k v : Fin 2 → Fin 8448 → Fin 128 → ℝ) (ct : Fin 8192 → Fin 512 → ℝ)

/-- The score of key `t` for query `n` of head `h`. -/
def score (h : Fin 4) (n : Fin 8192) (t : Fin 8448) : ℝ := (∑ d, k (grp h) t d * q h n d) * sc
/-- Its weight in the softmax over the keys. -/
def prob (h : Fin 4) (n : Fin 8192) (t : Fin 8448) : ℝ := Real.exp (score q k h n t) / ∑ u, Real.exp (score q k h n u)
/-- The attention's output. -/
def att (h : Fin 4) (n : Fin 8192) (d : Fin 128) : ℝ := ∑ t, prob q k h n t * v (grp h) t d
/-- The gradient that reaches a weight. -/
def dprob (h : Fin 4) (n : Fin 8192) (t : Fin 8448) : ℝ := ∑ d, ct n (col h d) * v (grp h) t d
/-- A row's inner product of the output and its gradient. -/
def delta (h : Fin 4) (n : Fin 8192) : ℝ := ∑ d, ct n (col h d) * att q k v h n d
/-- The gradient that reaches a score. -/
def dscore (h : Fin 4) (n : Fin 8192) (t : Fin 8448) : ℝ := prob q k h n t * (dprob v ct h n t - delta q k v ct h n)
/-- The gradient of the queries. -/
def gradQ (h : Fin 4) (n : Fin 8192) (d : Fin 128) : ℝ := (∑ t, dscore q k v ct h n t * k (grp h) t d) * sc
/-- The gradient of the keys: over every query of both heads that the key serves. -/
def gradK (g : Fin 2) (t : Fin 8448) (d : Fin 128) : ℝ := ∑ n, ∑ r, dscore q k v ct (hd g r) n t * (q (hd g r) n d * sc)
/-- The gradient of the values. -/
def gradV (g : Fin 2) (t : Fin 8448) (d : Fin 128) : ℝ := ∑ n, ∑ r, prob q k (hd g r) n t * ct n (col (hd g r) d)

/-- A row's inner product of output and gradient is the mean, under the row's weights, of the gradient that reaches them. -/
theorem delta_eq (h : Fin 4) (n : Fin 8192) : delta q k v ct h n = ∑ t, prob q k h n t * dprob v ct h n t := by
  unfold delta att dprob
  simp only [Finset.mul_sum]
  rw [Finset.sum_comm]
  exact Finset.sum_congr rfl fun t _ => Finset.sum_congr rfl fun d _ => by ring

end Arrays

/-! ## The constants -/

theorem ofBits_sc : Ideal.ofBits .f32 0x3DB504F3#32 = (sc : EReal) := by
  unfold sc; simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_one : Ideal.ofBits .f32 0x3F800000#32 = ((1 : ℝ) : EReal) := by
  simp [Ideal.ofBits, Ideal.ieee]; rw [← EReal.coe_mul]; norm_num

theorem ofBits_ninf : Ideal.ofBits .f32 0xFF800000#32 = ⊥ := by
  simp [Ideal.ofBits, Ideal.ieee]

theorem ofBits_inf : Ideal.ofBits .f32 0x7F800000#32 = ⊤ := by
  simp [Ideal.ofBits, Ideal.ieee]

end Cert.Attn

end
-- ==== Proof.Finite.lean ====
/-
  THE PRECONDITION, read: no entry of the four arguments is an infinity, so each is a real number.
-/
module

public import proofs.«01_k».proof.Pre_finite_arguments
public import Idealize.ShloMosaic.Lib.ReduceAll
public import Idealize.ShloMosaic.Lib.Affine
public import proofs.«01_k».proof.Proof.Math

@[expose] public section

noncomputable section

namespace Cert.Pre_finite_arguments

open Idealize.ShloMosaic

/-- The relations that the predicate's operations take hold. -/
instance facts : Facts where
  bcast_S_S4x8192x128 := by decide
  reducesTo_S4x8192x128_S_d0_1_2 := by decide
  h_S_ := by decide
  bcast_S_S2x8448x128 := by decide
  reducesTo_S2x8448x128_S_d0_1_2 := by decide
  bcast_S_S8192x512 := by decide
  reducesTo_S8192x512_S_d0_1 := by decide

/-- An extended real whose absolute value is less than `∞` is a real. -/
theorem real_of_lt {x : EReal} (h : FloatOps.cmpf (F := Ideal) (φ := .f32) .olt (FloatOps.absf (F := Ideal) (φ := .f32) x) (FloatOps.ofBits .f32 0x7F800000#32) = 1#1) :
    ∃ r : ℝ, x = (r : EReal) := by
  have h' : max x (-x) < ⊤ := by
    rw [← Cert.Attn.ofBits_inf]
    by_contra hn
    have h1 : BitVec.ofBool (decide (max x (-x) < Ideal.ofBits .f32 0x7F800000#32)) = 1#1 := h
    rw [decide_eq_false hn] at h1
    exact absurd h1 (by decide)
  refine ⟨x.toReal, (EReal.coe_toReal ?_ ?_).symm⟩
  · rintro rfl; simp at h'
  · rintro rfl; simp at h'

variable (a0 : FVec Ideal S4x8192x128 .f32) (a1 a2 : FVec Ideal S2x8448x128 .f32) (a3 : FVec Ideal S8192x512 .f32)

/-- The predicate's value 1 says that every entry of every argument is a real. -/
theorem reals (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ ∀ i, ∃ r : ℝ, a3 i = (r : EReal) := by
  haveI : Subsingleton S_.Idx := ⟨fun a b => funext fun d => d.elim0⟩
  have e := congrFun h (fun d => d.elim0)
  unfold fn fn_part1 at e
  dsimp only [andi] at e
  obtain ⟨e, e3⟩ := IntOp.andi_eq_one.1 e
  obtain ⟨e, e2⟩ := IntOp.andi_eq_one.1 e
  obtain ⟨e0, e1⟩ := IntOp.andi_eq_one.1 e
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i)⟩

end Cert.Pre_finite_arguments

end
-- ==== Proof.FwdBlock.lean ====
/-
  WHAT ONE BLOCK OF THE FORWARD CALL COMPUTES: its rows' scores, the output of each row and the row's logarithm.
-/
module

public import proofs.«01_k».proof.Proof.Gen.KernelIdeal.Frame
public import proofs.«01_k».proof.Proof.Math
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

variable (x0 : Vec Ideal S2x512x128 .bf16) (x1 x2 : Vec Ideal S1x8448x128 .bf16)

/-- The base-2 score of key `t` for row `R` of the block's two heads of 512 rows. -/
def rowS (R : Fin 1024) (t : Fin 8448) : EReal := ∑ d : Fin 128, x0 (ix3 ⟨R.val / 512, by omega⟩ ⟨R.val % 512, by omega⟩ d) * x1 (ix3 0 t d)

/-- The row's greatest score. -/
def rowM (R : Fin 1024) : EReal := Finset.univ.fold max ⊥ fun t => rowS x0 x1 R t

/-- The row's output in channel `d`. -/
def rowO (R : Fin 1024) (d : Fin 128) : EReal :=
  Ideal.div (∑ t, Ideal.exp2 (rowS x0 x1 R t - rowM x0 x1 R) * x2 (ix3 0 t d)) (∑ t, Ideal.exp2 (rowS x0 x1 R t - rowM x0 x1 R))

/-- The row's base-2 logarithm of the sum of its exponentials. -/
def rowL (R : Fin 1024) : EReal :=
  rowM x0 x1 R + Ideal.log (∑ t, Ideal.exp2 (rowS x0 x1 R t - rowM x0 x1 R)) * (((Real.log 2)⁻¹ : ℝ) : EReal)

/-- The kernel's base-2 exponential is the extended reals'. -/
theorem floatOps_exp2 (x : EReal) : FloatOps.exp2 (F := Ideal) (φ := .f32) x = Ideal.exp2 x := rfl

/-- The kernel's named factor is `1 / log 2`. -/
theorem log2e_value : (Named.named (F := Ideal) (φ := .f32) κ "log2e" 0x3FB8AA3B#32 : EReal) = (((Real.log 2)⁻¹ : ℝ) : EReal) :=
  IdealRules.named_const.ideal_named_scalar _ _ _ _ rfl

/-- The row's logarithm from its maximum and its sum. -/
theorem lse_at (A B : FVec Ideal S256x1 .f32) (j : S256x1.Idx) :
    addf A (mulf (log B) (broadcast S256x1 (Named.named (F := Ideal) (φ := .f32) κ "log2e" 0x3FB8AA3B#32))) j
      = A j + Ideal.log (B j) * (((Real.log 2)⁻¹ : ℝ) : EReal) :=
  congrArg (fun e : EReal => A j + Ideal.log (B j) * e) log2e_value

/-! ## The four sub-blocks of 256 rows -/

/-- Scores of the sub-block from row 0. -/
theorem pay7_at (r : Fin 256) (t : Fin 8448) : k0_pay7 x0 x1 (ix2 r t) = rowS x0 x1 ⟨r.val, by omega⟩ t := by
  pointwise [k0_pay7, k0_pay6]
  simp only [rowS]

/-- Their maxima. -/
theorem pay8_at (r : Fin 256) : k0_pay8 x0 x1 (ix2 r 0) = rowM x0 x1 ⟨r.val, by omega⟩ := by
  pointwise [k0_pay8]
  simp only [pay7_at, Attn.ofBits_ninf]
  simp only [rowM]

/-- Their exponentials. -/
theorem pay9_at (r : Fin 256) (t : Fin 8448) : k0_pay9 x0 x1 (ix2 r t) = Ideal.exp2 (rowS x0 x1 ⟨r.val, by omega⟩ t - rowM x0 x1 ⟨r.val, by omega⟩) := by
  pointwise [k0_pay9]
  rw [pay7_at, pay8_at, floatOps_exp2]

/-- The sums of the exponentials. -/
theorem pay10_at (r : Fin 256) : k0_pay10 x0 x1 (ix2 r 0) = ∑ t, Ideal.exp2 (rowS x0 x1 ⟨r.val, by omega⟩ t - rowM x0 x1 ⟨r.val, by omega⟩) := by
  pointwise [k0_pay10]
  simp only [pay9_at]

/-- Scores of the sub-block from row 256. -/
theorem pay13_at (r : Fin 256) (t : Fin 8448) : k0_pay13 x0 x1 (ix2 r t) = rowS x0 x1 ⟨256 + r.val, by omega⟩ t := by
  pointwise [k0_pay13, k0_pay6]
  simp only [rowS]

/-- Their maxima. -/
theorem pay14_at (r : Fin 256) : k0_pay14 x0 x1 (ix2 r 0) = rowM x0 x1 ⟨256 + r.val, by omega⟩ := by
  pointwise [k0_pay14]
  simp only [pay13_at, Attn.ofBits_ninf]
  simp only [rowM]

/-- Their exponentials. -/
theorem pay15_at (r : Fin 256) (t : Fin 8448) : k0_pay15 x0 x1 (ix2 r t) = Ideal.exp2 (rowS x0 x1 ⟨256 + r.val, by omega⟩ t - rowM x0 x1 ⟨256 + r.val, by omega⟩) := by
  pointwise [k0_pay15]
  rw [pay13_at, pay14_at, floatOps_exp2]

/-- The sums of the exponentials. -/
theorem pay16_at (r : Fin 256) : k0_pay16 x0 x1 (ix2 r 0) = ∑ t, Ideal.exp2 (rowS x0 x1 ⟨256 + r.val, by omega⟩ t - rowM x0 x1 ⟨256 + r.val, by omega⟩) := by
  pointwise [k0_pay16]
  simp only [pay15_at]

/-- Scores of the sub-block from row 512. -/
theorem pay20_at (r : Fin 256) (t : Fin 8448) : k0_pay20 (k0_pay6 x0) x1 (ix2 r t) = rowS x0 x1 ⟨512 + r.val, by omega⟩ t := by
  pointwise [k0_pay20, k0_pay6]
  simp only [rowS]

/-- Their maxima. -/
theorem pay21_at (r : Fin 256) : k0_pay21 (k0_pay6 x0) x1 (ix2 r 0) = rowM x0 x1 ⟨512 + r.val, by omega⟩ := by
  pointwise [k0_pay21]
  simp only [pay20_at, Attn.ofBits_ninf]
  simp only [rowM]

/-- Their exponentials. -/
theorem pay22_at (r : Fin 256) (t : Fin 8448) : k0_pay22 (k0_pay6 x0) x1 (ix2 r t) = Ideal.exp2 (rowS x0 x1 ⟨512 + r.val, by omega⟩ t - rowM x0 x1 ⟨512 + r.val, by omega⟩) := by
  pointwise [k0_pay22]
  rw [pay20_at, pay21_at, floatOps_exp2]

/-- The sums of the exponentials. -/
theorem pay23_at (r : Fin 256) : k0_pay23 (k0_pay6 x0) x1 (ix2 r 0) = ∑ t, Ideal.exp2 (rowS x0 x1 ⟨512 + r.val, by omega⟩ t - rowM x0 x1 ⟨512 + r.val, by omega⟩) := by
  pointwise [k0_pay23]
  simp only [pay22_at]

/-- Scores of the sub-block from row 768. -/
theorem pay26_at (r : Fin 256) (t : Fin 8448) : k0_pay26 (k0_pay6 x0) x1 (ix2 r t) = rowS x0 x1 ⟨768 + r.val, by omega⟩ t := by
  pointwise [k0_pay26, k0_pay6]
  simp only [rowS]

/-- Their maxima. -/
theorem pay27_at (r : Fin 256) : k0_pay27 (k0_pay6 x0) x1 (ix2 r 0) = rowM x0 x1 ⟨768 + r.val, by omega⟩ := by
  pointwise [k0_pay27]
  simp only [pay26_at, Attn.ofBits_ninf]
  simp only [rowM]

/-- Their exponentials. -/
theorem pay28_at (r : Fin 256) (t : Fin 8448) : k0_pay28 (k0_pay6 x0) x1 (ix2 r t) = Ideal.exp2 (rowS x0 x1 ⟨768 + r.val, by omega⟩ t - rowM x0 x1 ⟨768 + r.val, by omega⟩) := by
  pointwise [k0_pay28]
  rw [pay26_at, pay27_at, floatOps_exp2]

/-- The sums of the exponentials. -/
theorem pay29_at (r : Fin 256) : k0_pay29 (k0_pay6 x0) x1 (ix1 r) = ∑ t, Ideal.exp2 (rowS x0 x1 ⟨768 + r.val, by omega⟩ t - rowM x0 x1 ⟨768 + r.val, by omega⟩) := by
  pointwise [k0_pay29]
  simp only [pay28_at]

/-- The output's rows from row 0. -/
theorem pay11_at (r : Fin 256) (d : Fin 128) : k0_pay11 x0 x1 x2 (ix2 r d) = rowO x0 x1 x2 ⟨r.val, by omega⟩ d := by
  pointwise [k0_pay11]
  simp only [pay9_at, pay10_at]
  simp only [rowO]

/-- The output's rows from row 256. -/
theorem pay33_at (r : Fin 256) (d : Fin 128) : k0_pay18 (k0_pay16 x0 x1) (k0_pay17 x0 x1) x2 (ix2 r d) = rowO x0 x1 x2 ⟨256 + r.val, by omega⟩ d := by
  pointwise [k0_pay18, k0_pay17]
  simp only [pay15_at, pay16_at]
  simp only [rowO]

/-- The output's rows from row 512. -/
theorem pay24_at (r : Fin 256) (d : Fin 128) : k0_pay24 (k0_pay6 x0) x1 x2 (ix2 r d) = rowO x0 x1 x2 ⟨512 + r.val, by omega⟩ d := by
  pointwise [k0_pay24]
  simp only [pay22_at, pay23_at]
  simp only [rowO]

/-- The logarithms of the rows from row 0. -/
theorem pay12_at (r : Fin 256) : k0_pay12 x0 x1 (ix2 r 0) = rowL x0 x1 ⟨r.val, by omega⟩ := by
  unfold k0_pay12
  exact (lse_at _ _ _).trans (by rw [pay8_at, pay10_at, rowL])

/-- The logarithms of the rows from row 256. -/
theorem pay19_at (r : Fin 256) : k0_pay19 (k0_pay14 x0 x1) (k0_pay16 x0 x1) (ix2 r 0) = rowL x0 x1 ⟨256 + r.val, by omega⟩ := by
  unfold k0_pay19
  exact (lse_at _ _ _).trans (by rw [pay14_at, pay16_at, rowL])

/-- The logarithms of the rows from row 512. -/
theorem pay25_at (r : Fin 256) : k0_pay25 (k0_pay6 x0) x1 (ix2 r 0) = rowL x0 x1 ⟨512 + r.val, by omega⟩ := by
  unfold k0_pay25
  exact (lse_at _ _ _).trans (by rw [pay21_at, pay23_at, rowL])

end Cert.KernelIdeal.Attn

end
-- ==== Proof.FwdOut.lean ====
/-
  WHAT ONE POINT OF THE FORWARD CALL LEAVES in its two output blocks: the rows' outputs, the two heads side by side, and the
  rows' logarithms.
-/
module

public import proofs.«01_k».proof.Proof.FwdBlock
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen

variable (x0 : Vec Ideal S2x512x128 .bf16) (x1 x2 : Vec Ideal S1x8448x128 .bf16)

/-- The outputs from their four parts, the last of which is divided by its sums in the concatenation itself. -/
theorem pay2_parts (v19 v40 v61 : FVec Ideal S256x128 .f32) (v74 : FVec Ideal S256x8448 .f32) (v75 : FVec Ideal S256 .f32)
    (R : Fin 1024) (d : Fin 128) :
    k0_pay2 v19 v40 v61 v74 v75 x2 (ix2 R d)
      = if h1 : R.val < 256 then v19 (ix2 ⟨R.val, h1⟩ d)
        else if h2 : R.val - 256 < 256 then v40 (ix2 ⟨R.val - 256, h2⟩ d)
        else if h3 : R.val - 256 - 256 < 256 then v61 (ix2 ⟨R.val - 256 - 256, h3⟩ d)
        else Ideal.div (∑ t, v74 (ix2 ⟨R.val - 256 - 256 - 256, by omega⟩ t) * x2 (ix3 0 t d))
          (v75 (ix1 ⟨R.val - 256 - 256 - 256, by omega⟩)) := by
  pointwise [k0_pay2, k0_pay1]

/-- All rows' outputs. -/
theorem pay2_at (R : Fin 1024) (d : Fin 128) :
    k0_pay2 (k0_pay11 x0 x1 x2) (k0_pay18 (k0_pay16 x0 x1) (k0_pay17 x0 x1) x2) (k0_pay24 (k0_pay6 x0) x1 x2)
      (k0_pay28 (k0_pay6 x0) x1) (k0_pay29 (k0_pay6 x0) x1) x2 (ix2 R d) = rowO x0 x1 x2 R d := by
  rw [pay2_parts]
  split_ifs with h1 h2 h3
  · rw [pay11_at]
  · rw [pay33_at]
    exact congrArg (fun R => rowO x0 x1 x2 R d) (Fin.ext (by dsimp only; omega))
  · rw [pay24_at]
    exact congrArg (fun R => rowO x0 x1 x2 R d) (Fin.ext (by dsimp only; omega))
  · simp only [pay28_at, pay29_at]
    rw [← rowO]
    exact congrArg (fun R => rowO x0 x1 x2 R d) (Fin.ext (by dsimp only; omega))

/-- The column of logarithms from its four parts. -/
theorem pay5_parts (v23 v44 v65 v71 : FVec Ideal S256x1 .f32) (v75 : FVec Ideal S256 .f32) (h : Fin 2) (r : Fin 512) :
    k0_pay5 v23 v44 v65 v71 v75 (ix3 h r 0)
      = if h1 : h.val * 512 + r.val < 256 then v23 (ix2 ⟨h.val * 512 + r.val, h1⟩ 0)
        else if h2 : h.val * 512 + r.val - 256 < 256 then v44 (ix2 ⟨h.val * 512 + r.val - 256, h2⟩ 0)
        else if h3 : h.val * 512 + r.val - 256 - 256 < 256 then v65 (ix2 ⟨h.val * 512 + r.val - 256 - 256, h3⟩ 0)
        else v71 (ix2 ⟨h.val * 512 + r.val - 256 - 256 - 256, by omega⟩ 0)
          + Ideal.log (v75 (ix1 ⟨h.val * 512 + r.val - 256 - 256 - 256, by omega⟩)) * (((Real.log 2)⁻¹ : ℝ) : EReal) := by
  rw [← log2e_value]
  pointwise [k0_pay5, k0_pay1]

/-- All rows' logarithms. -/
theorem pay5_at (h : Fin 2) (r : Fin 512) :
    k0_pay5 (k0_pay12 x0 x1) (k0_pay19 (k0_pay14 x0 x1) (k0_pay16 x0 x1)) (k0_pay25 (k0_pay6 x0) x1)
      (k0_pay27 (k0_pay6 x0) x1) (k0_pay29 (k0_pay6 x0) x1) (ix3 h r 0) = rowL x0 x1 ⟨h.val * 512 + r.val, by omega⟩ := by
  rw [pay5_parts]
  split_ifs with h1 h2 h3
  · rw [pay12_at]
  · rw [pay19_at]
    exact congrArg (fun R => rowL x0 x1 R) (Fin.ext (by dsimp only; omega))
  · rw [pay25_at]
    exact congrArg (fun R => rowL x0 x1 R) (Fin.ext (by dsimp only; omega))
  · rw [pay27_at, pay29_at, ← rowL]
    exact congrArg (fun R => rowL x0 x1 R) (Fin.ext (by dsimp only; omega))

/-- The first head's rows. -/
theorem pay3_at (r : Fin 512) (d : Fin 128) :
    k0_pay3 (k0_pay11 x0 x1 x2) (k0_pay18 (k0_pay16 x0 x1) (k0_pay17 x0 x1) x2) (k0_pay24 (k0_pay6 x0) x1 x2)
      (k0_pay28 (k0_pay6 x0) x1) (k0_pay29 (k0_pay6 x0) x1) x2 (ix2 r d) = rowO x0 x1 x2 ⟨r.val, by omega⟩ d := by
  rw [← pay2_at]
  pointwise [k0_pay3]

/-- The second head's rows. -/
theorem pay4_at (r : Fin 512) (d : Fin 128) :
    k0_pay4 (k0_pay11 x0 x1 x2) (k0_pay18 (k0_pay16 x0 x1) (k0_pay17 x0 x1) x2) (k0_pay24 (k0_pay6 x0) x1 x2)
      (k0_pay28 (k0_pay6 x0) x1) (k0_pay29 (k0_pay6 x0) x1) x2 (ix2 r d) = rowO x0 x1 x2 ⟨512 + r.val, by omega⟩ d := by
  rw [← pay2_at]
  pointwise [k0_pay4]

theorem hz : (![0, 0, 0] : Fin 3 → Nat) = fun _ => 0 := funext fun a => by fin_cases a <;> rfl

/-- A block's load, whole, is the block. -/
theorem ld_k (x : Vec Ideal S1x8448x128 .bf16) : View.ld x r0_1 = x := View.ld_unit_zero (S := S1x8448x128) hz _ x
theorem ld_q (x : Vec Ideal S2x512x128 .bf16) : View.ld x r0_0 = x := View.ld_unit_zero (S := S2x512x128) hz _ x

/-- A block stored as its left and its right half, read. -/
theorem halves_at (P Q : Vec Ideal S512x128 .f32) (r : Fin 512) (e : Fin 256) :
    View.canon (Val := Elt Ideal) (e := .f32) [⟨r0_3, Q⟩, ⟨r0_2, P⟩] (ix2 r e)
      = if h : e.val < 128 then P (ix2 r ⟨e.val, h⟩) else Q (ix2 r ⟨e.val - 128, by omega⟩) := by
  split_ifs with h
  · have hm : (ix2 r e : S512x256.Idx) ∉ r0_3.set := by
      intro hm
      have := (Rect.mem_set_unit.mp hm) 1
      have h1 : 128 ≤ e.val := this.1
      omega
    refine (View.canon_cons_of_not_mem (⟨r0_3, Q⟩ : View.Piece (Elt Ideal) S512x256 .f32) [⟨r0_2, P⟩] hm).trans ?_
    have he : (ix2 r e : S512x256.Idx) = r0_2.emb (ix2 r ⟨e.val, h⟩ : S512x128.Idx) := by
      funext a
      refine Fin.ext ((ValueKit.rect_emb_unit_val _ _ _ _ _).trans ?_).symm
      fin_cases a
      · show 0 + r.val = r.val; omega
      · show 0 + e.val = e.val; omega
    exact (congrArg _ he).trans (View.canon_cons_emb r0_2 P [] _)
  · have he : (ix2 r e : S512x256.Idx) = r0_3.emb (ix2 r ⟨e.val - 128, by omega⟩ : S512x128.Idx) := by
      funext a
      refine Fin.ext ((ValueKit.rect_emb_unit_val _ _ _ _ _).trans ?_).symm
      fin_cases a
      · show 0 + r.val = r.val; omega
      · show 128 + (e.val - 128) = e.val; omega
    exact (congrArg _ he).trans (View.canon_cons_emb r0_3 Q _ _)

/-- What a point leaves in the output's block: column `128 e + d` of row `r` is the output of row `r` of head `e` in channel `d`. -/
theorem out0_3_at (r : Fin 512) (e : Fin 256) :
    out0_3 x0 x1 x2 (ix2 r e) = rowO x0 x1 x2 ⟨e.val / 128 * 512 + r.val, by omega⟩ ⟨e.val % 128, by omega⟩ := by
  unfold_out out0_3
  simp only [ld_k, ld_q]
  refine (halves_at _ _ r e).trans ?_
  split_ifs with h
  · refine (pay3_at x0 x1 x2 _ _).trans ?_
    exact congrArg₂ (rowO x0 x1 x2) (Fin.ext (by dsimp only; omega)) (Fin.ext (by dsimp only; omega))
  · refine (pay4_at x0 x1 x2 _ _).trans ?_
    exact congrArg₂ (rowO x0 x1 x2) (Fin.ext (by dsimp only; omega)) (Fin.ext (by dsimp only; omega))

/-- What a point leaves in the logarithms' block. -/
theorem out0_4_at (h : Fin 2) (r : Fin 512) :
    out0_4 x0 x1 x2 (ix3 h r 0) = rowL x0 x1 ⟨h.val * 512 + r.val, by omega⟩ := by
  unfold_out out0_4
  frame_out
  exact pay5_at x0 x1 h r

end Cert.KernelIdeal.Attn

end
-- ==== Proof.BwdBlock.lean ====
/-
  WHAT ONE POINT OF THE BACKWARD CALL COMPUTES from its blocks: the rows' weights again, the gradient that reaches the scores,
  and the point's parts of the three gradients.
-/
module

public import proofs.«01_k».proof.Proof.FwdOut

@[expose] public section

set_option maxRecDepth 16384

noncomputable section

namespace Cert.KernelIdeal.Attn

open Idealize.ShloMosaic Idealize.ShloMosaic.TcCoe Idealize.SL.Sem
open Cert.KernelIdeal Cert.KernelIdeal.Gen

/-- The kernel's named factor is `log 2`. -/
theorem ln2_value : (Named.named (F := Ideal) (φ := .f32) κ "ln2" 0x3F317218#32 : EReal) = ((Real.log 2 : ℝ) : EReal) :=
  IdealRules.named_const.ideal_named_scalar _ _ _ _ rfl

/-! ## The payloads, at any matrices -/

/-- The queries' gradient: the scores' gradient against the keys, scaled. -/
theorem bpay2_parts (p g : FVec Ideal S512x8448 .f32) (x1 : Vec Ideal S1x8448x128 .bf16) (a : Fin 2) (r : Fin 256) (d : Fin 128) :
    k1_pay2 p g x1 (ix3 a r d)
      = (∑ t, p (ix2 ⟨a.val * 256 + r.val, by omega⟩ t) * g (ix2 ⟨a.val * 256 + r.val, by omega⟩ t) * x1 (ix3 0 t d))
        * Ideal.ofBits .f32 0x3DB504F3#32 := by
  pointwise [k1_pay2, k1_pay1]

/-- The keys' gradient: what was there, and the scores' gradient against the queries. -/
theorem bpay3_parts (x : FVec Ideal S512x128 .bf16) (p g : FVec Ideal S512x8448 .f32) (acc : Vec Ideal S1x8448x128 .f32) (t : Fin 8448) (d : Fin 128) :
    k1_pay3 x p g acc (ix3 0 t d)
      = acc (ix3 0 t d) + (∑ R, p (ix2 R t) * g (ix2 R t) * x (ix2 R d)) * ((Real.log 2 : ℝ) : EReal) := by
  rw [← ln2_value]
  pointwise [k1_pay3, k1_pay1]

/-- The values' gradient: what was there, and the weights against the output's gradient. -/
theorem bpay4_parts (x : FVec Ideal S512x128 .bf16) (p : FVec Ideal S512x8448 .f32) (acc : Vec Ideal S1x8448x128 .f32) (t : Fin 8448) (d : Fin 128) :
    k1_pay4 x p acc (ix3 0 t d) = acc (ix3 0 t d) + ∑ R, p (ix2 R t) * x (ix2 R d) := by
  pointwise [k1_pay4]

theorem bpay5_at (t : Fin 8448) (d : Fin 128) : k1_pay5 (F := Ideal) (ix3 0 t d) = 0 := by
  pointwise [k1_pay5]
theorem bpay6_at (t : Fin 8448) (d : Fin 128) : k1_pay6 (F := Ideal) (ix3 0 t d) = 0 := by
  pointwise [k1_pay6]

/-! ## The matrices, from the blocks -/

section Blocks
variable (x0 : Vec Ideal S2x256x128 .bf16) (x1 x2 : Vec Ideal S1x8448x128 .bf16) (x3 x4 : Vec Ideal S256x256 .f32) (x5 : Vec Ideal S2x256x1 .f32)

theorem bpay7_at (R : Fin 512) (d : Fin 128) : k1_pay7 x0 (ix2 R d) = x0 (ix3 ⟨R.val / 256, by omega⟩ ⟨R.val % 256, by omega⟩ d) := by
  pointwise [k1_pay7]

/-- A block of 256 rows and two heads' channels, its left half. -/
abbrev lh : Vec Ideal S256x128 .f32 := View.ld x3 (Rect.unit ![0, 0] ![256, 128] inb_S256x256_S256x128_0_0)
/-- And its right half. -/
abbrev rh : Vec Ideal S256x128 .f32 := View.ld x3 (Rect.unit ![0, 128] ![256, 128] inb_S256x256_S256x128_0_128)

/-- The halves one above the other: row `256 a + r` is head `a`'s row `r`. -/
theorem bpay8_at (R : Fin 512) (d : Fin 128) :
    k1_pay8 (lh x3) (rh x3) (ix2 R d) = x3 (ix2 ⟨R.val % 256, by omega⟩ ⟨R.val / 256 * 128 + d.val, by omega⟩) := by
  pointwise [k1_pay8, lh, rh]
  by_cases h : R.val < 256
  · rw [dif_pos h]
    exact congrArg₂ (fun a b => x3 (ix2 a b)) (Fin.ext (by dsimp only; omega)) (Fin.ext (by dsimp only; omega))
  · rw [dif_neg h]
    exact congrArg₂ (fun a b => x3 (ix2 a b)) (Fin.ext (by dsimp only; omega)) (Fin.ext (by dsimp only; omega))

theorem bpay9_at (R : Fin 512) (d : Fin 128) :
    k1_pay9 (lh x3) (rh x3) (ix2 R d) = x3 (ix2 ⟨R.val % 256, by omega⟩ ⟨R.val / 256 * 128 + d.val, by omega⟩) := by
  rw [← bpay8_at x3 R d]
  pointwise [k1_pay9]

/-- The weights. -/
theorem bpay10_at (R : Fin 512) (t : Fin 8448) :
    k1_pay10 x0 x1 x5 (ix2 R t)
      = Ideal.exp2 ((∑ d, x0 (ix3 ⟨R.val / 256, by omega⟩ ⟨R.val % 256, by omega⟩ d) * x1 (ix3 0 t d))
        - x5 (ix3 ⟨R.val / 256, by omega⟩ ⟨R.val % 256, by omega⟩ 0)) := by
  pointwise [k1_pay10, k1_pay7]
  rw [floatOps_exp2]

/-- The gradient that reaches the weights, less the row's inner product of the output and its gradient. -/
theorem bpay11_parts (a b c d : Vec Ideal S256x128 .f32) (R : Fin 512) (t : Fin 8448) :
    k1_pay11 a b c d x2 (ix2 R t)
      = (∑ e, k1_pay9 a b (ix2 R e) * x2 (ix3 0 t e)) - ∑ e, k1_pay8 a b (ix2 R e) * k1_pay8 c d (ix2 R e) := by
  pointwise [k1_pay11, k1_pay8]

end Blocks

end Cert.KernelIdeal.Attn

end
-- ==== Proof.FwdArray.lean ====
/-
  WHAT THE FORWARD CALL LEAVES in its two arrays, for real queries, keys and values: the attention's output, and each row's
  base-2 logarithm of the sum of its exponentials.
-/
module

public import proofs.«01_k».proof.Proof.FwdOut

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Attn

section Rows
variable {x0 : Vec Ideal S2x512x128 .bf16} {x1 x2 : Vec Ideal S1x8448x128 .bf16}
  {qr : Fin 128 → ℝ} {kr vr : Fin 8448 → Fin 128 → ℝ} {R : Fin 1024}

/-- The natural scores of a row, from its query `qr` before the scale. -/
def nat (qr : Fin 128 → ℝ) (kr : Fin 8448 → Fin 128 → ℝ) (t : Fin 8448) : ℝ := (∑ d, kr t d * qr d) * sc

theorem base2_sum (qr : Fin 128 → ℝ) (kr : Fin 8448 → Fin 128 → ℝ) (t : Fin 8448) :
    (∑ d, qr d * sc / Real.log 2 * kr t d) * Real.log 2 = nat qr kr t := by
  unfold nat
  rw [Finset.sum_mul, Finset.sum_mul]
  refine Finset.sum_congr rfl fun d _ => ?_
  field_simp [log2_ne]

variable (h0 : ∀ d, x0 (ix3 ⟨R.val / 512, by omega⟩ ⟨R.val % 512, by omega⟩ d) = ((qr d * sc / Real.log 2 : ℝ) : EReal))
  (h1 : ∀ t d, x1 (ix3 0 t d) = ((kr t d : ℝ) : EReal)) (h2 : ∀ t d, x2 (ix3 0 t d) = ((vr t d : ℝ) : EReal))

include h0 h1 in
theorem rowS_real (t : Fin 8448) : rowS x0 x1 R t = ((∑ d, qr d * sc / Real.log 2 * kr t d : ℝ) : EReal) := by
  unfold rowS
  rw [← coe_sum]
  refine Finset.sum_congr rfl fun d _ => ?_
  rw [h0, h1, EReal.coe_mul]

include h0 h1 h2 in
/-- A row's output is the mean of the values under the softmax of its scores. -/
theorem rowO_real (d : Fin 128) :
    rowO x0 x1 x2 R d = ((∑ t, Real.exp (nat qr kr t) / (∑ u, Real.exp (nat qr kr u)) * vr t d : ℝ) : EReal) := by
  unfold rowO rowM
  simp only [rowS_real h0 h1, h2]
  rw [row_mean (fun t => ∑ d, qr d * sc / Real.log 2 * kr t d) (fun t => vr t d)]
  simp only [base2_sum]

include h0 h1 in
/-- A row's logarithm. -/
theorem rowL_real : rowL x0 x1 R = ((Real.log (∑ u, Real.exp (nat qr kr u)) / Real.log 2 : ℝ) : EReal) := by
  unfold rowL rowM
  simp only [rowS_real h0 h1]
  rw [row_log (fun t => ∑ d, qr d * sc / Real.log 2 * kr t d)]
  simp only [base2_sum]

end Rows

variable (V : (c : Dev nD) → (b : Ref sig .tc) → Buf (Elt Ideal) ((c : Thread nD τ).loc b)) (c : Dev nD)
variable (q : Fin 4 → Fin 8192 → Fin 128 → ℝ) (k v : Fin 2 → Fin 8448 → Fin 128 → ℝ)

/-- The scaled queries, the keys and the values, as the two calls find them: reals, the queries times `sc / log 2`. -/
structure Entry : Prop where
  hq : ∀ h n d, V c main_v5 (ix3 h n d : S4x8192x128.Idx) = ((q h n d * sc / Real.log 2 : ℝ) : EReal)
  hk : ∀ g t d, V c main_v6 (ix3 g t d : S2x8448x128.Idx) = ((k g t d : ℝ) : EReal)
  hv : ∀ g t d, V c main_v7 (ix3 g t d : S2x8448x128.Idx) = ((v g t d : ℝ) : EReal)

/-- The row's base-2 logarithm of the sum of its exponentials. -/
def lse (h : Fin 4) (n : Fin 8192) : ℝ := Real.log (∑ u, Real.exp (score q k h n u)) / Real.log 2

theorem idx00 : ∀ t : Fin cfg0.N, win0_0.index t = ![t.val / 16, t.val % 16, 0] := by decide +kernel
theorem idx01 : ∀ t : Fin cfg0.N, win0_1.index t = ![t.val / 16, 0, 0] := by decide +kernel
theorem idx02 : ∀ t : Fin cfg0.N, win0_2.index t = ![t.val / 16, 0, 0] := by decide +kernel
theorem idx03 : ∀ t : Fin cfg0.N, win0_3.index t = ![t.val % 16, t.val / 16] := by decide +kernel
theorem idx04 : ∀ t : Fin cfg0.N, win0_4.index t = ![t.val / 16, t.val % 16, 0] := by decide +kernel

variable {V c q k v} (E : Entry V c q k v)
include E

/-- The head and the token of row `R` of the block at point `t`. -/
theorem blk0_q (t : Fin cfg0.N) (a : Fin 2) (r : Fin 512) (d : Fin 128) :
    iblk0 V c 0 t (ix3 a r d : S2x512x128.Idx)
      = ((q ⟨t.val / 16 * 2 + a.val, by have := t.isLt; have : cfg0.N = 32 := rfl; omega⟩ ⟨t.val % 16 * 512 + r.val, by omega⟩ d * sc / Real.log 2 : ℝ) : EReal) := by
  rw [← E.hq]
  blk_simp [iblk0]
  exact congrArg _ (by blk_ext [idx00])

theorem blk0_k (t : Fin cfg0.N) (u : Fin 8448) (d : Fin 128) :
    iblk0 V c 1 t (ix3 0 u d : S1x8448x128.Idx)
      = ((k ⟨t.val / 16, by have := t.isLt; have : cfg0.N = 32 := rfl; omega⟩ u d : ℝ) : EReal) := by
  rw [← E.hk]
  blk_simp [iblk0]
  exact congrArg _ (by blk_ext [idx01])

theorem blk0_v (t : Fin cfg0.N) (u : Fin 8448) (d : Fin 128) :
    iblk0 V c 2 t (ix3 0 u d : S1x8448x128.Idx)
      = ((v ⟨t.val / 16, by have := t.isLt; have : cfg0.N = 32 := rfl; omega⟩ u d : ℝ) : EReal) := by
  rw [← E.hv]
  blk_simp [iblk0]
  exact congrArg _ (by blk_ext [idx02])

/-- The output of row `R` of the block at point `t`. -/
theorem rowO_block (t : Fin cfg0.N) (R : Fin 1024) (d : Fin 128) :
    rowO (iblk0 V c 0 t) (iblk0 V c 1 t) (iblk0 V c 2 t) R d
      = ((att q k v ⟨t.val / 16 * 2 + R.val / 512, by have := t.isLt; have : cfg0.N = 32 := rfl; omega⟩ ⟨t.val % 16 * 512 + R.val % 512, by omega⟩ d : ℝ) : EReal) := by
  have hg : grp ⟨t.val / 16 * 2 + R.val / 512, by have := t.isLt; have : cfg0.N = 32 := rfl; omega⟩
      = ⟨t.val / 16, by have := t.isLt; have : cfg0.N = 32 := rfl; omega⟩ := Fin.ext (by show (t.val / 16 * 2 + R.val / 512) / 2 = t.val / 16; omega)
  rw [rowO_real (fun d => blk0_q E t _ _ d) (fun u d => blk0_k E t u d) (fun u d => blk0_v E t u d)]
  unfold att prob score nat
  rw [hg]

/-- The logarithm of row `R` of the block at point `t`. -/
theorem rowL_block (t : Fin cfg0.N) (R : Fin 1024) :
    rowL (iblk0 V c 0 t) (iblk0 V c 1 t) R
      = ((lse q k ⟨t.val / 16 * 2 + R.val / 512, by have := t.isLt; have : cfg0.N = 32 := rfl; omega⟩ ⟨t.val % 16 * 512 + R.val % 512, by omega⟩ : ℝ) : EReal) := by
  have hg : grp ⟨t.val / 16 * 2 + R.val / 512, by have := t.isLt; have : cfg0.N = 32 := rfl; omega⟩
      = ⟨t.val / 16, by have := t.isLt; have : cfg0.N = 32 := rfl; omega⟩ := Fin.ext (by show (t.val / 16 * 2 + R.val / 512) / 2 = t.val / 16; omega)
  rw [rowL_real (fun d => blk0_q E t _ _ d) (fun u d => blk0_k E t u d)]
  unfold lse score nat
  rw [hg]

omit E in
theorem att_congr {h h' : Fin 4} {n n' : Fin 8192} {d d' : Fin 128} (e0 : h = h') (e1 : n = n') (e2 : d = d') :
    att q k v h n d = att q k v h' n' d' := by subst e0 e1 e2; rfl

/-- THE OUTPUT'S ARRAY after the forward call is the attention's output. -/
theorem arr3 : (dat0 V c).arrAt 3 cfg0.N = fun i : S8192x512.Idx =>
    ((att q k v ⟨(i 1).val / 128, by have : (i 1).val < 512 := (i 1).isLt; omega⟩ (i 0) ⟨(i 1).val % 128, by omega⟩ : ℝ) : EReal) := by
  refine (dat0 V c).arrAt_eq_of_covers 3 _ (by decide +kernel) fun t hf y => ?_
  blk_simp [idx03]
  rw [after0_3]
  have hy0 : (y 0).val < 512 := (y 0).isLt
  have hy1 : (y 1).val < 256 := (y 1).isLt
  refine (congrArg _ (eq_ix2 (n0 := 512) (n1 := 256) y)).trans ((out0_3_at _ _ _ _ _).trans ((rowO_block E t _ _).trans ?_))
  rw [EReal.coe_eq_coe_iff]
  exact att_congr (Fin.ext (by dsimp only; omega)) (Fin.ext (by blk_simp [idx03]; dsimp only; omega)) (Fin.ext (by dsimp only; omega))

/-- The logarithms' array after the forward call. -/
theorem arr4 : (dat0 V c).arrAt 4 cfg0.N = fun i : S4x8192x1.Idx => ((lse q k (i 0) (i 1) : ℝ) : EReal) := by
  refine (dat0 V c).arrAt_eq_of_covers 4 _ (by decide +kernel) fun t hf y => ?_
  blk_simp [idx04]
  rw [after0_4]
  have hy0 : (y 0).val < 2 := (y 0).isLt
  have hy1 : (y 1).val < 512 := (y 1).isLt
  have hy2 : y = (ix3 (y 0) (y 1) 0 : S2x512x1.Idx) := (eq_ix3 (n0 := 2) (n1 := 512) (n2 := 1) y).trans
    (congrArg (fun z => (ix3 (y 0) (y 1) z : S2x512x1.Idx)) (Subsingleton.elim (α := Fin 1) _ _))
  refine (congrArg _ hy2).trans ((out0_4_at _ _ _ _ _).trans ((rowL_block E t _).trans ?_))
  rw [EReal.coe_eq_coe_iff]
  exact congrArg₂ (lse q k) (Fin.ext (by blk_simp [idx04]; dsimp only; omega)) (Fin.ext (by blk_simp [idx04]; dsimp only; omega))

end Cert.KernelIdeal.Attn

end
-- ==== Proof.BwdArray.lean ====
/-
  WHAT THE BACKWARD CALL LEAVES in its three arrays, for real arguments and the forward call's results: the gradients of the
  queries, of the keys and of the values.
-/
module

public import proofs.«01_k».proof.Proof.BwdBlock
public import proofs.«01_k».proof.Proof.FwdArray

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Attn

/-- A sum over the grid's 32 steps and each step's 512 rows, 256 tokens of two heads, is one over tokens and heads. -/
theorem sum_rows (F : Fin 8192 → Fin 2 → ℝ) :
    ∑ i : Fin 32, ∑ R : Fin 512, F ⟨i.val * 256 + R.val % 256, by omega⟩ ⟨R.val / 256, by omega⟩ = ∑ n, ∑ r, F n r := by
  rw [← Fin.sum_mul_add_fin 32 256 (fun n : Fin 8192 => ∑ r, F n r)]
  refine Finset.sum_congr rfl fun i _ => ?_
  rw [← Fin.sum_mul_add_fin 2 256 (fun R : Fin 512 => F ⟨i.val * 256 + R.val % 256, by omega⟩ ⟨R.val / 256, by omega⟩), Finset.sum_comm]
  refine Finset.sum_congr rfl fun r _ => Finset.sum_congr rfl fun a _ => ?_
  exact congrArg₂ F (Fin.ext (by dsimp only; omega)) (Fin.ext (by dsimp only; omega))

variable (V : (c : Dev nD) → (b : Ref sig .tc) → Buf (Elt Ideal) ((c : Thread nD τ).loc b)) (c : Dev nD)
variable (q : Fin 4 → Fin 8192 → Fin 128 → ℝ) (k v : Fin 2 → Fin 8448 → Fin 128 → ℝ) (ct : Fin 8192 → Fin 512 → ℝ)

/-- What the backward call finds: the forward call's arguments, the output's gradient, and the forward call's results. -/
structure Entry2 : Prop extends Entry V c q k v where
  hct : ∀ n e, V c main_arg3 (ix2 n e : S8192x512.Idx) = ((ct n e : ℝ) : EReal)
  ho : ∀ n h d, V c main_v8_0 (ix2 n (col h d) : S8192x512.Idx) = ((att q k v h n d : ℝ) : EReal)
  hl : ∀ h n, V c main_v8_1 (ix3 h n 0 : S4x8192x1.Idx) = ((lse q k h n : ℝ) : EReal)

theorem idx10 : ∀ t : Fin cfg1.N, win1_0.index t = ![t.val / 32, t.val % 32, 0] := by decide +kernel
theorem idx11 : ∀ t : Fin cfg1.N, win1_1.index t = ![t.val / 32, 0, 0] := by decide +kernel
theorem idx12 : ∀ t : Fin cfg1.N, win1_2.index t = ![t.val / 32, 0, 0] := by decide +kernel
theorem idx13 : ∀ t : Fin cfg1.N, win1_3.index t = ![t.val % 32, t.val / 32] := by decide +kernel
theorem idx14 : ∀ t : Fin cfg1.N, win1_4.index t = ![t.val % 32, t.val / 32] := by decide +kernel
theorem idx15 : ∀ t : Fin cfg1.N, win1_5.index t = ![t.val / 32, t.val % 32, 0] := by decide +kernel
theorem idx16 : ∀ t : Fin cfg1.N, win1_6.index t = ![t.val / 32, t.val % 32, 0] := by decide +kernel
theorem idx17 : ∀ t : Fin cfg1.N, win1_7.index t = ![t.val / 32, 0, 0] := by decide +kernel
theorem idx18 : ∀ t : Fin cfg1.N, win1_8.index t = ![t.val / 32, 0, 0] := by decide +kernel

/-- The key head of point `t`. -/
def pg (t : Fin cfg1.N) : Fin 2 := ⟨t.val / 32, by have := t.isLt; have : cfg1.N = 64 := rfl; omega⟩
/-- The token of row `r` of point `t`. -/
def pn (t : Fin cfg1.N) (r : Fin 256) : Fin 8192 := ⟨t.val % 32 * 256 + r.val, by omega⟩
/-- The head, within the pair, of row `R`; and its place among the head's rows. -/
def ra (R : Fin 512) : Fin 2 := ⟨R.val / 256, by omega⟩
def rr (R : Fin 512) : Fin 256 := ⟨R.val % 256, by omega⟩

variable {V c q k v ct} (E : Entry2 V c q k v ct)
include E

theorem blk1_q (t : Fin cfg1.N) (a : Fin 2) (r : Fin 256) (d : Fin 128) :
    iblk1 V c 0 t (ix3 a r d : S2x256x128.Idx) = ((q (hd (pg t) a) (pn t r) d * sc / Real.log 2 : ℝ) : EReal) := by
  rw [← E.hq]
  blk_simp [iblk1]
  exact congrArg _ (by unfold hd pg pn; blk_ext [idx10])

theorem blk1_k (t : Fin cfg1.N) (u : Fin 8448) (d : Fin 128) :
    iblk1 V c 1 t (ix3 0 u d : S1x8448x128.Idx) = ((k (pg t) u d : ℝ) : EReal) := by
  rw [← E.hk]
  blk_simp [iblk1]
  exact congrArg _ (by unfold pg; blk_ext [idx11])

theorem blk1_v (t : Fin cfg1.N) (u : Fin 8448) (d : Fin 128) :
    iblk1 V c 2 t (ix3 0 u d : S1x8448x128.Idx) = ((v (pg t) u d : ℝ) : EReal) := by
  rw [← E.hv]
  blk_simp [iblk1]
  exact congrArg _ (by unfold pg; blk_ext [idx12])

theorem blk1_ct (t : Fin cfg1.N) (R : Fin 512) (d : Fin 128) :
    iblk1 V c 3 t (ix2 ⟨R.val % 256, by omega⟩ ⟨R.val / 256 * 128 + d.val, by omega⟩ : S256x256.Idx)
      = ((ct (pn t (rr R)) (col (hd (pg t) (ra R)) d) : ℝ) : EReal) := by
  rw [← E.hct]
  blk_simp [iblk1]
  exact congrArg _ (by unfold col hd pg pn ra rr; blk_ext [idx13])

theorem blk1_o (t : Fin cfg1.N) (R : Fin 512) (d : Fin 128) :
    iblk1 V c 4 t (ix2 ⟨R.val % 256, by omega⟩ ⟨R.val / 256 * 128 + d.val, by omega⟩ : S256x256.Idx)
      = ((att q k v (hd (pg t) (ra R)) (pn t (rr R)) d : ℝ) : EReal) := by
  rw [← E.ho]
  blk_simp [iblk1]
  exact congrArg _ (by unfold col hd pg pn ra rr; blk_ext [idx14])

theorem blk1_l (t : Fin cfg1.N) (a : Fin 2) (r : Fin 256) :
    iblk1 V c 5 t (ix3 a r 0 : S2x256x1.Idx) = ((lse q k (hd (pg t) a) (pn t r) : ℝ) : EReal) := by
  rw [← E.hl]
  blk_simp [iblk1]
  exact congrArg _ (by unfold hd pg pn; blk_ext [idx15])

/-- The point's weights are the softmax's. -/
theorem p_at (t : Fin cfg1.N) (R : Fin 512) (u : Fin 8448) :
    k1_pay10 (iblk1 V c 0 t) (iblk1 V c 1 t) (iblk1 V c 5 t) (ix2 R u)
      = ((prob q k (hd (pg t) (ra R)) (pn t (rr R)) u : ℝ) : EReal) := by
  rw [bpay10_at]
  simp only [blk1_q E, blk1_k E, blk1_l E, ← EReal.coe_mul, coe_sum]
  have hs := fun u => base2_sum (fun d => q (hd (pg t) (ra R)) (pn t (rr R)) d) (fun u d => k (pg t) u d) u
  have hn : ∀ u, nat (fun d => q (hd (pg t) (ra R)) (pn t (rr R)) d) (fun u d => k (pg t) u d) u = score q k (hd (pg t) (ra R)) (pn t (rr R)) u :=
    fun u => by unfold nat score; rw [grp_hd]
  have hw := weight_of_log (fun u => ∑ d, q (hd (pg t) (ra R)) (pn t (rr R)) d * sc / Real.log 2 * k (pg t) u d) u
  simp only [hs, hn] at hw
  exact hw

/-- What reaches a weight, less the row's inner product. -/
theorem g_at (t : Fin cfg1.N) (R : Fin 512) (u : Fin 8448) :
    k1_pay11 (lh (iblk1 V c 3 t)) (rh (iblk1 V c 3 t)) (lh (iblk1 V c 4 t)) (rh (iblk1 V c 4 t)) (iblk1 V c 2 t) (ix2 R u)
      = ((dprob v ct (hd (pg t) (ra R)) (pn t (rr R)) u - delta q k v ct (hd (pg t) (ra R)) (pn t (rr R)) : ℝ) : EReal) := by
  rw [bpay11_parts]
  simp only [bpay9_at, bpay8_at, blk1_ct E, blk1_o E, blk1_v E, ← EReal.coe_mul, coe_sum, ← EReal.coe_sub]
  unfold dprob delta
  rw [grp_hd]

/-- The queries' gradient at a point's block. -/
theorem dq_at (t : Fin cfg1.N) (a : Fin 2) (r : Fin 256) (d : Fin 128) :
    (outsAt1 V c t.val t.isLt).1 (ix3 a r d) = ((gradQ q k v ct (hd (pg t) a) (pn t r) d : ℝ) : EReal) := by
  have hR : ra ⟨a.val * 256 + r.val, by omega⟩ = a := Fin.ext (by show (a.val * 256 + r.val) / 256 = a.val; omega)
  have hr : rr ⟨a.val * 256 + r.val, by omega⟩ = r := Fin.ext (by show (a.val * 256 + r.val) % 256 = r.val; omega)
  have key : (outsAt1 V c t.val t.isLt).1 = k1_pay2 (k1_pay10 (iblk1 V c 0 t) (iblk1 V c 1 t) (iblk1 V c 5 t))
      (k1_pay11 (lh (iblk1 V c 3 t)) (rh (iblk1 V c 3 t)) (lh (iblk1 V c 4 t)) (rh (iblk1 V c 4 t)) (iblk1 V c 2 t)) (iblk1 V c 1 t) := by
    by_cases h : t.val % 32 = 0
    · rw [outsAt1_A V c t h]; frame_out
    · rw [outsAt1_B V c t h]; frame_out
  rw [key, bpay2_parts]
  simp only [p_at E, g_at E, blk1_k E, ofBits_sc, ← EReal.coe_mul, coe_sum, hR, hr]
  unfold gradQ dscore
  rw [grp_hd]

/-- A point's part of the keys' gradient. -/
theorem dk_term (t : Fin cfg1.N) (u : Fin 8448) (d : Fin 128) :
    (∑ R, k1_pay10 (iblk1 V c 0 t) (iblk1 V c 1 t) (iblk1 V c 5 t) (ix2 R u)
        * k1_pay11 (lh (iblk1 V c 3 t)) (rh (iblk1 V c 3 t)) (lh (iblk1 V c 4 t)) (rh (iblk1 V c 4 t)) (iblk1 V c 2 t) (ix2 R u)
        * k1_pay7 (iblk1 V c 0 t) (ix2 R d)) * ((Real.log 2 : ℝ) : EReal)
      = ((∑ R, dscore q k v ct (hd (pg t) (ra R)) (pn t (rr R)) u * (q (hd (pg t) (ra R)) (pn t (rr R)) d * sc) : ℝ) : EReal) := by
  simp only [p_at E, g_at E, bpay7_at, blk1_q E, ← EReal.coe_mul, coe_sum]
  rw [EReal.coe_eq_coe_iff, Finset.sum_mul]
  refine Finset.sum_congr rfl fun R _ => ?_
  unfold dscore ra rr
  field_simp [log2_ne]

/-- A point's part of the values' gradient. -/
theorem dv_term (t : Fin cfg1.N) (u : Fin 8448) (d : Fin 128) :
    (∑ R, k1_pay10 (iblk1 V c 0 t) (iblk1 V c 1 t) (iblk1 V c 5 t) (ix2 R u) * k1_pay9 (lh (iblk1 V c 3 t)) (rh (iblk1 V c 3 t)) (ix2 R d))
      = ((∑ R, prob q k (hd (pg t) (ra R)) (pn t (rr R)) u * ct (pn t (rr R)) (col (hd (pg t) (ra R)) d) : ℝ) : EReal) := by
  simp only [p_at E, bpay9_at, blk1_ct E, ← EReal.coe_mul, coe_sum]

omit E in
/-- The points of a key head's group share it, and run through its tokens. -/
theorem group_at (t : Fin cfg1.N) (s : Fin 32) (h : 32 * (t.val / 32) + s.val < cfg1.N) (R : Fin 512) :
    pg ⟨32 * (t.val / 32) + s.val, h⟩ = pg t ∧ pn ⟨32 * (t.val / 32) + s.val, h⟩ (rr R) = ⟨s.val * 256 + R.val % 256, by omega⟩ := by
  refine ⟨Fin.ext ?_, Fin.ext ?_⟩
  · show (32 * (t.val / 32) + s.val) / 32 = t.val / 32; omega
  · show (32 * (t.val / 32) + s.val) % 32 * 256 + R.val % 256 = s.val * 256 + R.val % 256; omega

/-- The keys' gradient, when its block is written back. -/
theorem dk_at (t : Fin cfg1.N) (ht : t.val % 32 = 31) (u : Fin 8448) (d : Fin 128) :
    (outsAt1 V c t.val t.isLt).2.1 (ix3 0 u d) = ((gradK q k v ct (pg t) u d : ℝ) : EReal) := by
  have H := Pipeline.eq_sum_fin_of_reset_step_apply_of_flush (N := cfg1.N) (M := EReal) (ι := Unit)
    (fun n h _ => (outsAt1 V c n h).2.1 (ix3 0 u d)) 32 (fun _ => 0)
    (fun t _ => ((∑ R, dscore q k v ct (hd (pg t) (ra R)) (pn t (rr R)) u * (q (hd (pg t) (ra R)) (pn t (rr R)) d * sc) : ℝ) : EReal))
    (fun t h _ => by
      rw [outsAt1_A V c t h]; frame_out
      refine (bpay3_parts _ _ _ _ u d).trans ?_
      exact congrArg₂ _ (bpay5_at u d) (dk_term E t u d))
    (fun t h _ => by
      rw [outsAt1_B V c t h]; frame_out
      refine (bpay3_parts _ _ _ _ u d).trans ?_
      exact congrArg _ (dk_term E t u d))
    t ht ()
  refine H.trans ?_
  rw [zero_add, coe_sum, EReal.coe_eq_coe_iff]
  unfold gradK
  rw [← sum_rows (fun n r => dscore q k v ct (hd (pg t) r) n u * (q (hd (pg t) r) n d * sc))]
  refine Finset.sum_congr rfl fun s _ => Finset.sum_congr rfl fun R _ => ?_
  rw [(group_at t s _ R).1, (group_at t s _ R).2]
  unfold ra
  simp only []

/-- The values' gradient, when its block is written back. -/
theorem dv_at (t : Fin cfg1.N) (ht : t.val % 32 = 31) (u : Fin 8448) (d : Fin 128) :
    (outsAt1 V c t.val t.isLt).2.2 (ix3 0 u d) = ((gradV q k ct (pg t) u d : ℝ) : EReal) := by
  have H := Pipeline.eq_sum_fin_of_reset_step_apply_of_flush (N := cfg1.N) (M := EReal) (ι := Unit)
    (fun n h _ => (outsAt1 V c n h).2.2 (ix3 0 u d)) 32 (fun _ => 0)
    (fun t _ => ((∑ R, prob q k (hd (pg t) (ra R)) (pn t (rr R)) u * ct (pn t (rr R)) (col (hd (pg t) (ra R)) d) : ℝ) : EReal))
    (fun t h _ => by
      rw [outsAt1_A V c t h]; frame_out
      refine (bpay4_parts _ _ _ u d).trans ?_
      exact congrArg₂ _ (bpay6_at u d) (dv_term E t u d))
    (fun t h _ => by
      rw [outsAt1_B V c t h]; frame_out
      refine (bpay4_parts _ _ _ u d).trans ?_
      exact congrArg _ (dv_term E t u d))
    t ht ()
  refine H.trans ?_
  rw [zero_add, coe_sum, EReal.coe_eq_coe_iff]
  unfold gradV
  rw [← sum_rows (fun n r => prob q k (hd (pg t) r) n u * ct n (col (hd (pg t) r) d))]
  refine Finset.sum_congr rfl fun s _ => Finset.sum_congr rfl fun R _ => ?_
  rw [(group_at t s _ R).1, (group_at t s _ R).2]
  unfold ra
  simp only []

/-- The queries' gradient. -/
theorem arr6 : (dat1 V c).arrAt 6 cfg1.N
    = fun i : S4x8192x128.Idx => ((gradQ q k v ct (i 0) (i 1) (i 2) : ℝ) : EReal) := by
  refine (dat1 V c).arrAt_eq_of_covers 6 _ (by decide +kernel) fun t hf y => ?_
  blk_simp [idx16]
  rw [after1_6]
  have hy0 : (y 0).val < 2 := (y 0).isLt
  have hy1 : (y 1).val < 256 := (y 1).isLt
  refine (congrArg _ (eq_ix3 (n0 := 2) (n1 := 256) (n2 := 128) y)).trans ((dq_at E t (y 0) (y 1) (y 2)).trans ?_)
  rw [EReal.coe_eq_coe_iff]
  exact congr (congr (congrArg (gradQ q k v ct) (Fin.ext (by unfold hd pg; blk_simp [idx16]; dsimp only; omega)))
    (Fin.ext (by unfold pn; blk_simp [idx16]))) (Fin.ext (by blk_simp [idx16]))

/-- The keys' gradient. -/
theorem arr7 : (dat1 V c).arrAt 7 cfg1.N
    = fun i : S2x8448x128.Idx => ((gradK q k v ct (i 0) (i 1) (i 2) : ℝ) : EReal) := by
  refine (dat1 V c).arrAt_eq_of_covers 7 _ (by decide +kernel) fun t hf y => ?_
  have ht : t.val % 32 = 31 := (flush1_7 t).mp hf
  blk_simp [idx17]
  rw [after1_7]
  have hy1 : (y 1).val < 8448 := (y 1).isLt
  have hy0 : y = (ix3 0 (y 1) (y 2) : S1x8448x128.Idx) := (eq_ix3 (n0 := 1) (n1 := 8448) (n2 := 128) y).trans
    (congrArg (fun z => (ix3 z (y 1) (y 2) : S1x8448x128.Idx)) (Subsingleton.elim (α := Fin 1) _ _))
  have hz0 : (y 0).val = 0 := by have : (y 0).val < 1 := (y 0).isLt; omega
  refine (congrArg _ hy0).trans ((dk_at E t ht (y 1) (y 2)).trans ?_)
  rw [EReal.coe_eq_coe_iff]
  exact congr (congr (congrArg (gradK q k v ct) (Fin.ext (by unfold pg; blk_simp [idx17])))
    (Fin.ext (by blk_simp [idx17]))) (Fin.ext (by blk_simp [idx17]))

/-- The values' gradient. -/
theorem arr8 : (dat1 V c).arrAt 8 cfg1.N
    = fun i : S2x8448x128.Idx => ((gradV q k ct (i 0) (i 1) (i 2) : ℝ) : EReal) := by
  refine (dat1 V c).arrAt_eq_of_covers 8 _ (by decide +kernel) fun t hf y => ?_
  have ht : t.val % 32 = 31 := (flush1_8 t).mp hf
  blk_simp [idx18]
  rw [after1_8]
  have hy1 : (y 1).val < 8448 := (y 1).isLt
  have hy0 : y = (ix3 0 (y 1) (y 2) : S1x8448x128.Idx) := (eq_ix3 (n0 := 1) (n1 := 8448) (n2 := 128) y).trans
    (congrArg (fun z => (ix3 z (y 1) (y 2) : S1x8448x128.Idx)) (Subsingleton.elim (α := Fin 1) _ _))
  have hz0 : (y 0).val = 0 := by have : (y 0).val < 1 := (y 0).isLt; omega
  refine (congrArg _ hy0).trans ((dv_at E t ht (y 1) (y 2)).trans ?_)
  rw [EReal.coe_eq_coe_iff]
  exact congr (congr (congrArg (gradV q k ct) (Fin.ext (by unfold pg; blk_simp [idx18])))
    (Fin.ext (by blk_simp [idx18]))) (Fin.ext (by blk_simp [idx18]))

end Cert.KernelIdeal.Attn

end
-- ==== Proof.Launch.lean ====
/-
  WHAT EACH OF THE TWO CALLS FINDS when the program runs on real arguments: the first the scaled queries, the keys and the
  values; the second those, the output's gradient, and what the first left.
-/
module

public import proofs.«01_k».proof.Proof.BwdArray
public import proofs.«01_k».proof.Proof.Gen.KernelIdeal.Frame
public import Idealize.ShloMosaic.Lib.StableHlo.ReadAt

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

variable (m : (ℓ : Loc nD τ sig) → Buf (Elt Ideal) ℓ) (ρ : Dev nD → PrngReg) (c : Dev nD)

/-- The scaled queries. -/
theorem v5_at (h : Fin 4) (n : Fin 8192) (d : Fin 128) :
    V1 m ρ c main_v5 (ix3 h n d : S4x8192x128.Idx)
      = Ideal.div ((show S4x8192x128.Idx → EReal from m ((c.tc : Thread nD τ).loc main_arg0)) (ix3 h n d) * Ideal.ofBits .f32 0x3DB504F3#32)
          (Ideal.log (Ideal.ofBits .f32 0x40000000#32)) := by
  show StableHlo.after hostOps0 (W0 m ρ c) (Proc.devRef .tc main_v5) (ix3 h n d : S4x8192x128.Idx) = _
  unfold hostOps0
  after_reads_at

theorem v6_at (g : Fin 2) (t : Fin 8448) (d : Fin 128) :
    V1 m ρ c main_v6 (ix3 g t d : S2x8448x128.Idx) = m ((c.tc : Thread nD τ).loc main_arg1) (ix3 g t d : S2x8448x128.Idx) := by
  show StableHlo.after hostOps0 (W0 m ρ c) (Proc.devRef .tc main_v6) (ix3 g t d : S2x8448x128.Idx) = _
  unfold hostOps0
  after_reads_at

theorem v7_at (g : Fin 2) (t : Fin 8448) (d : Fin 128) :
    V1 m ρ c main_v7 (ix3 g t d : S2x8448x128.Idx) = m ((c.tc : Thread nD τ).loc main_arg2) (ix3 g t d : S2x8448x128.Idx) := by
  show StableHlo.after hostOps0 (W0 m ρ c) (Proc.devRef .tc main_v7) (ix3 g t d : S2x8448x128.Idx) = _
  unfold hostOps0
  after_reads_at

/-- The four arguments hold these real numbers. -/
structure Args (q : Fin 4 → Fin 8192 → Fin 128 → ℝ) (k v : Fin 2 → Fin 8448 → Fin 128 → ℝ) (ct : Fin 8192 → Fin 512 → ℝ) : Prop where
  hq : ∀ h n d, m ((c.tc : Thread nD τ).loc main_arg0) (ix3 h n d : S4x8192x128.Idx) = ((q h n d : ℝ) : EReal)
  hk : ∀ g t d, m ((c.tc : Thread nD τ).loc main_arg1) (ix3 g t d : S2x8448x128.Idx) = ((k g t d : ℝ) : EReal)
  hv : ∀ g t d, m ((c.tc : Thread nD τ).loc main_arg2) (ix3 g t d : S2x8448x128.Idx) = ((v g t d : ℝ) : EReal)
  hct : ∀ n e, m ((c.tc : Thread nD τ).loc main_arg3) (ix2 n e : S8192x512.Idx) = ((ct n e : ℝ) : EReal)

variable {m c} {q : Fin 4 → Fin 8192 → Fin 128 → ℝ} {k v : Fin 2 → Fin 8448 → Fin 128 → ℝ} {ct : Fin 8192 → Fin 512 → ℝ}
variable (A : Args m c q k v ct)
include A

/-- What the forward call finds. -/
theorem entry : Entry (V1 m ρ) c q k v :=
  ⟨fun h n d => by
      rw [v5_at]
      dsimp only
      rw [A.hq, ofBits_sc, ofBits_two, log_coe_pos two_pos, ← EReal.coe_mul, coe_div log2_ne],
    fun g t d => by rw [v6_at, A.hk],
    fun g t d => by rw [v7_at, A.hv]⟩

/-- What the backward call finds. -/
theorem entry2 : Entry2 (V2 m ρ) c q k v ct :=
  { hq := fun h n d => (congrFun (W2_of m ρ c main_v5 (by decide)) _).trans ((entry ρ A).hq h n d)
    hk := fun g t d => (congrFun (W2_of m ρ c main_v6 (by decide)) _).trans ((entry ρ A).hk g t d)
    hv := fun g t d => (congrFun (W2_of m ρ c main_v7 (by decide)) _).trans ((entry ρ A).hv g t d)
    hct := fun n e => (congrFun (W2_args m ρ c main_arg3 (by decide)) _).trans (A.hct n e)
    ho := fun n h d => (congrFun ((W2_arr m ρ c 3).trans (arr3 (entry ρ A))) _).trans (by
      rw [EReal.coe_eq_coe_iff]
      exact congrArg₂ (fun a b => att q k v a n b) (Fin.ext (by show (128 * h.val + d.val) / 128 = h.val; omega))
        (Fin.ext (by show (128 * h.val + d.val) % 128 = d.val; omega)))
    hl := fun h n => congrFun ((W2_arr m ρ c 4).trans (arr4 (entry ρ A))) _ }

end Cert.KernelIdeal.Attn

end
-- ==== Proof.RefValue.lean ====
/-
  THE REFERENCE'S RESULTS at real arguments: the attention's output and the gradients of its queries, keys and values, each
  entry the real number that `Proof/Math.lean` writes for it.
-/
module

public import proofs.«01_k».proof.Proof.Math
public import proofs.«01_k».proof.Proof.Gen.ReferenceIdeal.Read
public import Idealize.ShloMosaic.Lib.Pointwise

@[expose] public section

set_option maxRecDepth 16384

noncomputable section

namespace Cert.ReferenceIdeal.Attn

open Idealize.ShloMosaic Idealize.ShloMosaic.TcCoe
open Cert.ReferenceIdeal Cert.ReferenceIdeal.Read Cert.Attn

variable (x0 : (⟨S4x8192x128, .f32⟩ : BufTy).Contents (Elt Ideal)) (x1 x2 : (⟨S2x8448x128, .f32⟩ : BufTy).Contents (Elt Ideal)) (x3 : (⟨S8192x512, .f32⟩ : BufTy).Contents (Elt Ideal))

/-! ## Two reductions -/

/-- A maximum over the last of five axes, at an index. -/
theorem max_last {n0 n1 n2 n3 n4 : Nat} {u : Shape} (h : (⟨5, ![n0, n1, n2, n3, n4]⟩ : Shape).ReducesTo [4] ⟨4, ![n0, n1, n2, n3]⟩)
    (x : (⟨5, ![n0, n1, n2, n3, n4]⟩ : Shape).Idx → Elt Ideal .f32) (init : u.Idx → Elt Ideal .f32) (hu : 0 < u.numel)
    (a : Fin n0) (b : Fin n1) (c : Fin n2) (d : Fin n3) :
    Host.reduce (FloatOps.maximumf (F := Ideal) (φ := .f32)) x init h hu (ix4 a b c d)
      = Finset.fold (max : EReal → EReal → EReal) (init (Shape.Idx.first hu)) (fun k => x (ix5 a b c d k)) Finset.univ := by
  show Host.reduce (max : EReal → EReal → EReal) x init h hu (ix4 a b c d) = _
  rw [Host.reduce_eq_fold]
  exact h.fold_fiber_r5_a4 (ix4 a b c d) max _ x

/-- What an index keeps, when a first and a last axis of one coordinate each are dropped. -/
theorem drop_ends {n1 n2 n3 : Nat} {t : Shape} (h : (⟨5, ![1, n1, n2, n3, 1]⟩ : Shape).ReducesTo [0, 4] t) (hr : t.rank = 3)
    (i : (⟨5, ![1, n1, n2, n3, 1]⟩ : Shape).Idx) :
    (h.drop i ⟨0, by omega⟩).val = (i 1).val ∧ (h.drop i ⟨1, by omega⟩).val = (i 2).val ∧ (h.drop i ⟨2, by omega⟩).val = (i 3).val :=
  ⟨rfl, rfl, rfl⟩

/-- A sum over a first and a last axis of one coordinate each, at an index. -/
theorem sum_ends {n1 n2 n3 : Nat} (h : (⟨5, ![1, n1, n2, n3, 1]⟩ : Shape).ReducesTo [0, 4] ⟨3, ![n1, n2, n3]⟩)
    (x : (⟨5, ![1, n1, n2, n3, 1]⟩ : Shape).Idx → EReal) (init : EReal) (b : Fin n1) (c : Fin n2) (d : Fin n3) :
    Ideal.hostReduceAdd h x init (ix3 b c d) = init + x (ix5 0 b c d 0) := by
  unfold Ideal.hostReduceAdd
  rw [Finset.sum_eq_single (ix5 0 b c d 0 : (⟨5, ![1, n1, n2, n3, 1]⟩ : Shape).Idx)]
  · intro i hi hne
    refine absurd ?_ hne
    have e := drop_ends h rfl i
    rw [(Finset.mem_filter.mp hi).2] at e
    have h0 : (i 0).val < 1 := (i 0).isLt
    have h4 : (i 4).val < 1 := (i 4).isLt
    refine funext fun a => Fin.ext ?_
    match a with
    | ⟨0, _⟩ => show (i 0).val = 0; omega
    | ⟨1, _⟩ => exact e.1.symm
    | ⟨2, _⟩ => exact e.2.1.symm
    | ⟨3, _⟩ => exact e.2.2.symm
    | ⟨4, _⟩ => show (i 4).val = 0; omega
  · intro hn
    have e := drop_ends h rfl (ix5 0 b c d 0)
    have hd : h.drop (ix5 0 b c d 0) = ix3 b c d := by
      funext a
      apply Fin.ext
      match a with
      | ⟨0, _⟩ => exact e.1
      | ⟨1, _⟩ => exact e.2.1
      | ⟨2, _⟩ => exact e.2.2
    exact absurd (by rw [Finset.mem_filter]; exact ⟨Finset.mem_univ _, hd⟩) hn

/-! ## The stages at an index -/

theorem hd_flat (g r : Fin 2) (h : g.val * 2 + r.val < 4) : (⟨g.val * 2 + r.val, h⟩ : Fin 4) = hd g r :=
  Fin.ext (by show g.val * 2 + r.val = 2 * g.val + r.val; omega)

theorem v1_at (g r : Fin 2) (n : Fin 8192) (d : Fin 128) :
    val_main_v1 (F := Ideal) x0 (ix5 0 n g r d) = x0 (ix3 (hd g r) n d) := by
  pointwise [val_main_v1, val_main_v0]
  simp only [hd_flat]

theorem v9_at (g r : Fin 2) (n : Fin 8192) (t : Fin 8448) :
    val_main_v9 (F := Ideal) x0 x1 (ix5 0 g r n t) = (∑ d : Fin 128, x1 (ix3 g t d) * x0 (ix3 (hd g r) n d)) * Ideal.ofBits .f32 0x3DB504F3#32 := by
  pointwise [val_main_v9, val_main_v8, val_main_v7, val_main_v6, val_main_v3, val_main_v2, val_main_v1, val_main_v0, val_main_cst]
  simp only [hd_flat]

theorem v10_at (g r : Fin 2) (n : Fin 8192) :
    val_main_v10 (F := Ideal) x0 x1 (ix4 0 g r n)
      = Finset.fold max (Ideal.ofBits .f32 0xFF800000#32) (fun t : Fin 8448 => val_main_v9 (F := Ideal) x0 x1 (ix5 0 g r n t)) Finset.univ := by
  unfold val_main_v10
  generalize val_main_v9 (F := Ideal) x0 x1 = a
  exact max_last Gen.reducesTo_S1x2x2x8192x8448_S1x2x2x8192_d4 a _ _ 0 g r n

/-- An exponential of scores less their row's maximum, at an index. -/
theorem exp_shift (a : (⟨S1x2x2x8192x8448, .f32⟩ : BufTy).Contents (Elt Ideal)) (b : (⟨S1x2x2x8192, .f32⟩ : BufTy).Contents (Elt Ideal))
    (g r : Fin 2) (n : Fin 8192) (t : Fin 8448) :
    Host.exp (F := Ideal) (φ := .f32) (subf a (broadcastInDim S1x2x2x8192x8448 ![0, 1, 2, 3, 4] Gen.bcast_S1x2x2x8192x1_S1x2x2x8192x8448_0_1_2_3_4
        (broadcastInDim S1x2x2x8192x1 ![0, 1, 2, 3] Gen.bcast_S1x2x2x8192_S1x2x2x8192x1_0_1_2_3 (maximumf (val_main_v16 (F := Ideal)) b)))) (ix5 0 g r n t)
      = Ideal.exp (a (ix5 0 g r n t) - max (Ideal.ofBits .f32 0xFF800000#32) (b (ix4 0 g r n))) := by
  pointwise [val_main_v16, val_main_cst_2]

theorem v30_at (g r : Fin 2) (n : Fin 8192) (t : Fin 8448) :
    val_main_v30 (F := Ideal) x0 x1 (ix5 0 g r n t) = Ideal.exp (val_main_v9 (F := Ideal) x0 x1 (ix5 0 g r n t)
      - max (Ideal.ofBits .f32 0xFF800000#32) (val_main_v10 (F := Ideal) x0 x1 (ix4 0 g r n))) :=
  exp_shift (val_main_v9 (F := Ideal) x0 x1) (val_main_v10 (F := Ideal) x0 x1) g r n t

theorem v32_at (g r : Fin 2) (n : Fin 8192) :
    val_main_v32 (F := Ideal) x0 x1 (ix5 0 g r n 0) = ∑ t : Fin 8448, val_main_v30 (F := Ideal) x0 x1 (ix5 0 g r n t) := by
  unfold val_main_v32 val_main_v31
  generalize val_main_v30 (F := Ideal) x0 x1 = a
  pointwise [val_main_cst_8]

theorem v34_at (g r : Fin 2) (n : Fin 8192) (t : Fin 8448) :
    val_main_v34 (F := Ideal) x0 x1 (ix5 0 g r n t)
      = Ideal.div (val_main_v30 (F := Ideal) x0 x1 (ix5 0 g r n t)) (val_main_v32 (F := Ideal) x0 x1 (ix5 0 g r n 0)) := by
  unfold val_main_v34 val_main_v33
  generalize val_main_v30 (F := Ideal) x0 x1 = a
  generalize val_main_v32 (F := Ideal) x0 x1 = b
  pointwise

theorem v37_at (g r : Fin 2) (n : Fin 8192) :
    val_main_v37 (F := Ideal) x0 x1 (ix5 0 g r n 0) = Ideal.div (Ideal.ofBits .f32 0x3F800000#32)
      (val_main_v32 (F := Ideal) x0 x1 (ix5 0 g r n 0) * val_main_v32 (F := Ideal) x0 x1 (ix5 0 g r n 0)) := by
  unfold val_main_v37 val_main_v35
  generalize val_main_v32 (F := Ideal) x0 x1 = b
  pointwise [val_main_v36, val_main_cst_9]

theorem v40_at (n : Fin 8192) (e : Fin 512) :
    val_main_v40 (F := Ideal) x0 x1 x2 (ix2 n e) = ∑ t : Fin 8448, x2 (ix3 ⟨e.val / 256, by omega⟩ t ⟨e.val % 128, by omega⟩)
      * val_main_v34 (F := Ideal) x0 x1 (ix5 0 ⟨e.val / 256, by omega⟩ ⟨e.val / 128 % 2, by omega⟩ n t) := by
  unfold val_main_v40 val_main_v39 val_main_v38
  generalize val_main_v34 (F := Ideal) x0 x1 = a
  pointwise [val_main_v5, val_main_v4]

theorem v42_at (g r : Fin 2) (n : Fin 8192) (d : Fin 128) :
    val_main_v42 (F := Ideal) x3 (ix5 0 g d r n) = x3 (ix2 n (col (hd g r) d)) := by
  pointwise [val_main_v42, val_main_v41]
  exact congrArg (fun e => x3 (ix2 n e)) (Fin.ext (by unfold col hd; dsimp only; omega))

theorem v43_at (g r : Fin 2) (n : Fin 8192) (t : Fin 8448) :
    val_main_v43 (F := Ideal) x2 x3 (ix5 0 g r n t) = ∑ d : Fin 128, val_main_v42 (F := Ideal) x3 (ix5 0 g d r n) * x2 (ix3 g t d) := by
  unfold val_main_v43
  generalize val_main_v42 (F := Ideal) x3 = a
  pointwise [val_main_v5, val_main_v4]

theorem v49_at (g r : Fin 2) (n : Fin 8192) :
    val_main_v51 (F := Ideal) x0 x1 x2 x3 (ix5 0 g r n 0) = -∑ t : Fin 8448, val_main_v43 (F := Ideal) x2 x3 (ix5 0 g r n t)
      * val_main_v37 (F := Ideal) x0 x1 (ix5 0 g r n 0) * val_main_v30 (F := Ideal) x0 x1 (ix5 0 g r n t) := by
  unfold val_main_v51 val_main_v50 val_main_v49 val_main_v48 val_main_v47 val_main_v46
  generalize val_main_v30 (F := Ideal) x0 x1 = a
  generalize val_main_v37 (F := Ideal) x0 x1 = b
  generalize val_main_v43 (F := Ideal) x2 x3 = c
  pointwise [val_main_cst_10]

theorem v54_at (g r : Fin 2) (n : Fin 8192) :
    val_main_v54 (F := Ideal) x0 x1 x2 x3 (ix3 g r n) = val_main_v51 (F := Ideal) x0 x1 x2 x3 (ix5 0 g r n 0) := by
  unfold val_main_v54
  generalize val_main_v51 (F := Ideal) x0 x1 x2 x3 = a
  refine (sum_ends Gen.reducesTo_S1x2x2x8192x1_S2x2x8192_d0_4 a _ g r n).trans ?_
  rw [show val_main_cst_11 (F := Ideal) (Shape.Idx.first Gen.h_S_) = (0 : EReal) from Ideal.ofBits_zero_f32]
  exact zero_add _

theorem v60_at (g r : Fin 2) (n : Fin 8192) (t : Fin 8448) :
    val_main_v61 (F := Ideal) x0 x1 x2 x3 (ix5 0 g t n r) = (Ideal.div (val_main_v43 (F := Ideal) x2 x3 (ix5 0 g r n t)) (val_main_v32 (F := Ideal) x0 x1 (ix5 0 g r n 0))
      + val_main_v54 (F := Ideal) x0 x1 x2 x3 (ix3 g r n)) * val_main_v30 (F := Ideal) x0 x1 (ix5 0 g r n t) * Ideal.ofBits .f32 0x3DB504F3#32 := by
  unfold val_main_v61 val_main_v60 val_main_v58 val_main_v57 val_main_v56 val_main_v55 val_main_v53 val_main_v52
  generalize val_main_v30 (F := Ideal) x0 x1 = a
  generalize val_main_v32 (F := Ideal) x0 x1 = b
  generalize val_main_v43 (F := Ideal) x2 x3 = c
  generalize val_main_v54 (F := Ideal) x0 x1 x2 x3 = d
  pointwise [val_main_v59, val_main_cst_12]

theorem v71_at (h : Fin 4) (n : Fin 8192) (d : Fin 128) :
    val_main_v71 (F := Ideal) x0 x1 x2 x3 (ix3 h n d) = ∑ t : Fin 8448, val_main_v61 (F := Ideal) x0 x1 x2 x3 (ix5 0 (grp h) t n ⟨h.val % 2, by omega⟩) * x1 (ix3 (grp h) t d) := by
  unfold val_main_v71 val_main_v70 val_main_v63 val_main_v62
  generalize val_main_v61 (F := Ideal) x0 x1 x2 x3 = a
  pointwise [val_main_v3, val_main_v2]
  simp only [grp]

theorem v69_at (g : Fin 2) (t : Fin 8448) (d : Fin 128) :
    val_main_v69 (F := Ideal) x0 x1 x2 x3 (ix3 g t d) = ∑ n : Fin 8192, ∑ r : Fin 2, val_main_v61 (F := Ideal) x0 x1 x2 x3 (ix5 0 g t n r) * val_main_v1 (F := Ideal) x0 (ix5 0 n g r d) := by
  unfold val_main_v69 val_main_v68 val_main_v65 val_main_v64
  generalize val_main_v61 (F := Ideal) x0 x1 x2 x3 = a
  generalize val_main_v1 (F := Ideal) x0 = b
  pointwise [val_main_cst_14]
  exact Fintype.sum_unique _

theorem v67_at (g : Fin 2) (t : Fin 8448) (d : Fin 128) :
    val_main_v67 (F := Ideal) x0 x1 x3 (ix3 g t d) = ∑ r : Fin 2, ∑ n : Fin 8192, val_main_v42 (F := Ideal) x3 (ix5 0 g d r n) * val_main_v34 (F := Ideal) x0 x1 (ix5 0 g r n t) := by
  unfold val_main_v67 val_main_v66 val_main_v45 val_main_v44
  generalize val_main_v42 (F := Ideal) x3 = a
  generalize val_main_v34 (F := Ideal) x0 x1 = b
  pointwise [val_main_cst_13]
  exact Fintype.sum_unique _

end Cert.ReferenceIdeal.Attn

end
-- ==== Proof.RefReal.lean ====
/-
  THE REFERENCE'S RESULTS at real arguments, each entry the real number that `Proof/Math.lean` writes for it: the attention's
  output and the gradients of its queries, keys and values.
-/
module

public import proofs.«01_k».proof.Proof.RefValue

@[expose] public section

set_option maxRecDepth 16384

noncomputable section

namespace Cert.ReferenceIdeal.Attn

open Idealize.ShloMosaic Idealize.ShloMosaic.TcCoe
open Cert.ReferenceIdeal Cert.ReferenceIdeal.Read Cert.Attn

/-- The four arguments hold these real numbers. -/
structure Args (x0 : (⟨S4x8192x128, .f32⟩ : BufTy).Contents (Elt Ideal)) (x1 x2 : (⟨S2x8448x128, .f32⟩ : BufTy).Contents (Elt Ideal))
    (x3 : (⟨S8192x512, .f32⟩ : BufTy).Contents (Elt Ideal)) (q : Fin 4 → Fin 8192 → Fin 128 → ℝ) (k v : Fin 2 → Fin 8448 → Fin 128 → ℝ)
    (ct : Fin 8192 → Fin 512 → ℝ) : Prop where
  hq : ∀ h n d, x0 (ix3 h n d) = ((q h n d : ℝ) : EReal)
  hk : ∀ g t d, x1 (ix3 g t d) = ((k g t d : ℝ) : EReal)
  hv : ∀ g t d, x2 (ix3 g t d) = ((v g t d : ℝ) : EReal)
  hct : ∀ n e, x3 (ix2 n e) = ((ct n e : ℝ) : EReal)

variable {x0 : (⟨S4x8192x128, .f32⟩ : BufTy).Contents (Elt Ideal)} {x1 x2 : (⟨S2x8448x128, .f32⟩ : BufTy).Contents (Elt Ideal)}
variable {x3 : (⟨S8192x512, .f32⟩ : BufTy).Contents (Elt Ideal)} {q : Fin 4 → Fin 8192 → Fin 128 → ℝ} {k v : Fin 2 → Fin 8448 → Fin 128 → ℝ}
variable {ct : Fin 8192 → Fin 512 → ℝ} (A : Args x0 x1 x2 x3 q k v ct)
include A

/-- The scores. -/
theorem r9 (g r : Fin 2) (n : Fin 8192) (t : Fin 8448) :
    val_main_v9 (F := Ideal) x0 x1 (ix5 0 g r n t) = ((score q k (hd g r) n t : ℝ) : EReal) := by
  rw [v9_at]
  simp only [A.hq, A.hk, ofBits_sc, ← EReal.coe_mul, coe_sum]
  unfold score
  rw [grp_hd]

/-- A row's maximum is a real number, and each exponential is taken of a score less it. -/
theorem r30 (g r : Fin 2) (n : Fin 8192) : ∃ m : ℝ, ∀ t : Fin 8448,
    val_main_v30 (F := Ideal) x0 x1 (ix5 0 g r n t) = ((Real.exp (score q k (hd g r) n t - m) : ℝ) : EReal) := by
  obtain ⟨m, hm⟩ := fold_max_coe (Finset.univ : Finset (Fin 8448)) Finset.univ_nonempty (fun t => score q k (hd g r) n t)
  refine ⟨m, fun t => ?_⟩
  rw [v30_at, v10_at]
  simp only [r9 A, ofBits_ninf]
  rw [hm, max_eq_right bot_le, ← EReal.coe_sub, Ideal.exp_coe]

/-- A row's sum of exponentials, its weights, the reciprocal of the sum's square. -/
theorem r32 (g r : Fin 2) (n : Fin 8192) (m : ℝ) (hm : ∀ t : Fin 8448,
      val_main_v30 (F := Ideal) x0 x1 (ix5 0 g r n t) = ((Real.exp (score q k (hd g r) n t - m) : ℝ) : EReal)) :
    val_main_v32 (F := Ideal) x0 x1 (ix5 0 g r n 0) = ((∑ t, Real.exp (score q k (hd g r) n t - m) : ℝ) : EReal) := by
  rw [v32_at]
  simp only [hm, coe_sum]

theorem r34 (g r : Fin 2) (n : Fin 8192) (t : Fin 8448) :
    val_main_v34 (F := Ideal) x0 x1 (ix5 0 g r n t) = ((prob q k (hd g r) n t : ℝ) : EReal) := by
  obtain ⟨m, hm⟩ := r30 A g r n
  rw [v34_at, r32 A g r n m hm, hm, coe_div (den_pos _).ne', shifted_weight]
  rfl

theorem r43 (g r : Fin 2) (n : Fin 8192) (t : Fin 8448) :
    val_main_v43 (F := Ideal) x2 x3 (ix5 0 g r n t) = ((dprob v ct (hd g r) n t : ℝ) : EReal) := by
  rw [v43_at]
  simp only [v42_at, A.hct, A.hv, ← EReal.coe_mul, coe_sum]
  unfold dprob
  rw [grp_hd]

/-- The gradient of the scores, scaled. -/
theorem r61 (g r : Fin 2) (n : Fin 8192) (t : Fin 8448) :
    val_main_v61 (F := Ideal) x0 x1 x2 x3 (ix5 0 g t n r) = ((dscore q k v ct (hd g r) n t * sc : ℝ) : EReal) := by
  obtain ⟨m, hm⟩ := r30 A g r n
  have hp := (den_pos (fun u => score q k (hd g r) n u - m)).ne'
  rw [v60_at, v54_at, v49_at, v37_at, r32 A g r n m hm]
  simp only [hm, r43 A, ofBits_sc, ofBits_one, ← EReal.coe_mul]
  rw [coe_div hp, coe_div (mul_ne_zero hp hp)]
  simp only [← EReal.coe_mul, coe_sum, ← EReal.coe_neg, ← EReal.coe_add]
  rw [quotient_grad (fun u => score q k (hd g r) n u) (fun u => dprob v ct (hd g r) n u) m t]
  unfold dscore
  rw [delta_eq]
  rfl

/-- The output. -/
theorem out_at (n : Fin 8192) (h : Fin 4) (d : Fin 128) :
    val_main_v40 (F := Ideal) x0 x1 x2 (ix2 n (col h d)) = ((att q k v h n d : ℝ) : EReal) := by
  have e0 : (⟨(col h d).val / 256, by omega⟩ : Fin 2) = grp h := Fin.ext (by show (128 * h.val + d.val) / 256 = h.val / 2; omega)
  have e1 : (⟨(col h d).val % 128, by omega⟩ : Fin 128) = d := Fin.ext (by show (128 * h.val + d.val) % 128 = d.val; omega)
  have e2 : hd (grp h) ⟨(col h d).val / 128 % 2, by omega⟩ = h :=
    Fin.ext (by show 2 * (h.val / 2) + (128 * h.val + d.val) / 128 % 2 = h.val; omega)
  rw [v40_at]
  rw [e0, e1]
  simp only [r34 A, e2, A.hv, ← EReal.coe_mul, coe_sum]
  rw [EReal.coe_eq_coe_iff]
  exact Finset.sum_congr rfl fun t _ => mul_comm _ _

/-- The gradient of the queries. -/
theorem dq_at (h : Fin 4) (n : Fin 8192) (d : Fin 128) :
    val_main_v71 (F := Ideal) x0 x1 x2 x3 (ix3 h n d) = ((gradQ q k v ct h n d : ℝ) : EReal) := by
  have e2 : hd (grp h) ⟨h.val % 2, by omega⟩ = h := Fin.ext (by show 2 * (h.val / 2) + h.val % 2 = h.val; omega)
  rw [v71_at]
  simp only [r61 A, e2, A.hk, ← EReal.coe_mul, coe_sum]
  rw [EReal.coe_eq_coe_iff]
  unfold gradQ
  rw [Finset.sum_mul]
  exact Finset.sum_congr rfl fun t _ => by ring

/-- The gradient of the keys. -/
theorem dk_at (g : Fin 2) (t : Fin 8448) (d : Fin 128) :
    val_main_v69 (F := Ideal) x0 x1 x2 x3 (ix3 g t d) = ((gradK q k v ct g t d : ℝ) : EReal) := by
  rw [v69_at]
  simp only [r61 A, v1_at, A.hq, ← EReal.coe_mul, coe_sum]
  rw [EReal.coe_eq_coe_iff]
  exact Finset.sum_congr rfl fun n _ => Finset.sum_congr rfl fun r _ => by ring

/-- The gradient of the values. -/
theorem dv_at (g : Fin 2) (t : Fin 8448) (d : Fin 128) :
    val_main_v67 (F := Ideal) x0 x1 x3 (ix3 g t d) = ((gradV q k ct g t d : ℝ) : EReal) := by
  rw [v67_at]
  simp only [r34 A, v42_at, A.hct, ← EReal.coe_mul, coe_sum]
  rw [EReal.coe_eq_coe_iff, Finset.sum_comm]
  exact Finset.sum_congr rfl fun n _ => Finset.sum_congr rfl fun r _ => mul_comm _ _

end Cert.ReferenceIdeal.Attn

end
-- ==== Proof.Algebraic.lean ====
/-
  THE TWO PROGRAMS END WITH THE SAME FOUR RESULTS, at arguments every entry of which is a real number: each result's entries
  are, on both sides, the real numbers that `Proof/Math.lean` writes for the attention's output and its three gradients.
-/
module

public import proofs.«01_k».proof.Defs
public import proofs.«01_k».proof.Proof.Run
public import proofs.«01_k».proof.Proof.Finite
public import proofs.«01_k».proof.Proof.Launch
public import proofs.«01_k».proof.Proof.RefReal
public import proofs.«01_k».proof.Proof.Gen.ReferenceIdeal.Run

@[expose] public section

set_option maxRecDepth 16384

noncomputable section

namespace Cert.Algebraic

open Idealize.ShloMosaic Idealize.ShloMosaic.TcCoe Idealize.SL.Sem
open Cert.Attn

/-- An entry that is some real number is the real number its `toReal` names. -/
theorem eq_coe {x : EReal} (h : ∃ r : ℝ, x = (r : EReal)) : x = ((x.toReal : ℝ) : EReal) := by
  obtain ⟨r, rfl⟩ := h
  rw [EReal.toReal_coe]

section

variable (m : (ℓ : Loc Cert.KernelIdeal.nD Cert.KernelIdeal.τ Cert.KernelIdeal.sig) → Buf (Elt Ideal) ℓ) (c : Dev Cert.KernelIdeal.nD)

/-- The four argument arrays of one device. -/
def A0 : Cert.KernelIdeal.S4x8192x128.Idx → EReal := m ((c.tc : Thread Cert.KernelIdeal.nD Cert.KernelIdeal.τ).loc Cert.KernelIdeal.main_arg0)
def A1 : Cert.KernelIdeal.S2x8448x128.Idx → EReal := m ((c.tc : Thread Cert.KernelIdeal.nD Cert.KernelIdeal.τ).loc Cert.KernelIdeal.main_arg1)
def A2 : Cert.KernelIdeal.S2x8448x128.Idx → EReal := m ((c.tc : Thread Cert.KernelIdeal.nD Cert.KernelIdeal.τ).loc Cert.KernelIdeal.main_arg2)
def A3 : Cert.KernelIdeal.S8192x512.Idx → EReal := m ((c.tc : Thread Cert.KernelIdeal.nD Cert.KernelIdeal.τ).loc Cert.KernelIdeal.main_arg3)

/-- The real numbers they hold: queries, keys, values, and the output's gradient. -/
def rq (h : Fin 4) (n : Fin 8192) (d : Fin 128) : ℝ := (A0 m c (ix3 h n d)).toReal
def rk (g : Fin 2) (t : Fin 8448) (d : Fin 128) : ℝ := (A1 m c (ix3 g t d)).toReal
def rv (g : Fin 2) (t : Fin 8448) (d : Fin 128) : ℝ := (A2 m c (ix3 g t d)).toReal
def rct (n : Fin 8192) (e : Fin 512) : ℝ := (A3 m c (ix2 n e)).toReal

variable (h : Cert.Pre_finite_arguments.fn (F := Ideal) (A0 m c) (A1 m c) (A2 m c) (A3 m c) = fun _ => 1#1)
include h

/-- The kernel's arguments hold them. -/
theorem kernelArgs : Cert.KernelIdeal.Attn.Args m c (rq m c) (rk m c) (rv m c) (rct m c) := by
  obtain ⟨h0, h1, h2, h3⟩ := Cert.Pre_finite_arguments.reals _ _ _ _ h
  exact ⟨fun a n d => eq_coe (h0 _), fun g t d => eq_coe (h1 _), fun g t d => eq_coe (h2 _), fun n e => eq_coe (h3 _)⟩

/-- The reference's arguments, being the same arrays, hold them. -/
theorem refArgs : Cert.ReferenceIdeal.Attn.Args (A0 m c) (A1 m c) (A2 m c) (A3 m c) (rq m c) (rk m c) (rv m c) (rct m c) := by
  obtain ⟨h0, h1, h2, h3⟩ := Cert.Pre_finite_arguments.reals _ _ _ _ h
  exact ⟨fun a n d => eq_coe (h0 _), fun g t d => eq_coe (h1 _), fun g t d => eq_coe (h2 _), fun n e => eq_coe (h3 _)⟩

open Cert.ReferenceIdeal.Read in
/-- The attention's output. -/
theorem out_eq : val_main_v40 (F := Ideal) (A0 m c) (A1 m c) (A2 m c) = fun i : Cert.KernelIdeal.S8192x512.Idx =>
    ((att (rq m c) (rk m c) (rv m c) ⟨(i 1).val / 128, by have : (i 1).val < 512 := (i 1).isLt; omega⟩ (i 0) ⟨(i 1).val % 128, by omega⟩ : ℝ) : EReal) := by
  funext i
  have hi : (i 1).val < 512 := (i 1).isLt
  have e : i = (ix2 (i 0) (col ⟨(i 1).val / 128, by omega⟩ ⟨(i 1).val % 128, by omega⟩) : Cert.KernelIdeal.S8192x512.Idx) := by
    have e1 : (i 1 : Fin 512) = col ⟨(i 1).val / 128, by omega⟩ ⟨(i 1).val % 128, by omega⟩ :=
      Fin.ext (by show (i 1).val = 128 * ((i 1).val / 128) + (i 1).val % 128; omega)
    rw [← e1]; exact eq_ix2 i
  exact (congrArg _ e).trans (Cert.ReferenceIdeal.Attn.out_at (refArgs m c h) _ _ _)

open Cert.ReferenceIdeal.Read in
/-- The gradient of the queries. -/
theorem dq_eq : val_main_v71 (F := Ideal) (A0 m c) (A1 m c) (A2 m c) (A3 m c) = fun i : Cert.KernelIdeal.S4x8192x128.Idx =>
    ((gradQ (rq m c) (rk m c) (rv m c) (rct m c) (i 0) (i 1) (i 2) : ℝ) : EReal) := by
  funext i
  exact (congrArg _ (eq_ix3 i)).trans (Cert.ReferenceIdeal.Attn.dq_at (refArgs m c h) _ _ _)

open Cert.ReferenceIdeal.Read in
/-- The gradient of the keys. -/
theorem dk_eq : val_main_v69 (F := Ideal) (A0 m c) (A1 m c) (A2 m c) (A3 m c) = fun i : Cert.KernelIdeal.S2x8448x128.Idx =>
    ((gradK (rq m c) (rk m c) (rv m c) (rct m c) (i 0) (i 1) (i 2) : ℝ) : EReal) := by
  funext i
  exact (congrArg _ (eq_ix3 i)).trans (Cert.ReferenceIdeal.Attn.dk_at (refArgs m c h) _ _ _)

open Cert.ReferenceIdeal.Read in
/-- The gradient of the values. -/
theorem dv_eq : val_main_v67 (F := Ideal) (A0 m c) (A1 m c) (A3 m c) = fun i : Cert.KernelIdeal.S2x8448x128.Idx =>
    ((gradV (rq m c) (rk m c) (rct m c) (i 0) (i 1) (i 2) : ℝ) : EReal) := by
  funext i
  exact (congrArg _ (eq_ix3 i)).trans (Cert.ReferenceIdeal.Attn.dv_at (refArgs m c h) _ _ _)

end

/-- From memories that agree on the arguments, every entry of them a real number, both programs run, end with equal results, and
    leave their arguments as they were. -/
theorem holds : Cert.algebraic_KernelIdeal_ReferenceIdeal_pre_finite_arguments (hKernelIdeal := Cert.KernelIdeal.Gen.facts)
    (hReferenceIdeal := Cert.ReferenceIdeal.Gen.facts) (hPre_finite_arguments := Cert.Pre_finite_arguments.facts) := by
  intro m g m' g' hp ha
  refine ⟨fun c => (Cert.KernelIdeal.Gen.dat0 (Cert.KernelIdeal.Gen.V1 m g) c).arrAt 3 Cert.KernelIdeal.cfg0.N,
    fun c => (Cert.KernelIdeal.Gen.dat1 (Cert.KernelIdeal.Gen.V2 m g) c).arrAt 6 Cert.KernelIdeal.cfg1.N,
    fun c => (Cert.KernelIdeal.Gen.dat1 (Cert.KernelIdeal.Gen.V2 m g) c).arrAt 7 Cert.KernelIdeal.cfg1.N,
    fun c => (Cert.KernelIdeal.Gen.dat1 (Cert.KernelIdeal.Gen.V2 m g) c).arrAt 8 Cert.KernelIdeal.cfg1.N,
    Cert.KernelIdeal.Attn.run_results (F := Ideal) m g, ?_⟩
  refine (θ_run Cert.ReferenceIdeal.defs _ _).mono (fun r h c => ?_) (Cert.ReferenceIdeal.Value.run (F := Ideal) m' g')
  obtain ⟨a0, a1, a2, a3⟩ := ha c
  have hc := hp c
  have K := kernelArgs m c hc
  have E := Cert.KernelIdeal.Attn.entry g K
  have E2 := Cert.KernelIdeal.Attn.entry2 g K
  obtain ⟨h0, h1, h2, h3, hr⟩ := h c
  refine ⟨h0.trans ?_, h1.trans ?_, h2.trans ?_, h3.trans ?_, hr⟩
  · rw [Cert.ReferenceIdeal.Read.val_main_v40_eq, a0, a1, a2]
    exact (out_eq m c hc).trans (Cert.KernelIdeal.Attn.arr3 E).symm
  · rw [Cert.ReferenceIdeal.Read.val_main_v71_eq, a0, a1, a2, a3]
    exact (dq_eq m c hc).trans (Cert.KernelIdeal.Attn.arr6 E2).symm
  · rw [Cert.ReferenceIdeal.Read.val_main_v69_eq, a0, a1, a2, a3]
    exact (dk_eq m c hc).trans (Cert.KernelIdeal.Attn.arr7 E2).symm
  · rw [Cert.ReferenceIdeal.Read.val_main_v67_eq, a0, a1, a3]
    exact (dv_eq m c hc).trans (Cert.KernelIdeal.Attn.arr8 E2).symm

end Cert.Algebraic

end
-- ==== Proof.NormMath.lean ====
/-
  THE MATHEMATICS of a normalised row's gradient over the extended reals: the kernel's form, which works with the normalised
  row, and the derivative's, which works with the row itself. Both are the same extended real at any entries, finite or not.
  Nothing here mentions a program.
-/
module

public import Idealize.ShloMosaic.PureOps.Ideal

@[expose] public section

noncomputable section

namespace Cert.Norm

open Idealize.ShloMosaic

/-! ## Constants -/

theorem word_1024 : Ideal.ofBits .f32 0x44800000#32 = ((1024 : ℝ) : EReal) := by
  simp [Ideal.ofBits, Ideal.ieee]; rw [← EReal.coe_mul]; norm_num

theorem word_neg_half : Ideal.ofBits .f32 0xBF000000#32 = ((-(1 / 2) : ℝ) : EReal) := by
  simp [Ideal.ofBits, Ideal.ieee]; rw [← EReal.coe_mul]; norm_num

/-- The small number added to the mean of the squares is positive. -/
theorem word_eps : ∃ e : ℝ, 0 < e ∧ Ideal.ofBits .f32 0x358637BD#32 = (e : EReal) := by
  refine ⟨8796093 * 2 ^ (-43 : ℤ), by positivity, ?_⟩
  simp [Ideal.ofBits, Ideal.ieee]

/-! ## Extended reals -/

/-- A non-negative real factor distributes over a sum. -/
theorem coe_mul_sum {r : ℝ} (hr : 0 ≤ r) (x y : EReal) : (r : EReal) * (x + y) = (r : EReal) * x + (r : EReal) * y :=
  EReal.left_distrib_of_nonneg_of_ne_top (by exact_mod_cast hr) (EReal.coe_ne_top r) x y

/-- A non-negative real factor may be taken out of a sum. -/
theorem sum_mul_coe {ι : Type*} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih, mul_comm _ (r : EReal), mul_comm _ (r : EReal), mul_comm _ (r : EReal),
      coe_mul_sum hr]

/-- A product with a non-negative real, twice, is the product with its double. -/
theorem twice_mul_coe (b : EReal) {k : ℝ} (hk : 0 ≤ k) : b * (k : EReal) + b * (k : EReal) = b * ((k + k : ℝ) : EReal) := by
  rw [EReal.coe_add, mul_comm b, mul_comm b, EReal.right_distrib_of_nonneg (by exact_mod_cast hk) (by exact_mod_cast hk)]

/-- The same for the negated product. -/
theorem twice_neg (b : EReal) {k : ℝ} (hk : 0 ≤ k) : b * ((-k : ℝ) : EReal) + b * ((-k : ℝ) : EReal) = -(b * ((k + k : ℝ) : EReal)) := by
  rw [EReal.coe_neg, mul_neg, ← neg_mul, twice_mul_coe _ hk, neg_mul]

theorem sq_entry_nonneg (x : EReal) : 0 ≤ x * x := by
  induction x with
  | bot => simp
  | top => simp
  | coe r => exact_mod_cast _root_.mul_self_nonneg r

/-- A non-negative extended real is a non-negative real, or the top. -/
theorem coe_or_top {x : EReal} (h : 0 ≤ x) : (∃ r : ℝ, 0 ≤ r ∧ x = (r : EReal)) ∨ x = ⊤ := by
  induction x with
  | bot => exact absurd h (by simp)
  | top => exact .inr rfl
  | coe r => exact .inl ⟨r, by exact_mod_cast h, rfl⟩

/-! ## A row -/

section Row
variable {n : Nat} (X G : Fin n → EReal)

/-- The mean of the squares, and the small number. -/
def msq : EReal := Ideal.div (∑ e, X e * X e) (Ideal.ofBits .f32 0x44800000#32) + Ideal.ofBits .f32 0x358637BD#32

/-- The row's factor. -/
def fac : EReal := Ideal.rsqrt (msq X)

/-- The gradient, in the kernel's form. -/
def back (o : EReal) (d : Fin n) : EReal :=
  fac X * (G d - X d * fac X * Ideal.div (∑ e, G e * (X e * fac X)) (Ideal.ofBits .f32 0x44800000#32)) + o

/-- What the derivative hands to the row by way of its factor. -/
def via : EReal :=
  Ideal.div ((∑ e, X e * G e) * (Ideal.ofBits .f32 0xBF000000#32 * Ideal.div (fac X) (msq X))) (Ideal.ofBits .f32 0x44800000#32)

/-- The mean square is a positive real, or the top. -/
theorem msq_cases : (∃ μ : ℝ, 0 < μ ∧ msq X = (μ : EReal)) ∨ msq X = ⊤ := by
  obtain ⟨e, he, hw⟩ := word_eps
  have hs : 0 ≤ ∑ e, X e * X e := Finset.sum_nonneg fun e _ => sq_entry_nonneg (X e)
  unfold msq
  rw [hw, word_1024, Ideal.div_coe (by norm_num)]
  rcases coe_or_top hs with ⟨r, hr, h⟩ | h
  · left
    refine ⟨r * (1 / 1024) + e, by positivity, ?_⟩
    rw [h, ← EReal.coe_mul, ← EReal.coe_add]
  · right
    rw [h, EReal.top_mul_coe_of_pos (by norm_num), EReal.top_add_coe]

/-- The two forms agree. -/
theorem back_eq (o : EReal) (d : Fin n) : back X G o d = (o + G d * fac X + X d * via X G) + via X G * X d := by
  unfold back via fac
  rcases msq_cases X with ⟨μ, hμ, h⟩ | h
  · have hq : Ideal.rsqrt (msq X) = (((Real.sqrt μ)⁻¹ : ℝ) : EReal) := by
      rw [h, Ideal.rsqrt_coe, if_neg (not_lt.mpr hμ.le), if_neg hμ.ne']
    have hs : Real.sqrt μ * Real.sqrt μ = μ := Real.mul_self_sqrt hμ.le
    have hp : 0 < Real.sqrt μ := Real.sqrt_pos.mpr hμ
    rw [hq, h, word_1024, word_neg_half, Ideal.div_coe hμ.ne', Ideal.div_coe (by norm_num), Ideal.div_coe (by norm_num)]
    generalize hσ : Real.sqrt μ = σ at *
    subst hs
    have hσi : (0 : ℝ) ≤ σ⁻¹ := by positivity
    have e1 : ∑ e, G e * (X e * ((σ⁻¹ : ℝ) : EReal)) = (∑ e, X e * G e) * ((σ⁻¹ : ℝ) : EReal) := by
      rw [← sum_mul_coe _ _ hσi]
      exact Finset.sum_congr rfl fun e _ => by rw [← mul_assoc, mul_comm (G e)]
    rw [e1]
    generalize (∑ e, X e * G e) = S
    have e2 : X d * ((σ⁻¹ : ℝ) : EReal) * (S * ((σ⁻¹ : ℝ) : EReal) * ((1 / 1024 : ℝ) : EReal))
        = (X d * S) * ((σ⁻¹ * σ⁻¹ * (1 / 1024) : ℝ) : EReal) := by
      push_cast; ac_rfl
    have e3 : S * (((-(1 / 2) : ℝ) : EReal) * (((σ⁻¹ : ℝ) : EReal) * ((1 / (σ * σ) : ℝ) : EReal))) * ((1 / 1024 : ℝ) : EReal)
        = S * ((-(1 / 2 * (σ⁻¹ * (1 / (σ * σ)) * (1 / 1024))) : ℝ) : EReal) := by
      rw [← EReal.coe_mul, ← EReal.coe_mul, mul_assoc, ← EReal.coe_mul]
      congr 2; ring
    rw [e2, e3, mul_comm (S * _) (X d), ← mul_assoc (X d) S, add_assoc (o + _), twice_neg _ (by positivity), sub_eq_add_neg,
      coe_mul_sum hσi, mul_neg, add_comm o, add_assoc, add_assoc, mul_comm ((σ⁻¹ : ℝ) : EReal) (G d), add_comm o]
    congr 3
    rw [mul_comm, mul_assoc, ← EReal.coe_mul]
    congr 2
    field_simp
    ring
  · have h0 : (Ideal.div 0 ⊤ : EReal) = 0 := by
      unfold Ideal.div; rw [if_neg (by simp), zero_mul]
    have h1 : (Ideal.div 0 ((1024 : ℝ) : EReal) : EReal) = 0 := by
      rw [Ideal.div_coe (by norm_num), zero_mul]
    rw [h, Ideal.rsqrt_top, word_1024, h0]
    simp only [mul_zero, zero_mul, h1, zero_add, add_zero]

end Row

/-! ## The whole gradient -/

/-- The arguments' entries: the residual `x` and the gated branch `y`, the gate, the norm's gain, the modulation's scale, the
    projection, and the gradients that arrive at the residual and at the projection's two halves. -/
structure Args where
  x : Fin 8192 → Fin 1024 → EReal
  y : Fin 8192 → Fin 1024 → EReal
  g : Fin 1024 → EReal
  gain : Fin 1024 → EReal
  scale : Fin 1024 → EReal
  w : Fin 1024 → Fin 5632 → EReal
  dxo : Fin 8192 → Fin 1024 → EReal
  dgate : Fin 8192 → Fin 2816 → EReal
  dval : Fin 8192 → Fin 2816 → EReal

namespace Args
variable (a : Args)

/-- The residual with its gated branch. -/
def xr (n : Fin 8192) (d : Fin 1024) : EReal := a.x n d + a.g d * a.y n d

/-- What arrives at the modulated norm, through the projection's two halves. -/
def dav (n : Fin 8192) (d : Fin 1024) : EReal :=
  ∑ j : Fin 2816, a.dgate n j * a.w d ⟨j.val, by omega⟩ + ∑ j : Fin 2816, a.dval n j * a.w d ⟨2816 + j.val, by omega⟩

/-- What arrives at the norm. -/
def dn (n : Fin 8192) (d : Fin 1024) : EReal := a.dav n d * (Ideal.ofBits .f32 0x3F800000#32 + a.scale d)

/-- The normalised row. -/
def xh (n : Fin 8192) (d : Fin 1024) : EReal := a.xr n d * fac (a.xr n)

/-- The gradient of the residual. -/
def dx (n : Fin 8192) (d : Fin 1024) : EReal := back (a.xr n) (fun e => a.dn n e * a.gain e) (a.dxo n d) d

def dy (n : Fin 8192) (d : Fin 1024) : EReal := a.dx n d * a.g d
def dshift (d : Fin 1024) : EReal := ∑ n, a.dav n d
def dscale (d : Fin 1024) : EReal := ∑ n, a.dav n d * (a.xh n d * a.gain d)
def dgain (d : Fin 1024) : EReal := ∑ n, a.dn n d * a.xh n d
def dg (d : Fin 1024) : EReal := ∑ n, a.dx n d * a.y n d

end Args

end Cert.Norm

end
-- ==== Proof.NormBlock.lean ====
/-
  WHAT ONE POINT OF THE NORM'S BACKWARD CALL COMPUTES from its blocks: the gradient that arrives through the two products, the
  rows' factors, the residual's gradient, and the point's parts of the four column sums.
-/
module

public import proofs.«01_k».proof.Proof.NormMath
public import proofs.«01_k».proof.Proof.Gen.Kernel2Ideal.Skeleton
public import Idealize.ShloMosaic.Lib.Pointwise

@[expose] public section

set_option maxRecDepth 16384

noncomputable section

namespace Cert.Kernel2Ideal.Norm

open Idealize.ShloMosaic Idealize.ShloMosaic.TcCoe Idealize.SL.Sem
open Cert.Kernel2Ideal Cert.Kernel2Ideal.Gen Cert.Norm

/-- The projection's rows for the first half, and for the second. -/
abbrev top (x2 : Vec Ideal S5632x1024 .bf16) : Vec Ideal S2816x1024 .bf16 := View.ld x2 (Rect.unit ![0, 0] ![2816, 1024] inb_S5632x1024_S2816x1024_0_0)
abbrev low (x2 : Vec Ideal S5632x1024 .bf16) : Vec Ideal S2816x1024 .bf16 := View.ld x2 (Rect.unit ![2816, 0] ![2816, 1024] inb_S5632x1024_S2816x1024_2816_0)

theorem pay8_at (x0 x1 : Vec Ideal S256x2816 .bf16) (x2 : Vec Ideal S5632x1024 .bf16) (r : Fin 256) (d : Fin 1024) :
    k0_pay8 x0 (top x2) x1 (low x2) (ix2 r d)
      = ∑ j : Fin 2816, x0 (ix2 r j) * x2 (ix2 ⟨j.val, by omega⟩ d) + ∑ j : Fin 2816, x1 (ix2 r j) * x2 (ix2 ⟨2816 + j.val, by omega⟩ d) := by
  pointwise [k0_pay8, top, low]

section Rows
variable (x3 : Vec Ideal S256x1024 .f32)

theorem pay10_at (r : Fin 256) : k0_pay10 x3 (ix2 r 0) = fac (fun e : Fin 1024 => x3 (ix2 r e)) := by
  unfold fac msq
  pointwise [k0_pay10, k0_pay9]

theorem pay11_at (r : Fin 256) (d : Fin 1024) : k0_pay11 x3 (ix2 r d) = x3 (ix2 r d) * fac (fun e : Fin 1024 => x3 (ix2 r e)) := by
  rw [← pay10_at]
  unfold k0_pay11
  generalize k0_pay10 x3 = a
  pointwise [k0_pay9]

variable (gain scale g : Vec Ideal S1x1024 .f32) (v : FVec Ideal S256x1024 .f32) (o y : Vec Ideal S256x1024 .f32)

theorem pay12_at (r : Fin 256) (d : Fin 1024) :
    k0_pay12 scale v (ix2 r d) = v (ix2 r d) * (Ideal.ofBits .f32 0x3F800000#32 + scale (ix2 0 d)) := by
  pointwise [k0_pay12]

theorem pay13_at (r : Fin 256) (d : Fin 1024) :
    k0_pay13 gain scale v o (k0_pay10 x3) (k0_pay11 x3) (ix2 r d)
      = back (fun e : Fin 1024 => x3 (ix2 r e)) (fun e : Fin 1024 => v (ix2 r e) * (Ideal.ofBits .f32 0x3F800000#32 + scale (ix2 0 e)) * gain (ix2 0 e))
          (o (ix2 r d)) d := by
  unfold back
  simp only [← pay11_at x3 r, ← pay12_at scale v r]
  rw [← pay10_at]
  unfold k0_pay13
  generalize k0_pay10 x3 = a
  generalize k0_pay11 x3 = b
  generalize k0_pay12 scale v = w
  pointwise

theorem pay17_at (a : FVec Ideal S256x1 .f32) (b : FVec Ideal S256x1024 .f32) (r : Fin 256) (d : Fin 1024) :
    k0_pay17 gain scale g v o a b (ix2 r d) = k0_pay13 gain scale v o a b (ix2 r d) * g (ix2 0 d) := by
  unfold k0_pay17
  generalize k0_pay13 gain scale v o a b = w
  pointwise

theorem pay14_at (b : FVec Ideal S256x1024 .f32) (d : Fin 1024) :
    k0_pay14 gain v b (ix2 0 d) = ∑ r : Fin 256, v (ix2 r d) * (b (ix2 r d) * gain (ix2 0 d)) := by
  pointwise [k0_pay14]

theorem pay15_at (b : FVec Ideal S256x1024 .f32) (d : Fin 1024) :
    k0_pay15 scale v b (ix2 0 d) = ∑ r : Fin 256, k0_pay12 scale v (ix2 r d) * b (ix2 r d) := by
  unfold k0_pay15
  generalize k0_pay12 scale v = w
  pointwise

theorem pay16_at (a : FVec Ideal S256x1 .f32) (b : FVec Ideal S256x1024 .f32) (d : Fin 1024) :
    k0_pay16 gain scale v o y a b (ix2 0 d) = ∑ r : Fin 256, k0_pay13 gain scale v o a b (ix2 r d) * y (ix2 r d) := by
  unfold k0_pay16
  generalize k0_pay13 gain scale v o a b = w
  pointwise

theorem pay18_at (s : Vec Ideal S1x1024 .f32) (d : Fin 1024) :
    k0_pay18 v s (ix2 0 d) = s (ix2 0 d) + ∑ r : Fin 256, v (ix2 r d) := by
  pointwise [k0_pay18]

theorem pay1_at (p : FVec Ideal S1x1024 .f32) (s : Vec Ideal S1x1024 .f32) (d : Fin 1024) : k0_pay1 p s (ix2 0 d) = s (ix2 0 d) + p (ix2 0 d) := by
  pointwise [k0_pay1]
theorem pay2_at (p : FVec Ideal S1x1024 .f32) (s : Vec Ideal S1x1024 .f32) (d : Fin 1024) : k0_pay2 p s (ix2 0 d) = s (ix2 0 d) + p (ix2 0 d) := by
  pointwise [k0_pay2]
theorem pay3_at (p : FVec Ideal S1x1024 .f32) (s : Vec Ideal S1x1024 .f32) (d : Fin 1024) : k0_pay3 p s (ix2 0 d) = s (ix2 0 d) + p (ix2 0 d) := by
  pointwise [k0_pay3]
theorem pay4_at (d : Fin 1024) : k0_pay4 (F := Ideal) (ix2 0 d) = 0 := by
  pointwise [k0_pay4]
theorem pay5_at (d : Fin 1024) : k0_pay5 (F := Ideal) (ix2 0 d) = 0 := by
  pointwise [k0_pay5]
theorem pay6_at (d : Fin 1024) : k0_pay6 (F := Ideal) (ix2 0 d) = 0 := by
  pointwise [k0_pay6]
theorem pay7_at (d : Fin 1024) : k0_pay7 (F := Ideal) (ix2 0 d) = 0 := by
  pointwise [k0_pay7]

end Rows

end Cert.Kernel2Ideal.Norm

end
-- ==== Proof.NormArray.lean ====
/-
  WHAT THE NORM'S BACKWARD CALL LEAVES in its six arrays, at any arguments: the gradients of the residual and of its gated
  branch, and the four column sums.
-/
module

public import proofs.«01_k».proof.Proof.NormBlock
public import proofs.«01_k».proof.Proof.Gen.Kernel2Ideal.Value
public import Idealize.ShloMosaic.Lib.StableHlo.ReadAt
public import Idealize.ShloMosaic.Lib.Pipeline.ValueKit

@[expose] public section

set_option maxRecDepth 16384

noncomputable section

namespace Cert.Kernel2Ideal.Norm

open Idealize.ShloMosaic Idealize.ShloMosaic.TcCoe Idealize.SL.Sem
open Idealize.ShloMosaic.Pipeline (Dat)
open Cert.Kernel2Ideal Cert.Kernel2Ideal.Gen Cert.Norm

/-- A sum over 32 blocks of 256 rows is one over the rows. -/
theorem sum_blocks (F : Fin 8192 → EReal) : ∑ i : Fin 32, ∑ r : Fin 256, F ⟨i.val * 256 + r.val, by omega⟩ = ∑ n, F n :=
  Fin.sum_mul_add_fin 32 256 F

variable (m : (ℓ : Loc nD τ sig) → Buf (Elt Ideal) ℓ) (c : Dev nD)

/-- The entries of one device's arguments. -/
def args : Args where
  x n d := (m ((c.tc : Thread nD τ).loc main_arg0) : S8192x1024.Idx → EReal) (ix2 n d)
  y n d := (m ((c.tc : Thread nD τ).loc main_arg1) : S8192x1024.Idx → EReal) (ix2 n d)
  g d := (m ((c.tc : Thread nD τ).loc main_arg2) : S1x1024.Idx → EReal) (ix2 0 d)
  gain d := (m ((c.tc : Thread nD τ).loc main_arg3) : S1x1024.Idx → EReal) (ix2 0 d)
  scale d := (m ((c.tc : Thread nD τ).loc main_arg5) : S1x1024.Idx → EReal) (ix2 0 d)
  w d j := (m ((c.tc : Thread nD τ).loc main_arg6) : S1024x5632.Idx → EReal) (ix2 d j)
  dxo n d := (m ((c.tc : Thread nD τ).loc main_arg7) : S8192x1024.Idx → EReal) (ix2 n d)
  dgate n j := (m ((c.tc : Thread nD τ).loc main_arg8) : S8192x2816.Idx → EReal) (ix2 n j)
  dval n j := (m ((c.tc : Thread nD τ).loc main_arg9) : S8192x2816.Idx → EReal) (ix2 n j)

/-! ## What the call finds -/

theorem v1_at (j : Fin 5632) (d : Fin 1024) : V m c main_v1 (ix2 j d : S5632x1024.Idx) = (args m c).w d j := by
  unfold args
  show StableHlo.after hostOps0 (fun b => m (c, b)) (Proc.devRef .tc main_v1) (ix2 j d : S5632x1024.Idx) = _
  unfold hostOps0
  after_reads_at

theorem v2_at (n : Fin 8192) (j : Fin 2816) : V m c main_v2 (ix2 n j : S8192x2816.Idx) = (args m c).dgate n j := by
  unfold args
  show StableHlo.after hostOps0 (fun b => m (c, b)) (Proc.devRef .tc main_v2) (ix2 n j : S8192x2816.Idx) = _
  unfold hostOps0
  after_reads_at

theorem v3_at (n : Fin 8192) (j : Fin 2816) : V m c main_v3 (ix2 n j : S8192x2816.Idx) = (args m c).dval n j := by
  unfold args
  show StableHlo.after hostOps0 (fun b => m (c, b)) (Proc.devRef .tc main_v3) (ix2 n j : S8192x2816.Idx) = _
  unfold hostOps0
  after_reads_at

theorem v6_at (n : Fin 8192) (d : Fin 1024) : V m c main_v6 (ix2 n d : S8192x1024.Idx) = (args m c).xr n d := by
  unfold Args.xr args
  show StableHlo.after hostOps0 (fun b => m (c, b)) (Proc.devRef .tc main_v6) (ix2 n d : S8192x1024.Idx) = _
  unfold hostOps0
  after_reads_at

/-! ## The blocks -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel

/-- The token of row `r` of point `t`. -/
def pn (t : Fin cfg0.N) (r : Fin 256) : Fin 8192 := ⟨t.val * 256 + r.val, by have := t.isLt; have : cfg0.N = 32 := rfl; omega⟩

theorem blk0 (t : Fin cfg0.N) (r : Fin 256) (j : Fin 2816) : iblk m c 0 t (ix2 r j : S256x2816.Idx) = (args m c).dgate (pn t r) j := by
  rw [← v2_at]
  blk_simp [iblk]
  exact congrArg _ (by unfold pn; blk_ext [idx0])

theorem blk1 (t : Fin cfg0.N) (r : Fin 256) (j : Fin 2816) : iblk m c 1 t (ix2 r j : S256x2816.Idx) = (args m c).dval (pn t r) j := by
  rw [← v3_at]
  blk_simp [iblk]
  exact congrArg _ (by unfold pn; blk_ext [idx1])

theorem blk2 (t : Fin cfg0.N) (j : Fin 5632) (d : Fin 1024) : iblk m c 2 t (ix2 j d : S5632x1024.Idx) = (args m c).w d j := by
  rw [← v1_at]
  blk_simp [iblk]
  exact congrArg _ (by blk_ext [idx2])

theorem blk3 (t : Fin cfg0.N) (r : Fin 256) (d : Fin 1024) : iblk m c 3 t (ix2 r d : S256x1024.Idx) = (args m c).xr (pn t r) d := by
  rw [← v6_at]
  blk_simp [iblk]
  exact congrArg _ (by unfold pn; blk_ext [idx3])

theorem blk4 (t : Fin cfg0.N) (r : Fin 256) (d : Fin 1024) : iblk m c 4 t (ix2 r d : S256x1024.Idx) = (args m c).dxo (pn t r) d := by
  unfold args
  dsimp only
  rw [← V_main_arg7 m c]
  blk_simp [iblk]
  exact congrArg _ (by unfold pn; blk_ext [idx4])

theorem blk5 (t : Fin cfg0.N) (r : Fin 256) (d : Fin 1024) : iblk m c 5 t (ix2 r d : S256x1024.Idx) = (args m c).y (pn t r) d := by
  unfold args
  dsimp only
  rw [← V_main_arg1 m c]
  blk_simp [iblk]
  exact congrArg _ (by unfold pn; blk_ext [idx5])

theorem blk6 (t : Fin cfg0.N) (d : Fin 1024) : iblk m c 6 t (ix2 0 d : S1x1024.Idx) = (args m c).gain d := by
  unfold args
  dsimp only
  rw [← V_main_arg3 m c]
  blk_simp [iblk]
  exact congrArg _ (by blk_ext [idx6])

theorem blk7 (t : Fin cfg0.N) (d : Fin 1024) : iblk m c 7 t (ix2 0 d : S1x1024.Idx) = (args m c).scale d := by
  unfold args
  dsimp only
  rw [← V_main_arg5 m c]
  blk_simp [iblk]
  exact congrArg _ (by blk_ext [idx7])

theorem blk8 (t : Fin cfg0.N) (d : Fin 1024) : iblk m c 8 t (ix2 0 d : S1x1024.Idx) = (args m c).g d := by
  unfold args
  dsimp only
  rw [← V_main_arg2 m c]
  blk_simp [iblk]
  exact congrArg _ (by blk_ext [idx8])

/-! ## One point -/

/-- What arrives through the two products at point `t`. -/
abbrev pv (t : Fin cfg0.N) : FVec Ideal S256x1024 .f32 :=
  k0_pay8 (F := Ideal) (iblk m c 0 t) (top (iblk m c 2 t)) (iblk m c 1 t) (low (iblk m c 2 t))

theorem pv_at (t : Fin cfg0.N) (r : Fin 256) (d : Fin 1024) : pv m c t (ix2 r d) = (args m c).dav (pn t r) d := by
  refine (pay8_at _ _ _ r d).trans ?_
  simp only [blk0, blk1, blk2]
  rfl

theorem xh_at (t : Fin cfg0.N) (r : Fin 256) (d : Fin 1024) :
    k0_pay11 (F := Ideal) (iblk m c 3 t) (ix2 r d) = (args m c).xh (pn t r) d := by
  rw [pay11_at]
  simp only [blk3]
  rfl

theorem dn_at (t : Fin cfg0.N) (r : Fin 256) (d : Fin 1024) :
    k0_pay12 (F := Ideal) (iblk m c 7 t) (pv m c t) (ix2 r d) = (args m c).dn (pn t r) d := by
  rw [pay12_at, pv_at, blk7]
  rfl

theorem dx_at (t : Fin cfg0.N) (r : Fin 256) (d : Fin 1024) :
    k0_pay13 (F := Ideal) (iblk m c 6 t) (iblk m c 7 t) (pv m c t) (iblk m c 4 t) (k0_pay10 (iblk m c 3 t)) (k0_pay11 (iblk m c 3 t)) (ix2 r d)
      = (args m c).dx (pn t r) d := by
  rw [pay13_at]
  simp only [blk3, blk4, blk6, blk7, pv_at]
  rfl

/-- The residual's gradient at a point's block. -/
theorem out9 (t : Fin cfg0.N) (r : Fin 256) (d : Fin 1024) : (outsAt0 m c t.val t.isLt).1 (ix2 r d) = (args m c).dx (pn t r) d := by
  rw [← dx_at]
  refine congrFun ?_ _
  by_cases h : t.val % 32 = 0
  · rw [outsAt0_A m c t h]; frame_out
  · rw [outsAt0_B m c t h]; frame_out

/-- The gated branch's. -/
theorem out10 (t : Fin cfg0.N) (r : Fin 256) (d : Fin 1024) : (outsAt0 m c t.val t.isLt).2.1 (ix2 r d) = (args m c).dy (pn t r) d := by
  unfold Args.dy
  rw [← dx_at, ← blk8 m c t, ← pay17_at]
  refine congrFun ?_ _
  by_cases h : t.val % 32 = 0
  · rw [outsAt0_A m c t h]; frame_out
  · rw [outsAt0_B m c t h]; frame_out

/-! ## The column sums -/

/-- A sum kept over the grid's points, a block of rows at each, is the sum over the rows. -/
theorem fold_rows (f : (n : ℕ) → n < cfg0.N → EReal) (F : Fin 8192 → EReal)
    (h0 : ∀ t : Fin cfg0.N, t.val % 32 = 0 → f t.val t.isLt = 0 + ∑ r, F (pn t r))
    (h1 : ∀ t : Fin cfg0.N, ∀ h : ¬t.val % 32 = 0, f t.val t.isLt = f (t.val - 1) (by have := t.isLt; omega) + ∑ r, F (pn t r))
    (t : Fin cfg0.N) (ht : t.val % 32 = 31) : f t.val t.isLt = ∑ n, F n := by
  have H := Pipeline.eq_sum_fin_of_reset_step_apply_of_flush (N := cfg0.N) (M := EReal) (ι := Unit)
    (fun n h _ => f n h) 32 (fun _ => 0) (fun t _ => ∑ r, F (pn t r)) (fun t h _ => h0 t h) (fun t h _ => h1 t h) t ht ()
  refine H.trans ?_
  rw [zero_add, ← sum_blocks F]
  have hN : t.val < 32 := t.isLt
  refine Finset.sum_congr rfl fun s _ => Finset.sum_congr rfl fun r _ => ?_
  exact congrArg F (Fin.ext (by show (32 * (t.val / 32) + s.val) * 256 + r.val = s.val * 256 + r.val; omega))

theorem out11 (t : Fin cfg0.N) (ht : t.val % 32 = 31) (d : Fin 1024) : (outsAt0 m c t.val t.isLt).2.2.1 (ix2 0 d) = (args m c).dshift d := by
  have hs : ∀ t : Fin cfg0.N, ∑ r : Fin 256, pv m c t (ix2 r d) = ∑ r, (fun n => (args m c).dav n d) (pn t r) := fun t => by
    simp only [pv_at]
  refine fold_rows (fun n h => (outsAt0 m c n h).2.2.1 (ix2 0 d)) (fun n => (args m c).dav n d) (fun t h => ?_) (fun t h => ?_) t ht
  · rw [outsAt0_A m c t h]; frame_out
    exact (pay18_at _ _ d).trans (congrArg₂ _ (pay4_at d) (hs t))
  · rw [outsAt0_B m c t h]; frame_out
    exact (pay18_at _ _ d).trans (congrArg _ (hs t))

theorem out12 (t : Fin cfg0.N) (ht : t.val % 32 = 31) (d : Fin 1024) : (outsAt0 m c t.val t.isLt).2.2.2.1 (ix2 0 d) = (args m c).dscale d := by
  have hs : ∀ t : Fin cfg0.N, k0_pay14 (F := Ideal) (iblk m c 6 t) (pv m c t) (k0_pay11 (iblk m c 3 t)) (ix2 0 d)
      = ∑ r, (fun n => (args m c).dav n d * ((args m c).xh n d * (args m c).gain d)) (pn t r) := fun t => by
    rw [pay14_at]
    simp only [pv_at, xh_at, blk6]
  refine fold_rows (fun n h => (outsAt0 m c n h).2.2.2.1 (ix2 0 d)) (fun n => (args m c).dav n d * ((args m c).xh n d * (args m c).gain d))
    (fun t h => ?_) (fun t h => ?_) t ht
  · rw [outsAt0_A m c t h]; frame_out
    exact (pay1_at _ _ d).trans (congrArg₂ _ (pay5_at d) (hs t))
  · rw [outsAt0_B m c t h]; frame_out
    exact (pay1_at _ _ d).trans (congrArg _ (hs t))

theorem out13 (t : Fin cfg0.N) (ht : t.val % 32 = 31) (d : Fin 1024) : (outsAt0 m c t.val t.isLt).2.2.2.2.1 (ix2 0 d) = (args m c).dgain d := by
  have hs : ∀ t : Fin cfg0.N, k0_pay15 (F := Ideal) (iblk m c 7 t) (pv m c t) (k0_pay11 (iblk m c 3 t)) (ix2 0 d)
      = ∑ r, (fun n => (args m c).dn n d * (args m c).xh n d) (pn t r) := fun t => by
    rw [pay15_at]
    simp only [dn_at, xh_at]
  refine fold_rows (fun n h => (outsAt0 m c n h).2.2.2.2.1 (ix2 0 d)) (fun n => (args m c).dn n d * (args m c).xh n d)
    (fun t h => ?_) (fun t h => ?_) t ht
  · rw [outsAt0_A m c t h]; frame_out
    exact (pay2_at _ _ d).trans (congrArg₂ _ (pay6_at d) (hs t))
  · rw [outsAt0_B m c t h]; frame_out
    exact (pay2_at _ _ d).trans (congrArg _ (hs t))

theorem out14 (t : Fin cfg0.N) (ht : t.val % 32 = 31) (d : Fin 1024) : (outsAt0 m c t.val t.isLt).2.2.2.2.2 (ix2 0 d) = (args m c).dg d := by
  have hs : ∀ t : Fin cfg0.N, k0_pay16 (F := Ideal) (iblk m c 6 t) (iblk m c 7 t) (pv m c t) (iblk m c 4 t) (iblk m c 5 t)
        (k0_pay10 (iblk m c 3 t)) (k0_pay11 (iblk m c 3 t)) (ix2 0 d)
      = ∑ r, (fun n => (args m c).dx n d * (args m c).y n d) (pn t r) := fun t => by
    rw [pay16_at]
    simp only [dx_at, blk5]
  refine fold_rows (fun n h => (outsAt0 m c n h).2.2.2.2.2 (ix2 0 d)) (fun n => (args m c).dx n d * (args m c).y n d)
    (fun t h => ?_) (fun t h => ?_) t ht
  · rw [outsAt0_A m c t h]; frame_out
    exact (pay3_at _ _ d).trans (congrArg₂ _ (pay7_at d) (hs t))
  · rw [outsAt0_B m c t h]; frame_out
    exact (pay3_at _ _ d).trans (congrArg _ (hs t))

/-! ## The arrays -/

theorem arr9 : (dats m 0 c).arrAt 9 cfg0.N = fun i : S8192x1024.Idx => (args m c).dx (i 0) (i 1) := by
  refine (dats m 0 c).arrAt_eq_of_covers 9 _ (by decide +kernel) fun t hf y => ?_
  blk_simp [idx9]
  rw [after0_9]
  refine (congrArg _ (eq_ix2 (n0 := 256) (n1 := 1024) y)).trans ((out9 m c t (y 0) (y 1)).trans ?_)
  exact congrArg₂ _ (Fin.ext (by unfold pn; blk_simp [idx9])) (Fin.ext (by blk_simp [idx9]))

theorem arr10 : (dats m 0 c).arrAt 10 cfg0.N = fun i : S8192x1024.Idx => (args m c).dy (i 0) (i 1) := by
  refine (dats m 0 c).arrAt_eq_of_covers 10 _ (by decide +kernel) fun t hf y => ?_
  blk_simp [idx10]
  rw [after0_10]
  refine (congrArg _ (eq_ix2 (n0 := 256) (n1 := 1024) y)).trans ((out10 m c t (y 0) (y 1)).trans ?_)
  exact congrArg₂ _ (Fin.ext (by unfold pn; blk_simp [idx10])) (Fin.ext (by blk_simp [idx10]))

/-- The only row of an array of one row. -/
theorem row_zero (y : S1x1024.Idx) : y = ix2 0 (y 1) :=
  (eq_ix2 (n0 := 1) (n1 := 1024) y).trans (congrArg (fun z => (ix2 z (y 1) : S1x1024.Idx)) (Subsingleton.elim (α := Fin 1) _ _))

theorem arr11 : (dats m 0 c).arrAt 11 cfg0.N = fun i : S1x1024.Idx => (args m c).dshift (i 1) := by
  refine (dats m 0 c).arrAt_eq_of_covers 11 _ (by decide +kernel) fun t hf y => ?_
  have ht : t.val % 32 = 31 := (flush0_11 t).mp hf
  blk_simp [idx11]
  rw [after0_11]
  refine (congrArg _ (row_zero y)).trans ((out11 m c t ht (y 1)).trans ?_)
  exact congrArg _ (Fin.ext (by blk_simp [idx11]))

theorem arr12 : (dats m 0 c).arrAt 12 cfg0.N = fun i : S1x1024.Idx => (args m c).dscale (i 1) := by
  refine (dats m 0 c).arrAt_eq_of_covers 12 _ (by decide +kernel) fun t hf y => ?_
  have ht : t.val % 32 = 31 := (flush0_12 t).mp hf
  blk_simp [idx12]
  rw [after0_12]
  refine (congrArg _ (row_zero y)).trans ((out12 m c t ht (y 1)).trans ?_)
  exact congrArg _ (Fin.ext (by blk_simp [idx12]))

theorem arr13 : (dats m 0 c).arrAt 13 cfg0.N = fun i : S1x1024.Idx => (args m c).dgain (i 1) := by
  refine (dats m 0 c).arrAt_eq_of_covers 13 _ (by decide +kernel) fun t hf y => ?_
  have ht : t.val % 32 = 31 := (flush0_13 t).mp hf
  blk_simp [idx13]
  rw [after0_13]
  refine (congrArg _ (row_zero y)).trans ((out13 m c t ht (y 1)).trans ?_)
  exact congrArg _ (Fin.ext (by blk_simp [idx13]))

theorem arr14 : (dats m 0 c).arrAt 14 cfg0.N = fun i : S1x1024.Idx => (args m c).dg (i 1) := by
  refine (dats m 0 c).arrAt_eq_of_covers 14 _ (by decide +kernel) fun t hf y => ?_
  have ht : t.val % 32 = 31 := (flush0_14 t).mp hf
  blk_simp [idx14]
  rw [after0_14]
  refine (congrArg _ (row_zero y)).trans ((out14 m c t ht (y 1)).trans ?_)
  exact congrArg _ (Fin.ext (by blk_simp [idx14]))

end Cert.Kernel2Ideal.Norm

end
-- ==== Proof.NormRef.lean ====
/-
  THE REFERENCE'S SIX RESULTS of the norm's backward call, at any arguments: the gradients that `Proof/NormMath.lean` writes.
-/
module

public import proofs.«01_k».proof.Proof.NormMath
public import proofs.«01_k».proof.Proof.Gen.Reference2Ideal.Read
public import Idealize.ShloMosaic.Lib.Pointwise

@[expose] public section

set_option maxRecDepth 16384

noncomputable section

namespace Cert.Reference2Ideal.Norm

open Idealize.ShloMosaic Idealize.ShloMosaic.TcCoe
open Cert.Reference2Ideal Cert.Reference2Ideal.Read Cert.Norm

variable (x0 x1 : (⟨S8192x1024, .f32⟩ : BufTy).Contents (Elt Ideal)) (x2 x3 x5 : (⟨S1x1024, .f32⟩ : BufTy).Contents (Elt Ideal))
  (x6 : (⟨S1024x5632, .f32⟩ : BufTy).Contents (Elt Ideal)) (x7 : (⟨S8192x1024, .f32⟩ : BufTy).Contents (Elt Ideal))
  (x8 x9 : (⟨S8192x2816, .f32⟩ : BufTy).Contents (Elt Ideal))

/-- The arguments' entries. -/
def args : Args where
  x n d := x0 (ix2 n d)
  y n d := x1 (ix2 n d)
  g d := x2 (ix2 0 d)
  gain d := x3 (ix2 0 d)
  scale d := x5 (ix2 0 d)
  w d j := x6 (ix2 d j)
  dxo n d := x7 (ix2 n d)
  dgate n j := x8 (ix2 n j)
  dval n j := x9 (ix2 n j)

theorem v2_at (n : Fin 8192) (d : Fin 1024) : val_main_v2 (F := Ideal) x0 x1 x2 (ix2 n d) = (args x0 x1 x2 x3 x5 x6 x7 x8 x9).xr n d := by
  unfold Args.xr args
  pointwise [val_main_v2, val_main_v1, val_main_v0]

theorem v9_at (n : Fin 8192) : val_main_v9 (F := Ideal) x0 x1 x2 (ix2 n 0) = msq ((args x0 x1 x2 x3 x5 x6 x7 x8 x9).xr n) := by
  unfold msq
  simp only [← v2_at x0 x1 x2 x3 x5 x6 x7 x8 x9]
  unfold val_main_v9 val_main_v7 val_main_v5 val_main_v4 val_main_v3
  generalize val_main_v2 (F := Ideal) x0 x1 x2 = a
  pointwise [val_main_v8, val_main_v6, val_main_cst, val_main_cst_0, val_main_cst_1]

theorem v10_at (n : Fin 8192) : val_main_v10 (F := Ideal) x0 x1 x2 (ix2 n 0) = fac ((args x0 x1 x2 x3 x5 x6 x7 x8 x9).xr n) := by
  unfold fac
  rw [← v9_at x0 x1 x2 x3 x5 x6 x7 x8 x9]
  unfold val_main_v10
  generalize val_main_v9 (F := Ideal) x0 x1 x2 = a
  pointwise

theorem v13_at (n : Fin 8192) : val_main_v13 (F := Ideal) x0 x1 x2 (ix2 n 0)
    = Ideal.ofBits .f32 0xBF000000#32 * Ideal.div (fac ((args x0 x1 x2 x3 x5 x6 x7 x8 x9).xr n)) (msq ((args x0 x1 x2 x3 x5 x6 x7 x8 x9).xr n)) := by
  rw [← v10_at x0 x1 x2 x3 x5 x6 x7 x8 x9, ← v9_at x0 x1 x2 x3 x5 x6 x7 x8 x9]
  unfold val_main_v13 val_main_v11
  generalize val_main_v9 (F := Ideal) x0 x1 x2 = a
  generalize val_main_v10 (F := Ideal) x0 x1 x2 = b
  pointwise [val_main_v12, val_main_cst_2]

theorem v15_at (n : Fin 8192) (d : Fin 1024) : val_main_v15 (F := Ideal) x0 x1 x2 (ix2 n d) = (args x0 x1 x2 x3 x5 x6 x7 x8 x9).xh n d := by
  unfold Args.xh
  rw [← v10_at x0 x1 x2 x3 x5 x6 x7 x8 x9, ← v2_at x0 x1 x2 x3 x5 x6 x7 x8 x9]
  unfold val_main_v15 val_main_v14
  generalize val_main_v2 (F := Ideal) x0 x1 x2 = a
  generalize val_main_v10 (F := Ideal) x0 x1 x2 = b
  pointwise

theorem v27_lo (n : Fin 8192) (j : Fin 2816) : val_main_v27 (F := Ideal) x8 x9 (ix2 n (Fin.castAdd 2816 j)) = x8 (ix2 n j) := by
  pointwise [val_main_v27]
  rw [dif_pos (show (Fin.castAdd 2816 j).val < 2816 from j.isLt)]
  rfl

theorem v27_hi (n : Fin 8192) (j : Fin 2816) : val_main_v27 (F := Ideal) x8 x9 (ix2 n (Fin.natAdd 2816 j)) = x9 (ix2 n j) := by
  pointwise [val_main_v27]
  rw [dif_neg (show ¬(Fin.natAdd 2816 j).val < 2816 from by simp)]
  exact congrArg (fun e => x9 (ix2 n e)) (Fin.ext (by simp))

theorem v28_at (n : Fin 8192) (d : Fin 1024) : val_main_v28 (F := Ideal) x6 x8 x9 (ix2 n d) = (args x0 x1 x2 x3 x5 x6 x7 x8 x9).dav n d := by
  have h : val_main_v28 (F := Ideal) x6 x8 x9 (ix2 n d)
      = ∑ j : Fin (2816 + 2816), val_main_v27 (F := Ideal) x8 x9 (ix2 n j : S8192x5632.Idx) * x6 (ix2 d j : S1024x5632.Idx) := by
    unfold val_main_v28
    generalize val_main_v27 (F := Ideal) x8 x9 = a
    pointwise
  rw [h, Fin.sum_univ_add]
  simp only [v27_lo, v27_hi]
  rfl

theorem v35_at (n : Fin 8192) (d : Fin 1024) : val_main_v35 (F := Ideal) x5 x6 x8 x9 (ix2 n d) = (args x0 x1 x2 x3 x5 x6 x7 x8 x9).dn n d := by
  unfold Args.dn
  rw [← v28_at x0 x1 x2 x3 x5 x6 x7 x8 x9]
  unfold val_main_v35
  generalize val_main_v28 (F := Ideal) x6 x8 x9 = a
  unfold args
  pointwise [val_main_v34, val_main_v19, val_main_v18, val_main_cst_3]

theorem v40_at (n : Fin 8192) (d : Fin 1024) : val_main_v40 (F := Ideal) x3 x5 x6 x8 x9 (ix2 n d) = (args x0 x1 x2 x3 x5 x6 x7 x8 x9).dn n d * (args x0 x1 x2 x3 x5 x6 x7 x8 x9).gain d := by
  rw [← v35_at x0 x1 x2 x3 x5 x6 x7 x8 x9]
  unfold val_main_v40
  generalize val_main_v35 (F := Ideal) x5 x6 x8 x9 = a
  unfold args
  pointwise [val_main_v39]

theorem v49_at (n : Fin 8192) : val_main_v49 (F := Ideal) x0 x1 x2 x3 x5 x6 x8 x9 (ix2 n 0) = via ((args x0 x1 x2 x3 x5 x6 x7 x8 x9).xr n) (fun e => (args x0 x1 x2 x3 x5 x6 x7 x8 x9).dn n e * (args x0 x1 x2 x3 x5 x6 x7 x8 x9).gain e) := by
  unfold via
  rw [← v13_at]
  simp only [← v40_at x0 x1 x2 x3 x5 x6 x7 x8 x9, ← v2_at x0 x1 x2 x3 x5 x6 x7 x8 x9]
  unfold val_main_v49 val_main_v47 val_main_v43 val_main_v42 val_main_v41
  generalize val_main_v2 (F := Ideal) x0 x1 x2 = a
  generalize val_main_v13 (F := Ideal) x0 x1 x2 = b
  generalize val_main_v40 (F := Ideal) x3 x5 x6 x8 x9 = w
  pointwise [val_main_v48, val_main_cst_7, val_main_cst_8]

theorem v51_at (n : Fin 8192) (d : Fin 1024) :
    val_main_v51 (F := Ideal) x0 x1 x2 x3 x5 x6 x8 x9 (ix2 n d) = via ((args x0 x1 x2 x3 x5 x6 x7 x8 x9).xr n) (fun e => (args x0 x1 x2 x3 x5 x6 x7 x8 x9).dn n e * (args x0 x1 x2 x3 x5 x6 x7 x8 x9).gain e) := by
  rw [← v49_at]
  unfold val_main_v51 val_main_v50
  generalize val_main_v49 (F := Ideal) x0 x1 x2 x3 x5 x6 x8 x9 = a
  pointwise [val_main_cst_9]
  exact Fintype.sum_unique _

theorem v55_at (n : Fin 8192) (d : Fin 1024) : val_main_v55 (F := Ideal) x0 x1 x2 x3 x5 x6 x7 x8 x9 (ix2 n d) = (args x0 x1 x2 x3 x5 x6 x7 x8 x9).dx n d := by
  unfold Args.dx
  rw [back_eq, ← v51_at x0 x1 x2 x3 x5 x6 x7 x8 x9 n d, ← v10_at, ← v2_at x0 x1 x2 x3 x5 x6 x7 x8 x9]
  rw [← v40_at x0 x1 x2 x3 x5 x6 x7 x8 x9]
  unfold val_main_v55 val_main_v54 val_main_v53 val_main_v52 val_main_v46 val_main_v45 val_main_v44
  generalize val_main_v2 (F := Ideal) x0 x1 x2 = a
  generalize val_main_v10 (F := Ideal) x0 x1 x2 = b
  generalize val_main_v40 (F := Ideal) x3 x5 x6 x8 x9 = w
  generalize val_main_v51 (F := Ideal) x0 x1 x2 x3 x5 x6 x8 x9 = z
  unfold args
  pointwise

theorem v56_at (n : Fin 8192) (d : Fin 1024) : val_main_v56 (F := Ideal) x0 x1 x2 x3 x5 x6 x7 x8 x9 (ix2 n d) = (args x0 x1 x2 x3 x5 x6 x7 x8 x9).dx n d := by
  rw [← v55_at]
  unfold val_main_v56
  generalize val_main_v55 (F := Ideal) x0 x1 x2 x3 x5 x6 x7 x8 x9 = a
  pointwise

theorem v62_at (n : Fin 8192) (d : Fin 1024) : val_main_v62 (F := Ideal) x0 x1 x2 x3 x5 x6 x7 x8 x9 (ix2 n d) = (args x0 x1 x2 x3 x5 x6 x7 x8 x9).dy n d := by
  unfold Args.dy
  rw [← v56_at, mul_comm]
  unfold val_main_v62 val_main_v58
  generalize val_main_v56 (F := Ideal) x0 x1 x2 x3 x5 x6 x7 x8 x9 = a
  unfold args
  pointwise [val_main_v57]

theorem v30_at (d : Fin 1024) : val_main_v30 (F := Ideal) x6 x8 x9 (ix2 0 d) = (args x0 x1 x2 x3 x5 x6 x7 x8 x9).dshift d := by
  unfold Args.dshift
  simp only [← v28_at]
  unfold val_main_v30 val_main_v29
  generalize val_main_v28 (F := Ideal) x6 x8 x9 = a
  pointwise [val_main_cst_4]

theorem v33_at (d : Fin 1024) : val_main_v33 (F := Ideal) x0 x1 x2 x3 x6 x8 x9 (ix2 0 d) = (args x0 x1 x2 x3 x5 x6 x7 x8 x9).dscale d := by
  have h : ∀ n, (args x0 x1 x2 x3 x5 x6 x7 x8 x9).dav n d * ((args x0 x1 x2 x3 x5 x6 x7 x8 x9).xh n d * (args x0 x1 x2 x3 x5 x6 x7 x8 x9).gain d) = val_main_v15 (F := Ideal) x0 x1 x2 (ix2 n d) * x3 (ix2 0 d) * val_main_v28 (F := Ideal) x6 x8 x9 (ix2 n d) := fun n => by
    rw [v28_at x0 x1 x2 x3 x5 x6 x7 x8 x9, v15_at x0 x1 x2 x3 x5 x6 x7 x8 x9, mul_comm]
    rfl
  unfold Args.dscale
  simp only [h]
  unfold val_main_v33 val_main_v32 val_main_v31 val_main_v17
  generalize val_main_v28 (F := Ideal) x6 x8 x9 = a
  generalize val_main_v15 (F := Ideal) x0 x1 x2 = b
  pointwise [val_main_cst_5, val_main_v16]

theorem v38_at (d : Fin 1024) : val_main_v38 (F := Ideal) x0 x1 x2 x5 x6 x8 x9 (ix2 0 d) = (args x0 x1 x2 x3 x5 x6 x7 x8 x9).dgain d := by
  have h : ∀ n, (args x0 x1 x2 x3 x5 x6 x7 x8 x9).dn n d * (args x0 x1 x2 x3 x5 x6 x7 x8 x9).xh n d = val_main_v15 (F := Ideal) x0 x1 x2 (ix2 n d) * val_main_v35 (F := Ideal) x5 x6 x8 x9 (ix2 n d) := fun n => by
    rw [v35_at x0 x1 x2 x3 x5 x6 x7 x8 x9, v15_at x0 x1 x2 x3 x5 x6 x7 x8 x9, mul_comm]
  unfold Args.dgain
  simp only [h]
  unfold val_main_v38 val_main_v37 val_main_v36
  generalize val_main_v35 (F := Ideal) x5 x6 x8 x9 = a
  generalize val_main_v15 (F := Ideal) x0 x1 x2 = b
  pointwise [val_main_cst_6]

theorem v61_at (d : Fin 1024) : val_main_v61 (F := Ideal) x0 x1 x2 x3 x5 x6 x7 x8 x9 (ix2 0 d) = (args x0 x1 x2 x3 x5 x6 x7 x8 x9).dg d := by
  have h : ∀ n, (args x0 x1 x2 x3 x5 x6 x7 x8 x9).dx n d * (args x0 x1 x2 x3 x5 x6 x7 x8 x9).y n d = val_main_v56 (F := Ideal) x0 x1 x2 x3 x5 x6 x7 x8 x9 (ix2 n d) * x1 (ix2 n d) := fun n => by
    rw [v56_at]
    rfl
  unfold Args.dg
  simp only [h]
  unfold val_main_v61 val_main_v60 val_main_v59
  generalize val_main_v56 (F := Ideal) x0 x1 x2 x3 x5 x6 x7 x8 x9 = a
  pointwise [val_main_cst_10]

end Cert.Reference2Ideal.Norm

end
-- ==== Proof.NormAlgebraic.lean ====
/-
  THE NORM'S BACKWARD CALL AND ITS REFERENCE END WITH THE SAME SIX RESULTS, at any arguments.
-/
module

public import proofs.«01_k».proof.Defs
public import proofs.«01_k».proof.Proof.NormArray
public import proofs.«01_k».proof.Proof.NormRef
public import proofs.«01_k».proof.Proof.Gen.Reference2Ideal.Run

@[expose] public section

set_option maxRecDepth 16384

noncomputable section

namespace Cert.Norm

open Idealize.ShloMosaic Idealize.ShloMosaic.TcCoe Idealize.SL.Sem

section Results
variable (m : (ℓ : Loc Cert.Kernel2Ideal.nD Cert.Kernel2Ideal.τ Cert.Kernel2Ideal.sig) → Buf (Elt Ideal) ℓ) (c : Dev Cert.Kernel2Ideal.nD)

/-- One device's argument. -/
abbrev in0 := m ((c.tc : Thread Cert.Kernel2Ideal.nD Cert.Kernel2Ideal.τ).loc Cert.Kernel2Ideal.main_arg0)
abbrev in1 := m ((c.tc : Thread Cert.Kernel2Ideal.nD Cert.Kernel2Ideal.τ).loc Cert.Kernel2Ideal.main_arg1)
abbrev in2 := m ((c.tc : Thread Cert.Kernel2Ideal.nD Cert.Kernel2Ideal.τ).loc Cert.Kernel2Ideal.main_arg2)
abbrev in3 := m ((c.tc : Thread Cert.Kernel2Ideal.nD Cert.Kernel2Ideal.τ).loc Cert.Kernel2Ideal.main_arg3)
abbrev in4 := m ((c.tc : Thread Cert.Kernel2Ideal.nD Cert.Kernel2Ideal.τ).loc Cert.Kernel2Ideal.main_arg4)
abbrev in5 := m ((c.tc : Thread Cert.Kernel2Ideal.nD Cert.Kernel2Ideal.τ).loc Cert.Kernel2Ideal.main_arg5)
abbrev in6 := m ((c.tc : Thread Cert.Kernel2Ideal.nD Cert.Kernel2Ideal.τ).loc Cert.Kernel2Ideal.main_arg6)
abbrev in7 := m ((c.tc : Thread Cert.Kernel2Ideal.nD Cert.Kernel2Ideal.τ).loc Cert.Kernel2Ideal.main_arg7)
abbrev in8 := m ((c.tc : Thread Cert.Kernel2Ideal.nD Cert.Kernel2Ideal.τ).loc Cert.Kernel2Ideal.main_arg8)
abbrev in9 := m ((c.tc : Thread Cert.Kernel2Ideal.nD Cert.Kernel2Ideal.τ).loc Cert.Kernel2Ideal.main_arg9)

/-! Each array the call leaves is the reference's result. -/

theorem same9 : Cert.Reference2Ideal.Read.val_main_v55 (F := Ideal) (in0 m c) (in1 m c) (in2 m c) (in3 m c) (in5 m c) (in6 m c) (in7 m c) (in8 m c) (in9 m c) = (Cert.Kernel2Ideal.Gen.dats m 0 c).arrAt 9 Cert.Kernel2Ideal.cfg0.N := by
  refine Eq.trans ?_ (Cert.Kernel2Ideal.Norm.arr9 m c).symm
  funext i
  exact (congrArg _ (eq_ix2 i)).trans (Cert.Reference2Ideal.Norm.v55_at (in0 m c) (in1 m c) (in2 m c) (in3 m c) (in5 m c) (in6 m c) (in7 m c) (in8 m c) (in9 m c) (i 0) (i 1))

theorem same10 : Cert.Reference2Ideal.Read.val_main_v62 (F := Ideal) (in0 m c) (in1 m c) (in2 m c) (in3 m c) (in5 m c) (in6 m c) (in7 m c) (in8 m c) (in9 m c) = (Cert.Kernel2Ideal.Gen.dats m 0 c).arrAt 10 Cert.Kernel2Ideal.cfg0.N := by
  refine Eq.trans ?_ (Cert.Kernel2Ideal.Norm.arr10 m c).symm
  funext i
  exact (congrArg _ (eq_ix2 i)).trans (Cert.Reference2Ideal.Norm.v62_at (in0 m c) (in1 m c) (in2 m c) (in3 m c) (in5 m c) (in6 m c) (in7 m c) (in8 m c) (in9 m c) (i 0) (i 1))

theorem same11 : Cert.Reference2Ideal.Read.val_main_v30 (F := Ideal) (in6 m c) (in8 m c) (in9 m c) = (Cert.Kernel2Ideal.Gen.dats m 0 c).arrAt 11 Cert.Kernel2Ideal.cfg0.N := by
  refine Eq.trans ?_ (Cert.Kernel2Ideal.Norm.arr11 m c).symm
  funext i
  exact (congrArg _ (Cert.Kernel2Ideal.Norm.row_zero i)).trans (Cert.Reference2Ideal.Norm.v30_at (in0 m c) (in1 m c) (in2 m c) (in3 m c) (in5 m c) (in6 m c) (in7 m c) (in8 m c) (in9 m c) (i 1))

theorem same12 : Cert.Reference2Ideal.Read.val_main_v33 (F := Ideal) (in0 m c) (in1 m c) (in2 m c) (in3 m c) (in6 m c) (in8 m c) (in9 m c) = (Cert.Kernel2Ideal.Gen.dats m 0 c).arrAt 12 Cert.Kernel2Ideal.cfg0.N := by
  refine Eq.trans ?_ (Cert.Kernel2Ideal.Norm.arr12 m c).symm
  funext i
  exact (congrArg _ (Cert.Kernel2Ideal.Norm.row_zero i)).trans (Cert.Reference2Ideal.Norm.v33_at (in0 m c) (in1 m c) (in2 m c) (in3 m c) (in5 m c) (in6 m c) (in7 m c) (in8 m c) (in9 m c) (i 1))

theorem same13 : Cert.Reference2Ideal.Read.val_main_v38 (F := Ideal) (in0 m c) (in1 m c) (in2 m c) (in5 m c) (in6 m c) (in8 m c) (in9 m c) = (Cert.Kernel2Ideal.Gen.dats m 0 c).arrAt 13 Cert.Kernel2Ideal.cfg0.N := by
  refine Eq.trans ?_ (Cert.Kernel2Ideal.Norm.arr13 m c).symm
  funext i
  exact (congrArg _ (Cert.Kernel2Ideal.Norm.row_zero i)).trans (Cert.Reference2Ideal.Norm.v38_at (in0 m c) (in1 m c) (in2 m c) (in3 m c) (in5 m c) (in6 m c) (in7 m c) (in8 m c) (in9 m c) (i 1))

theorem same14 : Cert.Reference2Ideal.Read.val_main_v61 (F := Ideal) (in0 m c) (in1 m c) (in2 m c) (in3 m c) (in5 m c) (in6 m c) (in7 m c) (in8 m c) (in9 m c) = (Cert.Kernel2Ideal.Gen.dats m 0 c).arrAt 14 Cert.Kernel2Ideal.cfg0.N := by
  refine Eq.trans ?_ (Cert.Kernel2Ideal.Norm.arr14 m c).symm
  funext i
  exact (congrArg _ (Cert.Kernel2Ideal.Norm.row_zero i)).trans (Cert.Reference2Ideal.Norm.v61_at (in0 m c) (in1 m c) (in2 m c) (in3 m c) (in5 m c) (in6 m c) (in7 m c) (in8 m c) (in9 m c) (i 1))

end Results

set_option maxHeartbeats 4000000 in
/-- From memories that agree on the arguments, both programs run, end with equal results, and leave their arguments as they were. -/
theorem holds : Cert.algebraic_Kernel2Ideal_Reference2Ideal (hKernel2Ideal := Cert.Kernel2Ideal.Gen.facts)
    (hReference2Ideal := Cert.Reference2Ideal.Gen.facts) := by
  intro m g m' g' _ ha
  refine ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    Cert.Kernel2Ideal.Value.run_blocks (F := Ideal) m g, ?_⟩
  refine (θ_run Cert.Reference2Ideal.defs _ _).mono (fun r h c => ?_) (Cert.Reference2Ideal.Value.run (F := Ideal) m' g')
  obtain ⟨a0, a1, a2, a3, a4, a5, a6, a7, a8, a9⟩ := ha c
  obtain ⟨h0, h1, h2, h3, h4, h5, hr⟩ := h c
  refine ⟨h0.trans ?_, h1.trans ?_, h2.trans ?_, h3.trans ?_, h4.trans ?_, h5.trans ?_, hr⟩
  · rw [Cert.Reference2Ideal.Read.val_main_v55_eq, a0, a1, a2, a3, a5, a6, a7, a8, a9]
    exact same9 m c
  · rw [Cert.Reference2Ideal.Read.val_main_v62_eq, a0, a1, a2, a3, a5, a6, a7, a8, a9]
    exact same10 m c
  · rw [Cert.Reference2Ideal.Read.val_main_v30_eq, a6, a8, a9]
    exact same11 m c
  · rw [Cert.Reference2Ideal.Read.val_main_v33_eq, a0, a1, a2, a3, a6, a8, a9]
    exact same12 m c
  · rw [Cert.Reference2Ideal.Read.val_main_v38_eq, a0, a1, a2, a5, a6, a8, a9]
    exact same13 m c
  · rw [Cert.Reference2Ideal.Read.val_main_v61_eq, a0, a1, a2, a3, a5, a6, a7, a8, a9]
    exact same14 m c

end Cert.Norm

end
-- ==== Proof.PlainBlock.lean ====
/-
  WHAT ONE POINT OF THE UNGATED NORM'S BACKWARD CALL COMPUTES from its blocks: the gradient that arrives through the two products, the
  rows' factors, the residual's gradient, and the point's parts of the three column sums.
-/
module

public import proofs.«01_k».proof.Proof.NormMath
public import proofs.«01_k».proof.Proof.Gen.Kernel5Ideal.Skeleton
public import Idealize.ShloMosaic.Lib.Pointwise

@[expose] public section

set_option maxRecDepth 16384

noncomputable section

namespace Cert.Kernel5Ideal.Norm

open Idealize.ShloMosaic Idealize.ShloMosaic.TcCoe Idealize.SL.Sem
open Cert.Kernel5Ideal Cert.Kernel5Ideal.Gen Cert.Norm

/-- The projection's rows for the first half, and for the second. -/
abbrev top (x2 : Vec Ideal S5632x1024 .bf16) : Vec Ideal S2816x1024 .bf16 := View.ld x2 (Rect.unit ![0, 0] ![2816, 1024] inb_S5632x1024_S2816x1024_0_0)
abbrev low (x2 : Vec Ideal S5632x1024 .bf16) : Vec Ideal S2816x1024 .bf16 := View.ld x2 (Rect.unit ![2816, 0] ![2816, 1024] inb_S5632x1024_S2816x1024_2816_0)

theorem pay8_at (x0 x1 : Vec Ideal S256x2816 .bf16) (x2 : Vec Ideal S5632x1024 .bf16) (r : Fin 256) (d : Fin 1024) :
    k0_pay8 x0 (top x2) x1 (low x2) (ix2 r d)
      = ∑ j : Fin 2816, x0 (ix2 r j) * x2 (ix2 ⟨j.val, by omega⟩ d) + ∑ j : Fin 2816, x1 (ix2 r j) * x2 (ix2 ⟨2816 + j.val, by omega⟩ d) := by
  pointwise [k0_pay8, top, low]

section Rows
variable (x3 : Vec Ideal S256x1024 .f32)

theorem pay9_at (r : Fin 256) : k0_pay9 x3 (ix2 r 0) = fac (fun e : Fin 1024 => x3 (ix2 r e)) := by
  unfold fac msq
  pointwise [k0_pay9]

theorem pay10_at (r : Fin 256) (d : Fin 1024) : k0_pay10 x3 (ix2 r d) = x3 (ix2 r d) * fac (fun e : Fin 1024 => x3 (ix2 r e)) := by
  rw [← pay9_at]
  unfold k0_pay10
  generalize k0_pay9 x3 = a
  pointwise

variable (gain scale : Vec Ideal S1x1024 .f32) (o : Vec Ideal S256x1024 .f32)

theorem pay11_at (r : Fin 256) (d : Fin 1024) : k0_pay11 gain x3 (ix2 r d) = k0_pay10 x3 (ix2 r d) * gain (ix2 0 d) := by
  unfold k0_pay11
  generalize k0_pay10 x3 = a
  pointwise

theorem pay12_at (x0 x1 : Vec Ideal S256x2816 .bf16) (w0 w1 : Vec Ideal S2816x1024 .bf16) (r : Fin 256) (d : Fin 1024) :
    k0_pay12 scale x0 w0 x1 w1 (ix2 r d) = k0_pay8 x0 w0 x1 w1 (ix2 r d) * (Ideal.ofBits .f32 0x3F800000#32 + scale (ix2 0 d)) := by
  unfold k0_pay12
  generalize k0_pay8 x0 w0 x1 w1 = v
  pointwise

theorem pay1_at (w : FVec Ideal S256x1024 .f32) (r : Fin 256) (d : Fin 1024) :
    k0_pay1 gain o (k0_pay9 x3) (k0_pay10 x3) w (ix2 r d)
      = back (fun e : Fin 1024 => x3 (ix2 r e)) (fun e : Fin 1024 => w (ix2 r e) * gain (ix2 0 e)) (o (ix2 r d)) d := by
  unfold back
  simp only [← pay10_at x3 r]
  rw [← pay9_at]
  unfold k0_pay1
  generalize k0_pay9 x3 = a
  generalize k0_pay10 x3 = b
  pointwise

theorem pay2_at (v : FVec Ideal S256x1024 .f32) (s : Vec Ideal S1x1024 .f32) (d : Fin 1024) :
    k0_pay2 v s (ix2 0 d) = s (ix2 0 d) + ∑ r : Fin 256, v (ix2 r d) := by
  pointwise [k0_pay2]

theorem pay3_at (v b : FVec Ideal S256x1024 .f32) (s : Vec Ideal S1x1024 .f32) (d : Fin 1024) :
    k0_pay3 v b s (ix2 0 d) = s (ix2 0 d) + ∑ r : Fin 256, v (ix2 r d) * b (ix2 r d) := by
  pointwise [k0_pay3]

theorem pay4_at (b w : FVec Ideal S256x1024 .f32) (s : Vec Ideal S1x1024 .f32) (d : Fin 1024) :
    k0_pay4 b w s (ix2 0 d) = s (ix2 0 d) + ∑ r : Fin 256, w (ix2 r d) * b (ix2 r d) := by
  pointwise [k0_pay4]

theorem pay5_at (d : Fin 1024) : k0_pay5 (F := Ideal) (ix2 0 d) = 0 := by
  pointwise [k0_pay5]
theorem pay6_at (d : Fin 1024) : k0_pay6 (F := Ideal) (ix2 0 d) = 0 := by
  pointwise [k0_pay6]
theorem pay7_at (d : Fin 1024) : k0_pay7 (F := Ideal) (ix2 0 d) = 0 := by
  pointwise [k0_pay7]

end Rows

end Cert.Kernel5Ideal.Norm

end
-- ==== Proof.PlainArray.lean ====
/-
  WHAT THE UNGATED NORM'S BACKWARD CALL LEAVES in its four arrays, at any arguments: the gradient of the residual, and the three
  column sums.
-/
module

public import proofs.«01_k».proof.Proof.PlainBlock
public import proofs.«01_k».proof.Proof.Gen.Kernel5Ideal.Value
public import Idealize.ShloMosaic.Lib.StableHlo.ReadAt
public import Idealize.ShloMosaic.Lib.Pipeline.ValueKit

@[expose] public section

set_option maxRecDepth 16384

noncomputable section

namespace Cert.Kernel5Ideal.Norm

open Idealize.ShloMosaic Idealize.ShloMosaic.TcCoe Idealize.SL.Sem
open Idealize.ShloMosaic.Pipeline (Dat)
open Cert.Kernel5Ideal Cert.Kernel5Ideal.Gen Cert.Norm

/-- A sum over 32 blocks of 256 rows is one over the rows. -/
theorem sum_blocks (F : Fin 8192 → EReal) : ∑ i : Fin 32, ∑ r : Fin 256, F ⟨i.val * 256 + r.val, by omega⟩ = ∑ n, F n :=
  Fin.sum_mul_add_fin 32 256 F

variable (m : (ℓ : Loc nD τ sig) → Buf (Elt Ideal) ℓ) (c : Dev nD)

/-- The entries of one device's arguments; nothing is added to the residual. -/
def args : Args where
  x n d := (m ((c.tc : Thread nD τ).loc main_arg0) : S8192x1024.Idx → EReal) (ix2 n d)
  y _ _ := 0
  g _ := 0
  gain d := (m ((c.tc : Thread nD τ).loc main_arg1) : S1x1024.Idx → EReal) (ix2 0 d)
  scale d := (m ((c.tc : Thread nD τ).loc main_arg3) : S1x1024.Idx → EReal) (ix2 0 d)
  w d j := (m ((c.tc : Thread nD τ).loc main_arg4) : S1024x5632.Idx → EReal) (ix2 d j)
  dxo n d := (m ((c.tc : Thread nD τ).loc main_arg5) : S8192x1024.Idx → EReal) (ix2 n d)
  dgate n j := (m ((c.tc : Thread nD τ).loc main_arg6) : S8192x2816.Idx → EReal) (ix2 n j)
  dval n j := (m ((c.tc : Thread nD τ).loc main_arg7) : S8192x2816.Idx → EReal) (ix2 n j)

theorem xr_eq (n : Fin 8192) (d : Fin 1024) :
    (args m c).xr n d = (m ((c.tc : Thread nD τ).loc main_arg0) : S8192x1024.Idx → EReal) (ix2 n d) := by
  unfold Args.xr args
  dsimp only
  rw [zero_mul, add_zero]

/-! ## What the call finds -/

theorem v1_at (j : Fin 5632) (d : Fin 1024) : V m c main_v1 (ix2 j d : S5632x1024.Idx) = (args m c).w d j := by
  unfold args
  show StableHlo.after hostOps0 (fun b => m (c, b)) (Proc.devRef .tc main_v1) (ix2 j d : S5632x1024.Idx) = _
  unfold hostOps0
  after_reads_at

theorem v2_at (n : Fin 8192) (j : Fin 2816) : V m c main_v2 (ix2 n j : S8192x2816.Idx) = (args m c).dgate n j := by
  unfold args
  show StableHlo.after hostOps0 (fun b => m (c, b)) (Proc.devRef .tc main_v2) (ix2 n j : S8192x2816.Idx) = _
  unfold hostOps0
  after_reads_at

theorem v3_at (n : Fin 8192) (j : Fin 2816) : V m c main_v3 (ix2 n j : S8192x2816.Idx) = (args m c).dval n j := by
  unfold args
  show StableHlo.after hostOps0 (fun b => m (c, b)) (Proc.devRef .tc main_v3) (ix2 n j : S8192x2816.Idx) = _
  unfold hostOps0
  after_reads_at

/-! ## The blocks -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel

/-- The token of row `r` of point `t`. -/
def pn (t : Fin cfg0.N) (r : Fin 256) : Fin 8192 := ⟨t.val * 256 + r.val, by have := t.isLt; have : cfg0.N = 32 := rfl; omega⟩

theorem blk0 (t : Fin cfg0.N) (r : Fin 256) (j : Fin 2816) : iblk m c 0 t (ix2 r j : S256x2816.Idx) = (args m c).dgate (pn t r) j := by
  rw [← v2_at]
  blk_simp [iblk]
  exact congrArg _ (by unfold pn; blk_ext [idx0])

theorem blk1 (t : Fin cfg0.N) (r : Fin 256) (j : Fin 2816) : iblk m c 1 t (ix2 r j : S256x2816.Idx) = (args m c).dval (pn t r) j := by
  rw [← v3_at]
  blk_simp [iblk]
  exact congrArg _ (by unfold pn; blk_ext [idx1])

theorem blk2 (t : Fin cfg0.N) (j : Fin 5632) (d : Fin 1024) : iblk m c 2 t (ix2 j d : S5632x1024.Idx) = (args m c).w d j := by
  rw [← v1_at]
  blk_simp [iblk]
  exact congrArg _ (by blk_ext [idx2])

theorem blk3 (t : Fin cfg0.N) (r : Fin 256) (d : Fin 1024) : iblk m c 3 t (ix2 r d : S256x1024.Idx) = (args m c).xr (pn t r) d := by
  rw [xr_eq]
  rw [← V_main_arg0 m c]
  blk_simp [iblk]
  exact congrArg _ (by unfold pn; blk_ext [idx3])

theorem blk4 (t : Fin cfg0.N) (r : Fin 256) (d : Fin 1024) : iblk m c 4 t (ix2 r d : S256x1024.Idx) = (args m c).dxo (pn t r) d := by
  unfold args
  dsimp only
  rw [← V_main_arg5 m c]
  blk_simp [iblk]
  exact congrArg _ (by unfold pn; blk_ext [idx4])

theorem blk5 (t : Fin cfg0.N) (d : Fin 1024) : iblk m c 5 t (ix2 0 d : S1x1024.Idx) = (args m c).gain d := by
  unfold args
  dsimp only
  rw [← V_main_arg1 m c]
  blk_simp [iblk]
  exact congrArg _ (by blk_ext [idx5])

theorem blk6 (t : Fin cfg0.N) (d : Fin 1024) : iblk m c 6 t (ix2 0 d : S1x1024.Idx) = (args m c).scale d := by
  unfold args
  dsimp only
  rw [← V_main_arg3 m c]
  blk_simp [iblk]
  exact congrArg _ (by blk_ext [idx6])

/-! ## One point -/

/-- What arrives through the two products at point `t`, and what arrives at the norm. -/
abbrev pv (t : Fin cfg0.N) : FVec Ideal S256x1024 .f32 :=
  k0_pay8 (F := Ideal) (iblk m c 0 t) (top (iblk m c 2 t)) (iblk m c 1 t) (low (iblk m c 2 t))
abbrev pw (t : Fin cfg0.N) : FVec Ideal S256x1024 .f32 :=
  k0_pay12 (F := Ideal) (iblk m c 6 t) (iblk m c 0 t) (top (iblk m c 2 t)) (iblk m c 1 t) (low (iblk m c 2 t))

theorem pv_at (t : Fin cfg0.N) (r : Fin 256) (d : Fin 1024) : pv m c t (ix2 r d) = (args m c).dav (pn t r) d := by
  refine (pay8_at _ _ _ r d).trans ?_
  simp only [blk0, blk1, blk2]
  rfl

theorem xh_at (t : Fin cfg0.N) (r : Fin 256) (d : Fin 1024) :
    k0_pay10 (F := Ideal) (iblk m c 3 t) (ix2 r d) = (args m c).xh (pn t r) d := by
  rw [pay10_at]
  simp only [blk3]
  rfl

theorem dn_at (t : Fin cfg0.N) (r : Fin 256) (d : Fin 1024) : pw m c t (ix2 r d) = (args m c).dn (pn t r) d := by
  refine (pay12_at _ _ _ _ _ r d).trans ((congrArg (· * _) (pv_at m c t r d)).trans ?_)
  rw [blk6]
  rfl

theorem dx_at (t : Fin cfg0.N) (r : Fin 256) (d : Fin 1024) :
    k0_pay1 (F := Ideal) (iblk m c 5 t) (iblk m c 4 t) (k0_pay9 (iblk m c 3 t)) (k0_pay10 (iblk m c 3 t)) (pw m c t) (ix2 r d)
      = (args m c).dx (pn t r) d := by
  rw [pay1_at]
  simp only [blk3, blk4, blk5, dn_at]
  rfl

/-- The residual's gradient at a point's block. -/
theorem out7 (t : Fin cfg0.N) (r : Fin 256) (d : Fin 1024) : (outsAt0 m c t.val t.isLt).1 (ix2 r d) = (args m c).dx (pn t r) d := by
  rw [← dx_at]
  refine congrFun ?_ _
  by_cases h : t.val % 32 = 0
  · rw [outsAt0_A m c t h]; frame_out
  · rw [outsAt0_B m c t h]; frame_out

/-! ## The column sums -/

/-- A sum kept over the grid's points, a block of rows at each, is the sum over the rows. -/
theorem fold_rows (f : (n : ℕ) → n < cfg0.N → EReal) (F : Fin 8192 → EReal)
    (h0 : ∀ t : Fin cfg0.N, t.val % 32 = 0 → f t.val t.isLt = 0 + ∑ r, F (pn t r))
    (h1 : ∀ t : Fin cfg0.N, ∀ h : ¬t.val % 32 = 0, f t.val t.isLt = f (t.val - 1) (by have := t.isLt; omega) + ∑ r, F (pn t r))
    (t : Fin cfg0.N) (ht : t.val % 32 = 31) : f t.val t.isLt = ∑ n, F n := by
  have H := Pipeline.eq_sum_fin_of_reset_step_apply_of_flush (N := cfg0.N) (M := EReal) (ι := Unit)
    (fun n h _ => f n h) 32 (fun _ => 0) (fun t _ => ∑ r, F (pn t r)) (fun t h _ => h0 t h) (fun t h _ => h1 t h) t ht ()
  refine H.trans ?_
  rw [zero_add, ← sum_blocks F]
  have hN : t.val < 32 := t.isLt
  refine Finset.sum_congr rfl fun s _ => Finset.sum_congr rfl fun r _ => ?_
  exact congrArg F (Fin.ext (by show (32 * (t.val / 32) + s.val) * 256 + r.val = s.val * 256 + r.val; omega))

theorem out8 (t : Fin cfg0.N) (ht : t.val % 32 = 31) (d : Fin 1024) : (outsAt0 m c t.val t.isLt).2.1 (ix2 0 d) = (args m c).dshift d := by
  have hs : ∀ t : Fin cfg0.N, ∑ r : Fin 256, pv m c t (ix2 r d)
      = ∑ r, (fun n => (args m c).dav n d) (pn t r) := fun t => by
    simp only [pv_at]
  refine fold_rows (fun n h => (outsAt0 m c n h).2.1 (ix2 0 d)) (fun n => (args m c).dav n d) (fun t h => ?_) (fun t h => ?_) t ht
  · rw [outsAt0_A m c t h]; frame_out
    exact (pay2_at _ _ d).trans (congrArg₂ _ (pay5_at d) (hs t))
  · rw [outsAt0_B m c t h]; frame_out
    exact (pay2_at _ _ d).trans (congrArg _ (hs t))

theorem out9 (t : Fin cfg0.N) (ht : t.val % 32 = 31) (d : Fin 1024) : (outsAt0 m c t.val t.isLt).2.2.1 (ix2 0 d) = (args m c).dscale d := by
  have hs : ∀ t : Fin cfg0.N, ∑ r : Fin 256, pv m c t (ix2 r d) * k0_pay11 (F := Ideal) (iblk m c 5 t) (iblk m c 3 t) (ix2 r d)
      = ∑ r, (fun n => (args m c).dav n d * ((args m c).xh n d * (args m c).gain d)) (pn t r) := fun t => by
    simp only [pv_at, pay11_at, xh_at, blk5]
  refine fold_rows (fun n h => (outsAt0 m c n h).2.2.1 (ix2 0 d)) (fun n => (args m c).dav n d * ((args m c).xh n d * (args m c).gain d)) (fun t h => ?_) (fun t h => ?_) t ht
  · rw [outsAt0_A m c t h]; frame_out
    exact (pay3_at _ _ _ d).trans (congrArg₂ _ (pay6_at d) (hs t))
  · rw [outsAt0_B m c t h]; frame_out
    exact (pay3_at _ _ _ d).trans (congrArg _ (hs t))

theorem out10 (t : Fin cfg0.N) (ht : t.val % 32 = 31) (d : Fin 1024) : (outsAt0 m c t.val t.isLt).2.2.2 (ix2 0 d) = (args m c).dgain d := by
  have hs : ∀ t : Fin cfg0.N, ∑ r : Fin 256, pw m c t (ix2 r d) * k0_pay10 (F := Ideal) (iblk m c 3 t) (ix2 r d)
      = ∑ r, (fun n => (args m c).dn n d * (args m c).xh n d) (pn t r) := fun t => by
    simp only [dn_at, xh_at]
  refine fold_rows (fun n h => (outsAt0 m c n h).2.2.2 (ix2 0 d)) (fun n => (args m c).dn n d * (args m c).xh n d) (fun t h => ?_) (fun t h => ?_) t ht
  · rw [outsAt0_A m c t h]; frame_out
    exact (pay4_at _ _ _ d).trans (congrArg₂ _ (pay7_at d) (hs t))
  · rw [outsAt0_B m c t h]; frame_out
    exact (pay4_at _ _ _ d).trans (congrArg _ (hs t))

/-! ## The arrays -/

theorem arr7 : (dats m 0 c).arrAt 7 cfg0.N = fun i : S8192x1024.Idx => (args m c).dx (i 0) (i 1) := by
  refine (dats m 0 c).arrAt_eq_of_covers 7 _ (by decide +kernel) fun t hf y => ?_
  blk_simp [idx7]
  rw [after0_7]
  refine (congrArg _ (eq_ix2 (n0 := 256) (n1 := 1024) y)).trans ((out7 m c t (y 0) (y 1)).trans ?_)
  exact congrArg₂ _ (Fin.ext (by unfold pn; blk_simp [idx7])) (Fin.ext (by blk_simp [idx7]))

/-- The only row of an array of one row. -/
theorem row_zero (y : S1x1024.Idx) : y = ix2 0 (y 1) :=
  (eq_ix2 (n0 := 1) (n1 := 1024) y).trans (congrArg (fun z => (ix2 z (y 1) : S1x1024.Idx)) (Subsingleton.elim (α := Fin 1) _ _))

theorem arr8 : (dats m 0 c).arrAt 8 cfg0.N = fun i : S1x1024.Idx => (args m c).dshift (i 1) := by
  refine (dats m 0 c).arrAt_eq_of_covers 8 _ (by decide +kernel) fun t hf y => ?_
  have ht : t.val % 32 = 31 := (flush0_8 t).mp hf
  blk_simp [idx8]
  rw [after0_8]
  refine (congrArg _ (row_zero y)).trans ((out8 m c t ht (y 1)).trans ?_)
  exact congrArg _ (Fin.ext (by blk_simp [idx8]))

theorem arr9 : (dats m 0 c).arrAt 9 cfg0.N = fun i : S1x1024.Idx => (args m c).dscale (i 1) := by
  refine (dats m 0 c).arrAt_eq_of_covers 9 _ (by decide +kernel) fun t hf y => ?_
  have ht : t.val % 32 = 31 := (flush0_9 t).mp hf
  blk_simp [idx9]
  rw [after0_9]
  refine (congrArg _ (row_zero y)).trans ((out9 m c t ht (y 1)).trans ?_)
  exact congrArg _ (Fin.ext (by blk_simp [idx9]))

theorem arr10 : (dats m 0 c).arrAt 10 cfg0.N = fun i : S1x1024.Idx => (args m c).dgain (i 1) := by
  refine (dats m 0 c).arrAt_eq_of_covers 10 _ (by decide +kernel) fun t hf y => ?_
  have ht : t.val % 32 = 31 := (flush0_10 t).mp hf
  blk_simp [idx10]
  rw [after0_10]
  refine (congrArg _ (row_zero y)).trans ((out10 m c t ht (y 1)).trans ?_)
  exact congrArg _ (Fin.ext (by blk_simp [idx10]))

end Cert.Kernel5Ideal.Norm

end
-- ==== Proof.PlainRef.lean ====
/-
  THE REFERENCE'S FOUR RESULTS of the ungated norm's backward call, at any arguments: the gradients that `Proof/NormMath.lean` writes.
-/
module

public import proofs.«01_k».proof.Proof.NormMath
public import proofs.«01_k».proof.Proof.Gen.Reference5Ideal.Read
public import Idealize.ShloMosaic.Lib.Pointwise

@[expose] public section

set_option maxRecDepth 16384

noncomputable section

namespace Cert.Reference5Ideal.Norm

open Idealize.ShloMosaic Idealize.ShloMosaic.TcCoe
open Cert.Reference5Ideal Cert.Reference5Ideal.Read Cert.Norm

variable (x0 : (⟨S8192x1024, .f32⟩ : BufTy).Contents (Elt Ideal)) (x1 x3 : (⟨S1x1024, .f32⟩ : BufTy).Contents (Elt Ideal))
  (x4 : (⟨S1024x5632, .f32⟩ : BufTy).Contents (Elt Ideal)) (x5 : (⟨S8192x1024, .f32⟩ : BufTy).Contents (Elt Ideal))
  (x6 x7 : (⟨S8192x2816, .f32⟩ : BufTy).Contents (Elt Ideal))

/-- The arguments' entries; nothing is added to the residual. -/
def args : Args where
  x n d := x0 (ix2 n d)
  y _ _ := 0
  g _ := 0
  gain d := x1 (ix2 0 d)
  scale d := x3 (ix2 0 d)
  w d j := x4 (ix2 d j)
  dxo n d := x5 (ix2 n d)
  dgate n j := x6 (ix2 n j)
  dval n j := x7 (ix2 n j)

theorem xr_eq (n : Fin 8192) (d : Fin 1024) : (args x0 x1 x3 x4 x5 x6 x7).xr n d = x0 (ix2 n d) := by
  unfold Args.xr args
  dsimp only
  rw [zero_mul, add_zero]

theorem v6_at (n : Fin 8192) : val_main_v6 (F := Ideal) x0 (ix2 n 0) = msq ((args x0 x1 x3 x4 x5 x6 x7).xr n) := by
  unfold msq
  simp only [xr_eq x0 x1 x3 x4 x5 x6 x7]
  unfold val_main_v6 val_main_v4 val_main_v2 val_main_v1 val_main_v0
  pointwise [val_main_v5, val_main_v3, val_main_cst, val_main_cst_0, val_main_cst_1]

theorem v7_at (n : Fin 8192) : val_main_v7 (F := Ideal) x0 (ix2 n 0) = fac ((args x0 x1 x3 x4 x5 x6 x7).xr n) := by
  unfold fac
  rw [← v6_at x0 x1 x3 x4 x5 x6 x7]
  unfold val_main_v7
  generalize val_main_v6 (F := Ideal) x0 = a
  pointwise

theorem v10_at (n : Fin 8192) : val_main_v10 (F := Ideal) x0 (ix2 n 0)
    = Ideal.ofBits .f32 0xBF000000#32 * Ideal.div (fac ((args x0 x1 x3 x4 x5 x6 x7).xr n)) (msq ((args x0 x1 x3 x4 x5 x6 x7).xr n)) := by
  rw [← v7_at x0 x1 x3 x4 x5 x6 x7, ← v6_at x0 x1 x3 x4 x5 x6 x7]
  unfold val_main_v10 val_main_v8
  generalize val_main_v6 (F := Ideal) x0 = a
  generalize val_main_v7 (F := Ideal) x0 = b
  pointwise [val_main_v9, val_main_cst_2]

theorem v12_at (n : Fin 8192) (d : Fin 1024) : val_main_v12 (F := Ideal) x0 (ix2 n d) = (args x0 x1 x3 x4 x5 x6 x7).xh n d := by
  unfold Args.xh
  rw [← v7_at x0 x1 x3 x4 x5 x6 x7, xr_eq x0 x1 x3 x4 x5 x6 x7]
  unfold val_main_v12 val_main_v11
  generalize val_main_v7 (F := Ideal) x0 = b
  pointwise

theorem v24_lo (n : Fin 8192) (j : Fin 2816) : val_main_v24 (F := Ideal) x6 x7 (ix2 n (Fin.castAdd 2816 j)) = x6 (ix2 n j) := by
  pointwise [val_main_v24]
  rw [dif_pos (show (Fin.castAdd 2816 j).val < 2816 from j.isLt)]
  rfl

theorem v24_hi (n : Fin 8192) (j : Fin 2816) : val_main_v24 (F := Ideal) x6 x7 (ix2 n (Fin.natAdd 2816 j)) = x7 (ix2 n j) := by
  pointwise [val_main_v24]
  rw [dif_neg (show ¬(Fin.natAdd 2816 j).val < 2816 from by simp)]
  exact congrArg (fun e => x7 (ix2 n e)) (Fin.ext (by simp))

theorem v25_at (n : Fin 8192) (d : Fin 1024) : val_main_v25 (F := Ideal) x4 x6 x7 (ix2 n d) = (args x0 x1 x3 x4 x5 x6 x7).dav n d := by
  have h : val_main_v25 (F := Ideal) x4 x6 x7 (ix2 n d)
      = ∑ j : Fin (2816 + 2816), val_main_v24 (F := Ideal) x6 x7 (ix2 n j : S8192x5632.Idx) * x4 (ix2 d j : S1024x5632.Idx) := by
    unfold val_main_v25
    generalize val_main_v24 (F := Ideal) x6 x7 = a
    pointwise
  rw [h, Fin.sum_univ_add]
  simp only [v24_lo, v24_hi]
  rfl

theorem v32_at (n : Fin 8192) (d : Fin 1024) : val_main_v32 (F := Ideal) x3 x4 x6 x7 (ix2 n d) = (args x0 x1 x3 x4 x5 x6 x7).dn n d := by
  unfold Args.dn
  rw [← v25_at x0 x1 x3 x4 x5 x6 x7]
  unfold val_main_v32
  generalize val_main_v25 (F := Ideal) x4 x6 x7 = a
  unfold args
  pointwise [val_main_v31, val_main_v16, val_main_v15, val_main_cst_3]

theorem v37_at (n : Fin 8192) (d : Fin 1024) : val_main_v37 (F := Ideal) x1 x3 x4 x6 x7 (ix2 n d) = (args x0 x1 x3 x4 x5 x6 x7).dn n d * (args x0 x1 x3 x4 x5 x6 x7).gain d := by
  rw [← v32_at x0 x1 x3 x4 x5 x6 x7]
  unfold val_main_v37
  generalize val_main_v32 (F := Ideal) x3 x4 x6 x7 = a
  unfold args
  pointwise [val_main_v36]

theorem v46_at (n : Fin 8192) : val_main_v46 (F := Ideal) x0 x1 x3 x4 x6 x7 (ix2 n 0) = via ((args x0 x1 x3 x4 x5 x6 x7).xr n) (fun e => (args x0 x1 x3 x4 x5 x6 x7).dn n e * (args x0 x1 x3 x4 x5 x6 x7).gain e) := by
  unfold via
  rw [← v10_at]
  simp only [← v37_at x0 x1 x3 x4 x5 x6 x7, xr_eq x0 x1 x3 x4 x5 x6 x7]
  unfold val_main_v46 val_main_v44 val_main_v40 val_main_v39 val_main_v38
  generalize val_main_v10 (F := Ideal) x0 = b
  generalize val_main_v37 (F := Ideal) x1 x3 x4 x6 x7 = w
  pointwise [val_main_v45, val_main_cst_7, val_main_cst_8]

theorem v48_at (n : Fin 8192) (d : Fin 1024) :
    val_main_v48 (F := Ideal) x0 x1 x3 x4 x6 x7 (ix2 n d) = via ((args x0 x1 x3 x4 x5 x6 x7).xr n) (fun e => (args x0 x1 x3 x4 x5 x6 x7).dn n e * (args x0 x1 x3 x4 x5 x6 x7).gain e) := by
  rw [← v46_at]
  unfold val_main_v48 val_main_v47
  generalize val_main_v46 (F := Ideal) x0 x1 x3 x4 x6 x7 = a
  pointwise [val_main_cst_9]
  exact Fintype.sum_unique _

theorem v52_at (n : Fin 8192) (d : Fin 1024) : val_main_v52 (F := Ideal) x0 x1 x3 x4 x5 x6 x7 (ix2 n d) = (args x0 x1 x3 x4 x5 x6 x7).dx n d := by
  unfold Args.dx
  rw [back_eq, ← v48_at x0 x1 x3 x4 x5 x6 x7 n d, ← v7_at, xr_eq x0 x1 x3 x4 x5 x6 x7]
  rw [← v37_at x0 x1 x3 x4 x5 x6 x7]
  unfold val_main_v52 val_main_v51 val_main_v50 val_main_v49 val_main_v43 val_main_v42 val_main_v41
  generalize val_main_v7 (F := Ideal) x0 = b
  generalize val_main_v37 (F := Ideal) x1 x3 x4 x6 x7 = w
  generalize val_main_v48 (F := Ideal) x0 x1 x3 x4 x6 x7 = z
  unfold args
  pointwise

theorem v27_at (d : Fin 1024) : val_main_v27 (F := Ideal) x4 x6 x7 (ix2 0 d) = (args x0 x1 x3 x4 x5 x6 x7).dshift d := by
  unfold Args.dshift
  simp only [← v25_at]
  unfold val_main_v27 val_main_v26
  generalize val_main_v25 (F := Ideal) x4 x6 x7 = a
  pointwise [val_main_cst_4]

theorem v30_at (d : Fin 1024) : val_main_v30 (F := Ideal) x0 x1 x4 x6 x7 (ix2 0 d) = (args x0 x1 x3 x4 x5 x6 x7).dscale d := by
  have h : ∀ n, (args x0 x1 x3 x4 x5 x6 x7).dav n d * ((args x0 x1 x3 x4 x5 x6 x7).xh n d * (args x0 x1 x3 x4 x5 x6 x7).gain d) = val_main_v12 (F := Ideal) x0 (ix2 n d) * x1 (ix2 0 d) * val_main_v25 (F := Ideal) x4 x6 x7 (ix2 n d) := fun n => by
    rw [v25_at x0 x1 x3 x4 x5 x6 x7, v12_at x0 x1 x3 x4 x5 x6 x7, mul_comm]
    rfl
  unfold Args.dscale
  simp only [h]
  unfold val_main_v30 val_main_v29 val_main_v28 val_main_v14
  generalize val_main_v25 (F := Ideal) x4 x6 x7 = a
  generalize val_main_v12 (F := Ideal) x0 = b
  pointwise [val_main_cst_5, val_main_v13]

theorem v35_at (d : Fin 1024) : val_main_v35 (F := Ideal) x0 x3 x4 x6 x7 (ix2 0 d) = (args x0 x1 x3 x4 x5 x6 x7).dgain d := by
  have h : ∀ n, (args x0 x1 x3 x4 x5 x6 x7).dn n d * (args x0 x1 x3 x4 x5 x6 x7).xh n d = val_main_v12 (F := Ideal) x0 (ix2 n d) * val_main_v32 (F := Ideal) x3 x4 x6 x7 (ix2 n d) := fun n => by
    rw [v32_at x0 x1 x3 x4 x5 x6 x7, v12_at x0 x1 x3 x4 x5 x6 x7, mul_comm]
  unfold Args.dgain
  simp only [h]
  unfold val_main_v35 val_main_v34 val_main_v33
  generalize val_main_v32 (F := Ideal) x3 x4 x6 x7 = a
  generalize val_main_v12 (F := Ideal) x0 = b
  pointwise [val_main_cst_6]

end Cert.Reference5Ideal.Norm

end
-- ==== Proof.PlainAlgebraic.lean ====
/-
  THE BACKWARD CALL OF THE NORM WITHOUT A GATED BRANCH AND ITS REFERENCE END WITH THE SAME FOUR RESULTS, at any arguments.
-/
module

public import proofs.«01_k».proof.Defs
public import proofs.«01_k».proof.Proof.PlainArray
public import proofs.«01_k».proof.Proof.PlainRef
public import proofs.«01_k».proof.Proof.Gen.Reference5Ideal.Run

@[expose] public section

set_option maxRecDepth 16384

noncomputable section

namespace Cert.PlainNorm

open Idealize.ShloMosaic Idealize.ShloMosaic.TcCoe Idealize.SL.Sem

section Results
variable (m : (ℓ : Loc Cert.Kernel5Ideal.nD Cert.Kernel5Ideal.τ Cert.Kernel5Ideal.sig) → Buf (Elt Ideal) ℓ) (c : Dev Cert.Kernel5Ideal.nD)

/-- One device's argument. -/
abbrev in0 := m ((c.tc : Thread Cert.Kernel5Ideal.nD Cert.Kernel5Ideal.τ).loc Cert.Kernel5Ideal.main_arg0)
abbrev in1 := m ((c.tc : Thread Cert.Kernel5Ideal.nD Cert.Kernel5Ideal.τ).loc Cert.Kernel5Ideal.main_arg1)
abbrev in2 := m ((c.tc : Thread Cert.Kernel5Ideal.nD Cert.Kernel5Ideal.τ).loc Cert.Kernel5Ideal.main_arg2)
abbrev in3 := m ((c.tc : Thread Cert.Kernel5Ideal.nD Cert.Kernel5Ideal.τ).loc Cert.Kernel5Ideal.main_arg3)
abbrev in4 := m ((c.tc : Thread Cert.Kernel5Ideal.nD Cert.Kernel5Ideal.τ).loc Cert.Kernel5Ideal.main_arg4)
abbrev in5 := m ((c.tc : Thread Cert.Kernel5Ideal.nD Cert.Kernel5Ideal.τ).loc Cert.Kernel5Ideal.main_arg5)
abbrev in6 := m ((c.tc : Thread Cert.Kernel5Ideal.nD Cert.Kernel5Ideal.τ).loc Cert.Kernel5Ideal.main_arg6)
abbrev in7 := m ((c.tc : Thread Cert.Kernel5Ideal.nD Cert.Kernel5Ideal.τ).loc Cert.Kernel5Ideal.main_arg7)

/-! Each array the call leaves is the reference's result. -/

theorem same7 : Cert.Reference5Ideal.Read.val_main_v52 (F := Ideal) (in0 m c) (in1 m c) (in3 m c) (in4 m c) (in5 m c) (in6 m c) (in7 m c) = (Cert.Kernel5Ideal.Gen.dats m 0 c).arrAt 7 Cert.Kernel5Ideal.cfg0.N := by
  refine Eq.trans ?_ (Cert.Kernel5Ideal.Norm.arr7 m c).symm
  funext i
  exact (congrArg _ (eq_ix2 i)).trans (Cert.Reference5Ideal.Norm.v52_at (in0 m c) (in1 m c) (in3 m c) (in4 m c) (in5 m c) (in6 m c) (in7 m c) (i 0) (i 1))

theorem same8 : Cert.Reference5Ideal.Read.val_main_v27 (F := Ideal) (in4 m c) (in6 m c) (in7 m c) = (Cert.Kernel5Ideal.Gen.dats m 0 c).arrAt 8 Cert.Kernel5Ideal.cfg0.N := by
  refine Eq.trans ?_ (Cert.Kernel5Ideal.Norm.arr8 m c).symm
  funext i
  exact (congrArg _ (Cert.Kernel5Ideal.Norm.row_zero i)).trans (Cert.Reference5Ideal.Norm.v27_at (in0 m c) (in1 m c) (in3 m c) (in4 m c) (in5 m c) (in6 m c) (in7 m c) (i 1))

theorem same9 : Cert.Reference5Ideal.Read.val_main_v30 (F := Ideal) (in0 m c) (in1 m c) (in4 m c) (in6 m c) (in7 m c) = (Cert.Kernel5Ideal.Gen.dats m 0 c).arrAt 9 Cert.Kernel5Ideal.cfg0.N := by
  refine Eq.trans ?_ (Cert.Kernel5Ideal.Norm.arr9 m c).symm
  funext i
  exact (congrArg _ (Cert.Kernel5Ideal.Norm.row_zero i)).trans (Cert.Reference5Ideal.Norm.v30_at (in0 m c) (in1 m c) (in3 m c) (in4 m c) (in5 m c) (in6 m c) (in7 m c) (i 1))

theorem same10 : Cert.Reference5Ideal.Read.val_main_v35 (F := Ideal) (in0 m c) (in3 m c) (in4 m c) (in6 m c) (in7 m c) = (Cert.Kernel5Ideal.Gen.dats m 0 c).arrAt 10 Cert.Kernel5Ideal.cfg0.N := by
  refine Eq.trans ?_ (Cert.Kernel5Ideal.Norm.arr10 m c).symm
  funext i
  exact (congrArg _ (Cert.Kernel5Ideal.Norm.row_zero i)).trans (Cert.Reference5Ideal.Norm.v35_at (in0 m c) (in1 m c) (in3 m c) (in4 m c) (in5 m c) (in6 m c) (in7 m c) (i 1))

end Results

set_option maxHeartbeats 4000000 in
/-- From memories that agree on the arguments, both programs run, end with equal results, and leave their arguments as they were. -/
theorem holds : Cert.algebraic_Kernel5Ideal_Reference5Ideal (hKernel5Ideal := Cert.Kernel5Ideal.Gen.facts)
    (hReference5Ideal := Cert.Reference5Ideal.Gen.facts) := by
  intro m g m' g' _ ha
  refine ⟨fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    Cert.Kernel5Ideal.Value.run_blocks (F := Ideal) m g, ?_⟩
  refine (θ_run Cert.Reference5Ideal.defs _ _).mono (fun r h c => ?_) (Cert.Reference5Ideal.Value.run (F := Ideal) m' g')
  obtain ⟨a0, a1, a2, a3, a4, a5, a6, a7⟩ := ha c
  obtain ⟨h0, h1, h2, h3, hr⟩ := h c
  refine ⟨h0.trans ?_, h1.trans ?_, h2.trans ?_, h3.trans ?_, hr⟩
  · rw [Cert.Reference5Ideal.Read.val_main_v52_eq, a0, a1, a3, a4, a5, a6, a7]
    exact same7 m c
  · rw [Cert.Reference5Ideal.Read.val_main_v27_eq, a4, a6, a7]
    exact same8 m c
  · rw [Cert.Reference5Ideal.Read.val_main_v30_eq, a0, a1, a4, a6, a7]
    exact same9 m c
  · rw [Cert.Reference5Ideal.Read.val_main_v35_eq, a0, a3, a4, a6, a7]
    exact same10 m c

end Cert.PlainNorm

end
-- ==== Proof.WeightMath.lean ====
/-
  THE SUM THAT A WEIGHT'S GRADIENT IS: over the tokens, taken in 8 blocks of 1024.
-/
module

public import proofs.«01_k».proof.Proof.NormMath
public import Idealize.ShloMosaic.Lib.Pipeline.ValueKit
public import Idealize.ShloMosaic.Lib.Pipeline.ReadBack

@[expose] public section

noncomputable section

namespace Cert.Weight

open Idealize.ShloMosaic

/-- The token of row `r` of point `t`. -/
def token (t : Fin 8) (r : Fin 1024) : Fin 8192 := ⟨t.val * 1024 + r.val, by omega⟩

theorem sum_tokens (F : Fin 8192 → EReal) : ∑ t : Fin 8, ∑ r : Fin 1024, F ⟨t.val * 1024 + r.val, by omega⟩ = ∑ n, F n :=
  Fin.sum_mul_add_fin 8 1024 F

/-- A sum kept over the points, a block of tokens at each, is the sum over the tokens. -/
theorem fold_tokens (f : (n : ℕ) → n < 8 → EReal) (F : Fin 8192 → EReal)
    (h0 : ∀ t : Fin 8, t.val % 8 = 0 → f t.val t.isLt = 0 + ∑ r, F (token t r))
    (h1 : ∀ t : Fin 8, ∀ h : ¬t.val % 8 = 0, f t.val t.isLt = f (t.val - 1) (by have := t.isLt; omega) + ∑ r, F (token t r))
    (t : Fin 8) (ht : t.val % 8 = 7) : f t.val t.isLt = ∑ n, F n := by
  have H := Pipeline.eq_sum_fin_of_reset_step_apply_of_flush (N := 8) (M := EReal) (ι := Unit)
    (fun n h _ => f n h) 8 (fun _ => 0) (fun t _ => ∑ r, F (token t r)) (fun t h _ => h0 t h) (fun t h _ => h1 t h) t ht ()
  refine H.trans ?_
  rw [zero_add, ← sum_tokens F]
  have hN : t.val < 8 := t.isLt
  refine Finset.sum_congr rfl fun s _ => Finset.sum_congr rfl fun r _ => ?_
  exact congrArg F (Fin.ext (by show (8 * (t.val / 8) + s.val) * 1024 + r.val = s.val * 1024 + r.val; omega))

end Cert.Weight

end
-- ==== Proof.DownWeight.lean ====
/-
  THE GRADIENT OF THE DOWN-PROJECTION'S WEIGHT: what the call leaves, and that the reference ends with the same.
-/
module

public import proofs.«01_k».proof.Proof.WeightMath
public import proofs.«01_k».proof.Defs
public import proofs.«01_k».proof.Proof.Gen.Kernel4Ideal.Frame
public import proofs.«01_k».proof.Proof.Gen.Reference4Ideal.Run
public import proofs.«01_k».proof.Proof.Gen.Reference4Ideal.Read
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Weight

open Idealize.ShloMosaic Idealize.ShloMosaic.TcCoe Idealize.SL.Sem
open Idealize.ShloMosaic.Pipeline (Dat)
open Cert.Kernel4Ideal Cert.Kernel4Ideal.Gen Cert.Weight

variable (m : (ℓ : Loc nD τ sig) → Buf (Elt Ideal) ℓ) (c : Dev nD)

/-- The entries of the product's left operand and of the cotangent, with the wider of the two first. -/
def wide (n : Fin 8192) (i : Fin 2816) : EReal := (m ((c.tc : Thread nD τ).loc main_arg0) : S8192x2816.Idx → EReal) (ix2 n i)
def slim (n : Fin 8192) (j : Fin 1024) : EReal := (m ((c.tc : Thread nD τ).loc main_arg1) : S8192x1024.Idx → EReal) (ix2 n j)

theorem v0_at (n : Fin 8192) (i : Fin 2816) : V m c main_v0 (ix2 n i : S8192x2816.Idx) = wide m c n i := by
  unfold wide
  show StableHlo.after hostOps0 (fun b => m (c, b)) (Proc.devRef .tc main_v0) (ix2 n i : S8192x2816.Idx) = _
  unfold hostOps0
  after_reads_at

theorem v1_at (n : Fin 8192) (j : Fin 1024) : V m c main_v1 (ix2 n j : S8192x1024.Idx) = slim m c n j := by
  unfold slim
  show StableHlo.after hostOps0 (fun b => m (c, b)) (Proc.devRef .tc main_v1) (ix2 n j : S8192x1024.Idx) = _
  unfold hostOps0
  after_reads_at

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel

theorem blk0 (t : Fin cfg0.N) (r : Fin 1024) (i : Fin 2816) : iblk m c 0 t (ix2 r i : S1024x2816.Idx) = wide m c (token t r) i := by
  rw [← v0_at]
  blk_simp [iblk]
  exact congrArg _ (by unfold token; blk_ext [idx0])

theorem blk1 (t : Fin cfg0.N) (r : Fin 1024) (j : Fin 1024) : iblk m c 1 t (ix2 r j : S1024x1024.Idx) = slim m c (token t r) j := by
  rw [← v1_at]
  blk_simp [iblk]
  exact congrArg _ (by unfold token; blk_ext [idx1])

/-! ## The sum kept over the points -/

theorem pay1_at (i : Fin 2816) (j : Fin 1024) : k0_pay1 (F := Ideal) (ix2 i j) = 0 := by
  pointwise [k0_pay1]

theorem pay2_at (s : Vec Ideal S2816x1024 .f32) (a : Vec Ideal S1024x2816 .bf16) (b : Vec Ideal S1024x1024 .bf16) (i : Fin 2816) (j : Fin 1024) :
    k0_pay2 s a b (ix2 i j) = s (ix2 i j) + ∑ r : Fin 1024, a (ix2 r i) * b (ix2 r j) := by
  pointwise [k0_pay2]

theorem pay3_at (s : Vec Ideal S2816x1024 .f32) (i : Fin 2816) (j : Fin 1024) : k0_pay3 s (ix2 i j) = s (ix2 i j) := by
  pointwise [k0_pay3]

theorem step_at (s : Vec Ideal S2816x1024 .f32) (t : Fin cfg0.N) (i : Fin 2816) (j : Fin 1024) :
    k0_pay2 (F := Ideal) s (iblk m c 0 t) (iblk m c 1 t) (ix2 i j)
      = s (ix2 i j) + ∑ r, (fun n => wide m c n i * slim m c n j) (token t r) := by
  rw [pay2_at]
  simp only [blk0, blk1]

theorem kept_first (t : Fin cfg0.N) (h : t.val % 8 = 0) :
    (outsAt0 m c t.val t.isLt).2 = k0_pay2 (F := Ideal) (k0_pay1 (F := Ideal)) (iblk m c 0 t) (iblk m c 1 t) := by
  rw [outsAt0_A m c t h (by omega)]; frame_out

theorem kept_next (t : Fin cfg0.N) (h : ¬t.val % 8 = 0) :
    (outsAt0 m c t.val t.isLt).2 = k0_pay2 (F := Ideal) (outsAt0 m c (t.val - 1) (by have := t.isLt; omega)).2 (iblk m c 0 t) (iblk m c 1 t) := by
  by_cases h1 : t.val % 8 = 7
  · rw [outsAt0_C m c t h h1]; frame_out; rw [read_unread_whole]
  · rw [outsAt0_B m c t h h1]; frame_out; rw [read_unread_whole]

theorem out_last (t : Fin cfg0.N) (h : t.val % 8 = 7) : (outsAt0 m c t.val t.isLt).1 = k0_pay3 (F := Ideal) (outsAt0 m c t.val t.isLt).2 := by
  rw [kept_next m c t (by omega), outsAt0_C m c t (by omega) h]; frame_out; rw [read_unread_whole]

theorem kept_last (t : Fin cfg0.N) (ht : t.val % 8 = 7) (i : Fin 2816) (j : Fin 1024) :
    (outsAt0 m c t.val t.isLt).2 (ix2 i j) = ∑ n, wide m c n i * slim m c n j :=
  fold_tokens (fun n h => (outsAt0 m c n h).2 (ix2 i j)) (fun n => wide m c n i * slim m c n j)
    (fun t h => (congrFun (kept_first m c t h) _).trans ((step_at m c _ t i j).trans (congrArg (· + _) (pay1_at i j))))
    (fun t h => (congrFun (kept_next m c t h) _).trans (step_at m c _ t i j)) t ht

/-- What the call leaves in its array. -/
theorem arr2 : (dats m 0 c).arrAt 2 cfg0.N = fun p : S2816x1024.Idx => ∑ n, wide m c n (p 0) * slim m c n (p 1) := by
  refine (dats m 0 c).arrAt_eq_of_covers 2 _ (by decide +kernel) fun t hf y => ?_
  have ht : t.val % 8 = 7 := (flush0_2 t).mp hf
  blk_simp [idx2]
  rw [after0_2]
  refine (congrArg _ (eq_ix2 (n0 := 2816) (n1 := 1024) y)).trans ?_
  refine (congrFun (out_last m c t ht) _).trans ((pay3_at _ _ _).trans ((kept_last m c t ht _ _).trans ?_))
  refine Finset.sum_congr rfl fun n _ => congrArg₂ _ (congrArg _ (Fin.ext ?_)) (congrArg _ (Fin.ext ?_)) <;> blk_simp [idx2]

/-! ## The reference -/

theorem ref_at (x0 : (⟨S8192x2816, .f32⟩ : BufTy).Contents (Elt Ideal)) (x1 : (⟨S8192x1024, .f32⟩ : BufTy).Contents (Elt Ideal)) (i : Fin 2816) (j : Fin 1024) :
    Cert.Reference4Ideal.Read.val_main_v4 (F := Ideal) x0 x1 (ix2 i j) = ∑ n : Fin 8192, x0 (ix2 n i) * x1 (ix2 n j) := by
  refine Eq.trans (b := ∑ n : Fin 8192, x1 (ix2 n j) * x0 (ix2 n i)) ?_ (Finset.sum_congr rfl fun n _ => mul_comm _ _)
  pointwise [Cert.Reference4Ideal.Read.val_main_v4, Cert.Reference4Ideal.Read.val_main_v3, Cert.Reference4Ideal.Read.val_main_v2]

/-- The call runs, and ends with its array and its arguments so. -/
theorem run (g : Dev nD → PrngReg) : θ_run defs (onTc (τ := τ) (main (F := Ideal))) ⟨m, fun _ => 0, g⟩ fun r => ∀ c : Dev nD,
    r.2.mem ((c : Thread nD τ).loc main_v2) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m g)

/-- From memories that agree on the arguments, both programs run, end with the same gradient, and leave their arguments as they were. -/
theorem holds : Cert.algebraic_Kernel4Ideal_Reference4Ideal (hKernel4Ideal := Cert.Kernel4Ideal.Gen.facts) (hReference4Ideal := Cert.Reference4Ideal.Gen.facts) := by
  intro m g m' g' _ ha
  refine ⟨fun c => (dats m 0 c).arrAt 2 cfg0.N, run m g, ?_⟩
  refine (θ_run Cert.Reference4Ideal.defs _ _).mono (fun r h c => ?_) (Cert.Reference4Ideal.Value.run (F := Ideal) m' g')
  obtain ⟨a0, a1⟩ := ha c
  obtain ⟨h0, hr⟩ := h c
  refine ⟨h0.trans ?_, hr⟩
  rw [Cert.Reference4Ideal.Read.val_main_v4_eq, a0, a1]
  refine Eq.trans ?_ (arr2 m c).symm
  funext p
  exact (congrArg _ (eq_ix2 p)).trans (ref_at _ _ (p 0) (p 1))

end Cert.Kernel4Ideal.Weight

end
-- ==== Proof.UpWeight.lean ====
/-
  THE GRADIENT OF ONE HALF OF THE UP-PROJECTION'S WEIGHT. The call has the same text as the down-projection's, so its run and what it leaves are taken from
  there; the reference ends with the transpose of its product, entry by entry the same sum.
-/
module

public import proofs.«01_k».proof.Proof.DownWeight
public import proofs.«01_k».proof.Proof.Gen.Kernel6Ideal
public import proofs.«01_k».proof.Proof.Gen.Reference6Ideal.Run
public import proofs.«01_k».proof.Proof.Gen.Reference6Ideal.Read

@[expose] public section

set_option maxRecDepth 16384

noncomputable section

namespace Cert.UpWeight

open Idealize.ShloMosaic Idealize.SL.Sem Cert.Reference6Ideal Cert.Reference6Ideal.Gen

/-- An entry of the reference's result: the sum over the tokens. -/
theorem ref_at (x0 : (⟨S8192x2816, .f32⟩ : BufTy).Contents (Elt Ideal)) (x1 : (⟨S8192x1024, .f32⟩ : BufTy).Contents (Elt Ideal)) (i : Fin 2816) (j : Fin 1024) :
    Read.val_main_v5 (F := Ideal) x0 x1 (ix2 i j) = ∑ n : Fin 8192, x0 (ix2 n i) * x1 (ix2 n j) := by
  pointwise [Read.val_main_v5, Read.val_main_v4, Read.val_main_v3, Read.val_main_v2]

/-- The two calls' bodies are one: label by label they unfold to the same text. -/
theorem same_bodies : Cert.Kernel6Ideal.defs₀ (F := Ideal) = Cert.Kernel4Ideal.defs₀ (F := Ideal) := by
  refine congrArg Defs.onTc (funext fun l => funext fun p => ?_)
  match l, p with
  | ⟨0, _⟩, (_, _) => rfl

theorem same_table : Cert.Kernel6Ideal.defs (F := Ideal) = Cert.Kernel4Ideal.defs (F := Ideal) :=
  congrArg (Pipeline.defs Cert.Kernel4Ideal.pcfgs) same_bodies

/-- From memories that agree on the arguments, both programs run, end with the same gradient, and leave their arguments as they were. -/
theorem holds : Cert.algebraic_Kernel6Ideal_Reference6Ideal (hKernel6Ideal := Cert.Kernel6Ideal.Gen.facts) (hReference6Ideal := Cert.Reference6Ideal.Gen.facts) := by
  intro m g m' g' _ ha
  refine ⟨fun c => (Cert.Kernel4Ideal.Gen.dats m 0 c).arrAt 2 Cert.Kernel4Ideal.cfg0.N, ?_, ?_⟩
  · rw [same_table]
    exact Cert.Kernel4Ideal.Weight.run m g
  refine (θ_run Cert.Reference6Ideal.defs _ _).mono (fun r h c => ?_) (Cert.Reference6Ideal.Value.run (F := Ideal) m' g')
  obtain ⟨a0, a1⟩ := ha c
  obtain ⟨h0, hr⟩ := h c
  refine ⟨h0.trans ?_, hr⟩
  rw [Read.val_main_v5_eq, a0, a1]
  refine Eq.trans ?_ (Cert.Kernel4Ideal.Weight.arr2 m c).symm
  funext p
  exact (congrArg _ (eq_ix2 p)).trans (ref_at _ _ (p 0) (p 1))

end Cert.UpWeight

end
-- ==== Proof.GluMath.lean ====
/-
  THE UP-PROJECTION WITH ITS GATE, entry by entry: the product of the rows with the weights, the gate's half filtered over three
  neighbouring rows with rows of zeros at both ends, and the gated product.
-/
module

public import Idealize.ShloMosaic.Lib.Pointwise

@[expose] public section

noncomputable section

namespace Cert.Glu

open Idealize.ShloMosaic

/-- The entries of the arguments: the rows, the weights, the filter and the added row. -/
structure Args where
  f : Fin 8192 → Fin 1024 → EReal
  w : Fin 1024 → Fin 5632 → EReal
  cw : Fin 3 → Fin 2816 → EReal
  cb : Fin 2816 → EReal

namespace Args
variable (a : Args)

/-- The product. -/
def u (n : Fin 8192) (j : Fin 5632) : EReal := ∑ k, a.f n k * a.w k j

/-- Its first half. -/
def gate (n : Fin 8192) (j : Fin 2816) : EReal := a.u n ⟨j.val, by omega⟩

/-- The gate's row before, and the one after. -/
def before (n : Fin 8192) (j : Fin 2816) : EReal := if n.val = 0 then 0 else a.gate ⟨n.val - 1, by omega⟩ j
def after (n : Fin 8192) (j : Fin 2816) : EReal := if h : n.val + 1 < 8192 then a.gate ⟨n.val + 1, h⟩ j else 0

/-- The filtered gate. -/
def gc (n : Fin 8192) (j : Fin 2816) : EReal := a.before n j * a.cw 0 j + a.gate n j * a.cw 1 j + a.after n j * a.cw 2 j + a.cb j

/-- The gated product. -/
def h (n : Fin 8192) (j : Fin 2816) : EReal := a.gc n j * Ideal.logistic (a.gc n j) * a.u n ⟨2816 + j.val, by omega⟩

end Args

end Cert.Glu

end
-- ==== Proof.GluBlock.lean ====
/-
  WHAT ONE POINT OF THE UP-PROJECTION'S FORWARD CALL COMPUTES from its blocks: the two products, the gate's product filtered over three
  neighbouring rows, and the gated product. The body works through eleven ranges of 256 columns; every range is the same function of
  what it loads, so each output block is one function of the rows and the columns.
-/
module

public import proofs.«01_k».proof.Proof.Gen.Kernel7Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel7Ideal.Glu

open Idealize.ShloMosaic Idealize.ShloMosaic.TcCoe Idealize.SL.Sem
open Cert.Kernel7Ideal Cert.Kernel7Ideal.Gen

/-! ## One range of columns -/

section Columns
variable (e : FVec Ideal S288x1024 .bf16) (a : FVec Ideal S256x1024 .bf16) (w wv : Vec Ideal S1024x256 .bf16)
  (c0 c1 c2 b : Vec Ideal S1x256 .f32)

/-- The filtered gate of one range. -/
abbrev conv : FVec Ideal S256x256 .f32 := k0_pay16 (k0_pay14 e w c0 c1) (k0_pay15 e w c2) b

/-- The gated product of one range. -/
abbrev hid : FVec Ideal S256x256 .bf16 := k0_pay17 (k0_pay12 a wv) (k0_pay14 e w c0 c1) (k0_pay15 e w c2) b

theorem ext_at (r : Fin 288) (d : Fin 256) : k0_pay11 e w (ix2 r d) = ∑ k : Fin 1024, e (ix2 r k) * w (ix2 k d) := by
  pointwise [k0_pay11]

theorem val_at (r d : Fin 256) : k0_pay12 a w (ix2 r d) = ∑ k : Fin 1024, a (ix2 r k) * w (ix2 k d) := by
  pointwise [k0_pay12]

theorem gate_at (r d : Fin 256) : k0_pay13 e w (ix2 r d) = k0_pay11 e w (ix2 ⟨16 + r.val, by omega⟩ d) := by
  unfold k0_pay13
  generalize k0_pay11 e w = g
  pointwise

theorem conv_at (r d : Fin 256) : conv e w c0 c1 c2 b (ix2 r d)
    = k0_pay11 e w (ix2 ⟨15 + r.val, by omega⟩ d) * c0 (ix2 0 d) + k0_pay11 e w (ix2 ⟨16 + r.val, by omega⟩ d) * c1 (ix2 0 d)
      + k0_pay11 e w (ix2 ⟨17 + r.val, by omega⟩ d) * c2 (ix2 0 d) + b (ix2 0 d) := by
  unfold conv k0_pay16 k0_pay14 k0_pay15 k0_pay13
  generalize k0_pay11 e w = g
  pointwise
  have h0 : (⟨(16 + r.val + 288 - 1) % 288, by omega⟩ : Fin 288) = ⟨15 + r.val, by omega⟩ := Fin.ext (by show (16 + r.val + 288 - 1) % 288 = 15 + r.val; omega)
  have h2 : (⟨(16 + r.val + 288 - 287) % 288, by omega⟩ : Fin 288) = ⟨17 + r.val, by omega⟩ := Fin.ext (by show (16 + r.val + 288 - 287) % 288 = 17 + r.val; omega)
  rw [h0, h2]

theorem hid_at (r d : Fin 256) : hid e a w wv c0 c1 c2 b (ix2 r d)
    = conv e w c0 c1 c2 b (ix2 r d) * Ideal.logistic (conv e w c0 c1 c2 b (ix2 r d)) * k0_pay12 a wv (ix2 r d) := by
  unfold hid conv k0_pay17
  generalize k0_pay16 (k0_pay14 e w c0 c1) (k0_pay15 e w c2) b = g
  generalize k0_pay12 a wv = v
  pointwise

end Columns

/-! ## The output blocks -/

section Blocks
variable (e : FVec Ideal S288x1024 .bf16) (a : FVec Ideal S256x1024 .bf16) (x3 : Vec Ideal S1024x5632 .bf16) (x4 : Vec Ideal S3x2816 .f32)
  (x5 : Vec Ideal S1x2816 .f32)

/-- The gate's product at a row of the block with its neighbours. -/
def gx (r : Fin 288) (j : Fin 2816) : EReal := ∑ k : Fin 1024, e (ix2 r k) * x3 (ix2 k ⟨j.val, by omega⟩)

/-- The other product at a row of the block. -/
def vx (r : Fin 256) (j : Fin 2816) : EReal := ∑ k : Fin 1024, a (ix2 r k) * x3 (ix2 k ⟨2816 + j.val, by omega⟩)

/-- The filtered gate. -/
def cx (r : Fin 256) (j : Fin 2816) : EReal :=
  gx e x3 ⟨15 + r.val, by omega⟩ j * x4 (ix2 0 j) + gx e x3 ⟨16 + r.val, by omega⟩ j * x4 (ix2 1 j)
    + gx e x3 ⟨17 + r.val, by omega⟩ j * x4 (ix2 2 j) + x5 (ix2 0 j)

/-- The gated product. -/
def hx (r : Fin 256) (j : Fin 2816) : EReal := cx e x3 x4 x5 r j * Ideal.logistic (cx e x3 x4 x5 r j) * vx a x3 r j

/-- Both products side by side. -/
def ux (r : Fin 256) (j : Fin 5632) : EReal :=
  if h : j.val < 2816 then gx e x3 ⟨16 + r.val, by omega⟩ ⟨j.val, h⟩ else vx a x3 r ⟨j.val - 2816, by omega⟩

variable {o : ℕ} (ho : o + 256 ≤ 2816)

include ho in
theorem hw : ∀ i, (![0, o] : Fin 2 → ℕ) i + S1024x256.size i ≤ S1024x5632.size i :=
  Fin.forall_fin_two.mpr ⟨by show 0 + 1024 ≤ 1024; omega, by show o + 256 ≤ 5632; omega⟩
include ho in
theorem hv : ∀ i, (![0, 2816 + o] : Fin 2 → ℕ) i + S1024x256.size i ≤ S1024x5632.size i :=
  Fin.forall_fin_two.mpr ⟨by show 0 + 1024 ≤ 1024; omega, by show 2816 + o + 256 ≤ 5632; omega⟩
include ho in
theorem h0 : ∀ i, (![0, o] : Fin 2 → ℕ) i + S1x256.size i ≤ S3x2816.size i :=
  Fin.forall_fin_two.mpr ⟨by show 0 + 1 ≤ 3; omega, by show o + 256 ≤ 2816; omega⟩
include ho in
theorem h1 : ∀ i, (![1, o] : Fin 2 → ℕ) i + S1x256.size i ≤ S3x2816.size i :=
  Fin.forall_fin_two.mpr ⟨by show 1 + 1 ≤ 3; omega, by show o + 256 ≤ 2816; omega⟩
include ho in
theorem h2 : ∀ i, (![2, o] : Fin 2 → ℕ) i + S1x256.size i ≤ S3x2816.size i :=
  Fin.forall_fin_two.mpr ⟨by show 2 + 1 ≤ 3; omega, by show o + 256 ≤ 2816; omega⟩
include ho in
theorem hb : ∀ i, (![0, o] : Fin 2 → ℕ) i + S1x256.size i ≤ S1x2816.size i :=
  Fin.forall_fin_two.mpr ⟨by show 0 + 1 ≤ 1; omega, by show o + 256 ≤ 2816; omega⟩
include ho in
theorem hg : ∀ i, (![0, o] : Fin 2 → ℕ) i + S256x256.size i ≤ S256x2816.size i :=
  Fin.forall_fin_two.mpr ⟨by show 0 + 256 ≤ 256; omega, by show o + 256 ≤ 2816; omega⟩
include ho in
theorem hu : ∀ i, (![0, o] : Fin 2 → ℕ) i + S256x256.size i ≤ S256x5632.size i :=
  Fin.forall_fin_two.mpr ⟨by show 0 + 256 ≤ 256; omega, by show o + 256 ≤ 5632; omega⟩
include ho in
theorem hy : ∀ i, (![0, 2816 + o] : Fin 2 → ℕ) i + S256x256.size i ≤ S256x5632.size i :=
  Fin.forall_fin_two.mpr ⟨by show 0 + 256 ≤ 256; omega, by show 2816 + o + 256 ≤ 5632; omega⟩

abbrev rw : Rect S1024x5632 := Rect.unit (s := S1024x5632) ![0, o] S1024x256.size (hw ho)
abbrev rv : Rect S1024x5632 := Rect.unit (s := S1024x5632) ![0, 2816 + o] S1024x256.size (hv ho)

include ho in
theorem col_lt (d : Fin 256) : o + d.val < 2816 := by
  have := d.isLt
  omega

theorem ext_ld (r : Fin 288) (d : Fin 256) :
    k0_pay11 e (View.ld x3 (rw ho)) (ix2 r d) = gx e x3 r ⟨o + d.val, col_lt ho d⟩ := by
  refine (ext_at _ _ r d).trans (Finset.sum_congr rfl fun k _ => congrArg _ ?_)
  exact View.ld_unit_apply_of x3 _ _ _ _ _ (Fin.forall_fin_two.mpr ⟨(Nat.zero_add _).symm, rfl⟩)

theorem val_ld (r d : Fin 256) :
    k0_pay12 a (View.ld x3 (rv ho)) (ix2 r d) = vx a x3 r ⟨o + d.val, col_lt ho d⟩ := by
  refine (val_at _ _ r d).trans (Finset.sum_congr rfl fun k _ => congrArg _ ?_)
  exact View.ld_unit_apply_of x3 _ _ _ _ _ (Fin.forall_fin_two.mpr ⟨(Nat.zero_add _).symm, (Nat.add_assoc _ _ _).symm⟩)

abbrev convO : FVec Ideal S256x256 .f32 :=
  conv e (View.ld x3 (rw ho)) (View.ld x4 (Rect.unit (s := S3x2816) ![0, o] S1x256.size (h0 ho))) (View.ld x4 (Rect.unit (s := S3x2816) ![1, o] S1x256.size (h1 ho)))
    (View.ld x4 (Rect.unit (s := S3x2816) ![2, o] S1x256.size (h2 ho))) (View.ld x5 (Rect.unit (s := S1x2816) ![0, o] S1x256.size (hb ho)))

abbrev hidO : FVec Ideal S256x256 .bf16 :=
  hid e a (View.ld x3 (rw ho)) (View.ld x3 (rv ho)) (View.ld x4 (Rect.unit (s := S3x2816) ![0, o] S1x256.size (h0 ho)))
    (View.ld x4 (Rect.unit (s := S3x2816) ![1, o] S1x256.size (h1 ho))) (View.ld x4 (Rect.unit (s := S3x2816) ![2, o] S1x256.size (h2 ho)))
    (View.ld x5 (Rect.unit (s := S1x2816) ![0, o] S1x256.size (hb ho)))

theorem conv_ld (r d : Fin 256) : convO e x3 x4 x5 ho (ix2 r d) = cx e x3 x4 x5 r ⟨o + d.val, col_lt ho d⟩ := by
  have l0 : View.ld x4 (Rect.unit (s := S3x2816) ![0, o] S1x256.size (h0 ho)) (ix2 0 d : S1x256.Idx) = x4 (ix2 0 ⟨o + d.val, col_lt ho d⟩) :=
    View.ld_unit_apply_of x4 _ _ _ _ _ (Fin.forall_fin_two.mpr ⟨rfl, rfl⟩)
  have l1 : View.ld x4 (Rect.unit (s := S3x2816) ![1, o] S1x256.size (h1 ho)) (ix2 0 d : S1x256.Idx) = x4 (ix2 1 ⟨o + d.val, col_lt ho d⟩) :=
    View.ld_unit_apply_of x4 _ _ _ _ _ (Fin.forall_fin_two.mpr ⟨rfl, rfl⟩)
  have l2 : View.ld x4 (Rect.unit (s := S3x2816) ![2, o] S1x256.size (h2 ho)) (ix2 0 d : S1x256.Idx) = x4 (ix2 2 ⟨o + d.val, col_lt ho d⟩) :=
    View.ld_unit_apply_of x4 _ _ _ _ _ (Fin.forall_fin_two.mpr ⟨rfl, rfl⟩)
  have l3 : View.ld x5 (Rect.unit (s := S1x2816) ![0, o] S1x256.size (hb ho)) (ix2 0 d : S1x256.Idx) = x5 (ix2 0 ⟨o + d.val, col_lt ho d⟩) :=
    View.ld_unit_apply_of x5 _ _ _ _ _ (Fin.forall_fin_two.mpr ⟨rfl, rfl⟩)
  refine (conv_at _ _ _ _ _ _ r d).trans ?_
  refine congrArg₂ _ (congrArg₂ _ (congrArg₂ _ (congrArg₂ _ ?_ l0) (congrArg₂ _ ?_ l1)) (congrArg₂ _ ?_ l2)) l3
  all_goals exact ext_ld e x3 ho _ d

theorem hid_ld (r d : Fin 256) : hidO e a x3 x4 x5 ho (ix2 r d) = hx e a x3 x4 x5 r ⟨o + d.val, col_lt ho d⟩ := by
  refine (hid_at _ _ _ _ _ _ _ _ r d).trans ?_
  have h := conv_ld e x3 x4 x5 ho r d
  exact congrArg₂ _ (congrArg₂ _ h (congrArg _ h)) (val_ld a x3 ho r d)

/-- Where a range of columns lies in a block. -/
theorem emb_eq (x : S256x256.Idx) : (Rect.unit (s := S256x2816) ![0, o] S256x256.size (hg ho)).emb x
    = (ix2 (x 0) ⟨o + (x 1).val, col_lt ho (x 1)⟩ : S256x2816.Idx) :=
  funext fun i => Fin.ext ((Rect.idx_unit_val (s := S256x2816) ![0, o] S256x256.size (hg ho) x i).trans
    ((Fin.forall_fin_two (p := fun i => (![0, o] : Fin 2 → ℕ) i + (x i).val = ((ix2 (x 0) ⟨o + (x 1).val, col_lt ho (x 1)⟩ : S256x2816.Idx) i).val)).mpr
      ⟨Nat.zero_add _, rfl⟩ i))

theorem conv_piece (x : S256x256.Idx) : convO e x3 x4 x5 ho x
    = (fun y : S256x2816.Idx => cx e x3 x4 x5 (y 0) (y 1)) ((Rect.unit (s := S256x2816) ![0, o] S256x256.size (hg ho)).emb x) := by
  rw [emb_eq ho]
  exact (congrArg _ (eq_ix2 (n0 := 256) (n1 := 256) x)).trans (conv_ld e x3 x4 x5 ho (x 0) (x 1))

theorem hid_piece (x : S256x256.Idx) : hidO e a x3 x4 x5 ho x
    = (fun y : S256x2816.Idx => hx e a x3 x4 x5 (y 0) (y 1)) ((Rect.unit (s := S256x2816) ![0, o] S256x256.size (hg ho)).emb x) := by
  rw [emb_eq ho]
  exact (congrArg _ (eq_ix2 (n0 := 256) (n1 := 256) x)).trans (hid_ld e a x3 x4 x5 ho (x 0) (x 1))

theorem gate_piece (x : S256x256.Idx) : k0_pay13 e (View.ld x3 (rw ho)) x
    = (fun y : S256x5632.Idx => ux e a x3 (y 0) (y 1)) ((Rect.unit (s := S256x5632) ![0, o] S256x256.size (hu ho)).emb x) := by
  have hc := col_lt ho (x 1)
  have he : (Rect.unit (s := S256x5632) ![0, o] S256x256.size (hu ho)).emb x = (ix2 (x 0) ⟨o + (x 1).val, by omega⟩ : S256x5632.Idx) :=
    funext fun i => Fin.ext ((Rect.idx_unit_val (s := S256x5632) ![0, o] S256x256.size (hu ho) x i).trans
      ((Fin.forall_fin_two (p := fun i => (![0, o] : Fin 2 → ℕ) i + (x i).val = ((ix2 (x 0) ⟨o + (x 1).val, by omega⟩ : S256x5632.Idx) i).val)).mpr
        ⟨Nat.zero_add _, rfl⟩ i))
  rw [he]
  refine (congrArg _ (eq_ix2 (n0 := 256) (n1 := 256) x)).trans ((gate_at _ _ (x 0) (x 1)).trans ((ext_ld e x3 ho _ (x 1)).trans ?_))
  exact (dif_pos (c := o + (x 1).val < 2816) (t := fun h => gx e x3 ⟨16 + (x 0).val, by have : (x 0).val < 256 := (x 0).isLt; omega⟩ ⟨o + (x 1).val, h⟩) hc).symm

theorem val_piece (x : S256x256.Idx) : k0_pay12 a (View.ld x3 (rv ho)) x
    = (fun y : S256x5632.Idx => ux e a x3 (y 0) (y 1)) ((Rect.unit (s := S256x5632) ![0, 2816 + o] S256x256.size (hy ho)).emb x) := by
  have hc := col_lt ho (x 1)
  have he : (Rect.unit (s := S256x5632) ![0, 2816 + o] S256x256.size (hy ho)).emb x = (ix2 (x 0) ⟨2816 + (o + (x 1).val), by omega⟩ : S256x5632.Idx) :=
    funext fun i => Fin.ext ((Rect.idx_unit_val (s := S256x5632) ![0, 2816 + o] S256x256.size (hy ho) x i).trans
      ((Fin.forall_fin_two (p := fun i => (![0, 2816 + o] : Fin 2 → ℕ) i + (x i).val = ((ix2 (x 0) ⟨2816 + (o + (x 1).val), by omega⟩ : S256x5632.Idx) i).val)).mpr
        ⟨Nat.zero_add _, Nat.add_assoc _ _ _⟩ i))
  rw [he]
  refine (congrArg _ (eq_ix2 (n0 := 256) (n1 := 256) x)).trans ((val_ld a x3 ho (x 0) (x 1)).trans ?_)
  refine Eq.trans ?_ (dif_neg (show ¬2816 + (o + (x 1).val) < 2816 by omega)).symm
  exact congrArg _ (Fin.ext (Nat.add_sub_cancel_left _ _).symm)

end Blocks

section Outputs

/-- Stores that all agree with one function leave it wherever one covers. -/
theorem canon_pieces {S : Shape} {t : EltTy} (G : S.Idx → Elt Ideal t) (L : List (View.Piece (Elt Ideal) S t)) (h : View.PiecesOf G L) (y : S.Idx)
    (hc : ∃ p ∈ L, y ∈ p.1.set) : View.canon L y = G y :=
  View.canon_apply_of_pieces G L h.mem y hc

variable (i : grid0.Coords) (x0 : Vec Ideal S256x1024 .bf16) (x1 x2 : Vec Ideal S16x1024 .bf16) (x3 : Vec Ideal S1024x5632 .bf16)
  (x4 : Vec Ideal S3x2816 .f32) (x5 : Vec Ideal S1x2816 .f32)

/-- The block, and the block between its neighbours, as the body has them. -/
abbrev blk : FVec Ideal S256x1024 .bf16 := k0_pay78 i x0 x1 x2 x3 x4 x5
abbrev ext : FVec Ideal S288x1024 .bf16 := k0_pay79 i x0 x1 x2 x3 x4 x5

theorem blk_at (r : Fin 256) (k : Fin 1024) : blk i x0 x1 x2 x3 x4 x5 (ix2 r k) = x0 (ix2 r k) := by
  pointwise [k0_pay78, k0_pay3]

theorem ext_mid (r : Fin 256) (k : Fin 1024) : ext i x0 x1 x2 x3 x4 x5 (ix2 ⟨16 + r.val, by omega⟩ k) = x0 (ix2 r k) := by
  pointwise [k0_pay79, k0_pay4, k0_pay3]

theorem first : ∀ n : Fin 32, Scalar.cmpi .sgt (BitVec.ofNat 32 n.val) 0#32 = if n.val = 0 then 0#1 else 1#1 := by decide +kernel

theorem last : ∀ n : Fin 32, Scalar.cmpi .slt (BitVec.ofNat 32 n.val) 31#32 = if n.val = 31 then 0#1 else 1#1 := by decide +kernel

theorem ext_lo (k : Fin 1024) : ext i x0 x1 x2 x3 x4 x5 (ix2 15 k) = if (i 0).val = 0 then 0 else x1 (ix2 15 k) := by
  pointwise [k0_pay79, k0_pay4, k0_pay3]
  rw [first (i 0)]
  split <;> rfl

theorem ext_hi (k : Fin 1024) : ext i x0 x1 x2 x3 x4 x5 (ix2 272 k) = if (i 0).val = 31 then 0 else x2 (ix2 0 k) := by
  pointwise [k0_pay79, k0_pay4, k0_pay3]
  rw [last (i 0)]
  split <;> rfl

set_option maxHeartbeats 4000000 in
theorem out7 (y : S256x2816.Idx) : out0_7 (F := Ideal) i x0 x1 x2 x3 x4 x5 y = cx (ext i x0 x1 x2 x3 x4 x5) x3 x4 x5 (y 0) (y 1) := by
  unfold out0_7
  refine canon_pieces (t := .f32) (fun y : S256x2816.Idx => cx (ext i x0 x1 x2 x3 x4 x5) x3 x4 x5 (y 0) (y 1)) _ ?_ y ?_
  rotate_left
  · exact cover0_7 _ _ _ _ _ _ _ _ _ _ _ y
  exact ⟨conv_piece _ x3 x4 x5 (o := 2560) (by decide), conv_piece _ x3 x4 x5 (o := 2304) (by decide),
    conv_piece _ x3 x4 x5 (o := 2048) (by decide), conv_piece _ x3 x4 x5 (o := 1792) (by decide),
    conv_piece _ x3 x4 x5 (o := 1536) (by decide), conv_piece _ x3 x4 x5 (o := 1280) (by decide),
    conv_piece _ x3 x4 x5 (o := 1024) (by decide), conv_piece _ x3 x4 x5 (o := 768) (by decide),
    conv_piece _ x3 x4 x5 (o := 512) (by decide), conv_piece _ x3 x4 x5 (o := 256) (by decide),
    conv_piece _ x3 x4 x5 (o := 0) (by decide), trivial⟩

set_option maxHeartbeats 4000000 in
theorem out8 (y : S256x2816.Idx) : out0_8 (F := Ideal) i x0 x1 x2 x3 x4 x5 y
    = hx (ext i x0 x1 x2 x3 x4 x5) (blk i x0 x1 x2 x3 x4 x5) x3 x4 x5 (y 0) (y 1) := by
  unfold out0_8
  refine canon_pieces (t := .bf16) (fun y : S256x2816.Idx => hx (ext i x0 x1 x2 x3 x4 x5) (blk i x0 x1 x2 x3 x4 x5) x3 x4 x5 (y 0) (y 1)) _ ?_ y ?_
  rotate_left
  · exact cover0_8 _ _ _ _ _ _ _ _ _ _ _ y
  exact ⟨hid_piece _ _ x3 x4 x5 (o := 2560) (by decide), hid_piece _ _ x3 x4 x5 (o := 2304) (by decide),
    hid_piece _ _ x3 x4 x5 (o := 2048) (by decide), hid_piece _ _ x3 x4 x5 (o := 1792) (by decide),
    hid_piece _ _ x3 x4 x5 (o := 1536) (by decide), hid_piece _ _ x3 x4 x5 (o := 1280) (by decide),
    hid_piece _ _ x3 x4 x5 (o := 1024) (by decide), hid_piece _ _ x3 x4 x5 (o := 768) (by decide),
    hid_piece _ _ x3 x4 x5 (o := 512) (by decide), hid_piece _ _ x3 x4 x5 (o := 256) (by decide),
    hid_piece _ _ x3 x4 x5 (o := 0) (by decide), trivial⟩

set_option maxHeartbeats 4000000 in
theorem out6 (y : S256x5632.Idx) : out0_6 (F := Ideal) i x0 x1 x2 x3 x4 x5 y
    = ux (ext i x0 x1 x2 x3 x4 x5) (blk i x0 x1 x2 x3 x4 x5) x3 (y 0) (y 1) := by
  unfold out0_6
  refine canon_pieces (t := .f32) (fun y : S256x5632.Idx => ux (ext i x0 x1 x2 x3 x4 x5) (blk i x0 x1 x2 x3 x4 x5) x3 (y 0) (y 1)) _ ?_ y ?_
  rotate_left
  · exact cover0_6 _ _ _ _ _ _ _ _ _ _ _ _ _ _ _ _ _ _ _ _ _ _ y
  exact ⟨val_piece _ _ x3 (o := 2560) (by decide),
    gate_piece _ _ x3 (o := 2560) (by decide),
    val_piece _ _ x3 (o := 2304) (by decide),
    gate_piece _ _ x3 (o := 2304) (by decide),
    val_piece _ _ x3 (o := 2048) (by decide),
    gate_piece _ _ x3 (o := 2048) (by decide),
    val_piece _ _ x3 (o := 1792) (by decide),
    gate_piece _ _ x3 (o := 1792) (by decide),
    val_piece _ _ x3 (o := 1536) (by decide),
    gate_piece _ _ x3 (o := 1536) (by decide),
    val_piece _ _ x3 (o := 1280) (by decide),
    gate_piece _ _ x3 (o := 1280) (by decide),
    val_piece _ _ x3 (o := 1024) (by decide),
    gate_piece _ _ x3 (o := 1024) (by decide),
    val_piece _ _ x3 (o := 768) (by decide),
    gate_piece _ _ x3 (o := 768) (by decide),
    val_piece _ _ x3 (o := 512) (by decide),
    gate_piece _ _ x3 (o := 512) (by decide),
    val_piece _ _ x3 (o := 256) (by decide),
    gate_piece _ _ x3 (o := 256) (by decide), val_piece _ _ x3 (o := 0) (by decide),
    gate_piece _ _ x3 (o := 0) (by decide), trivial⟩

end Outputs

end Cert.Kernel7Ideal.Glu

end
-- ==== Proof.GluArray.lean ====
/-
  WHAT THE UP-PROJECTION'S FORWARD CALL LEAVES in its three arrays, at any arguments.
-/
module

public import proofs.«01_k».proof.Proof.GluMath
public import proofs.«01_k».proof.Proof.GluBlock
public import Idealize.ShloMosaic.Lib.StableHlo.ReadAt

@[expose] public section

set_option maxRecDepth 16384

noncomputable section

namespace Cert.Kernel7Ideal.Glu

open Idealize.ShloMosaic Idealize.ShloMosaic.TcCoe Idealize.SL.Sem
open Idealize.ShloMosaic.Pipeline (Dat)
open Cert.Kernel7Ideal Cert.Kernel7Ideal.Gen Cert.Glu

variable (m : (ℓ : Loc nD τ sig) → Buf (Elt Ideal) ℓ) (c : Dev nD)

/-- The entries of one device's arguments. -/
def args : Args where
  f n d := (m ((c.tc : Thread nD τ).loc main_arg0) : S8192x1024.Idx → EReal) (ix2 n d)
  w d j := (m ((c.tc : Thread nD τ).loc main_arg1) : S1024x5632.Idx → EReal) (ix2 d j)
  cw i j := (m ((c.tc : Thread nD τ).loc main_arg2) : S3x2816.Idx → EReal) (ix2 i j)
  cb j := (m ((c.tc : Thread nD τ).loc main_arg3) : S1x2816.Idx → EReal) (ix2 0 j)

/-! ## The blocks the points find -/

theorem v0_at (n : Fin 8192) (d : Fin 1024) : V m c main_v0 (ix2 n d : S8192x1024.Idx) = (args m c).f n d := by
  unfold args
  show StableHlo.after hostOps0 (fun b => m (c, b)) (Proc.devRef .tc main_v0) (ix2 n d : S8192x1024.Idx) = _
  unfold hostOps0
  after_reads_at

theorem v1_at (d : Fin 1024) (j : Fin 5632) : V m c main_v1 (ix2 d j : S1024x5632.Idx) = (args m c).w d j := by
  unfold args
  show StableHlo.after hostOps0 (fun b => m (c, b)) (Proc.devRef .tc main_v1) (ix2 d j : S1024x5632.Idx) = _
  unfold hostOps0
  after_reads_at

theorem idx0 : ∀ t : Fin cfg0.N, win0_0.index t = ![t.val, 0] := by decide +kernel
theorem idx1 : ∀ t : Fin cfg0.N, win0_1.index t = ![t.val * 16 - 1, 0] := by decide +kernel
theorem idx2 : ∀ t : Fin cfg0.N, win0_2.index t = ![min (t.val * 16 + 16) 511, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem coord : ∀ t : Fin cfg0.N, (grid0.coords t 0).val = t.val := by decide +kernel

theorem lt_points (t : Fin cfg0.N) : t.val < 32 := t.isLt

/-- The row `r` of point `t`. -/
def pn (t : Fin cfg0.N) (r : Fin 256) : Fin 8192 := ⟨t.val * 256 + r.val, by have := lt_points t; omega⟩

theorem blk0 (t : Fin cfg0.N) (r : Fin 256) (d : Fin 1024) : iblk m c 0 t (ix2 r d : S256x1024.Idx) = (args m c).f (pn t r) d := by
  rw [← v0_at]
  blk_simp [iblk]
  exact congrArg _ (by unfold pn; blk_ext [idx0])

theorem blk1 (t : Fin cfg0.N) (h : ¬t.val = 0) (d : Fin 1024) : iblk m c 1 t (ix2 15 d : S16x1024.Idx)
    = (args m c).f ⟨t.val * 256 - 1, by have := lt_points t; omega⟩ d := by
  rw [← v0_at]
  blk_simp [iblk]
  exact congrArg _ (by blk_ext [idx1])

theorem blk2 (t : Fin cfg0.N) (h : ¬t.val = 31) (d : Fin 1024) : iblk m c 2 t (ix2 0 d : S16x1024.Idx)
    = (args m c).f ⟨t.val * 256 + 256, by have := lt_points t; omega⟩ d := by
  have := lt_points t
  rw [← v0_at]
  blk_simp [iblk]
  exact congrArg _ (by blk_ext [idx2])

theorem blk3 (t : Fin cfg0.N) (d : Fin 1024) (j : Fin 5632) : iblk m c 3 t (ix2 d j : S1024x5632.Idx) = (args m c).w d j := by
  rw [← v1_at]
  blk_simp [iblk]
  exact congrArg _ (by blk_ext [idx3])

theorem blk4 (t : Fin cfg0.N) (i : Fin 3) (j : Fin 2816) : iblk m c 4 t (ix2 i j : S3x2816.Idx) = (args m c).cw i j := by
  unfold args
  dsimp only
  rw [← V_main_arg2 m c]
  blk_simp [iblk]
  exact congrArg _ (by blk_ext [idx4])

theorem blk5 (t : Fin cfg0.N) (j : Fin 2816) : iblk m c 5 t (ix2 0 j : S1x2816.Idx) = (args m c).cb j := by
  unfold args
  dsimp only
  rw [← V_main_arg3 m c]
  blk_simp [iblk]
  exact congrArg _ (by blk_ext [idx5])

/-! ## One point -/

/-- The block, and the block between its neighbours, at point `t`. -/
abbrev pb (t : Fin cfg0.N) : FVec Ideal S256x1024 .bf16 :=
  blk (grid0.coords t) (iblk m c 0 t) (iblk m c 1 t) (iblk m c 2 t) (iblk m c 3 t) (iblk m c 4 t) (iblk m c 5 t)
abbrev pe (t : Fin cfg0.N) : FVec Ideal S288x1024 .bf16 :=
  ext (grid0.coords t) (iblk m c 0 t) (iblk m c 1 t) (iblk m c 2 t) (iblk m c 3 t) (iblk m c 4 t) (iblk m c 5 t)

theorem g_mid (t : Fin cfg0.N) (r : Fin 256) (j : Fin 2816) :
    gx (pe m c t) (iblk m c 3 t) ⟨16 + r.val, by omega⟩ j = (args m c).gate (pn t r) j := by
  unfold gx Args.gate Args.u
  refine Finset.sum_congr rfl fun k _ => congrArg₂ _ ((ext_mid _ _ _ _ _ _ _ r k).trans (blk0 m c t r k)) (blk3 m c t k _)

theorem g_lo (t : Fin cfg0.N) (j : Fin 2816) : gx (pe m c t) (iblk m c 3 t) 15 j = (args m c).before (pn t 0) j := by
  unfold gx Args.before
  by_cases h : t.val = 0
  · rw [if_pos (show (pn t 0).val = 0 by show t.val * 256 + 0 = 0; omega)]
    refine Finset.sum_eq_zero fun k _ => ?_
    exact (congrArg (· * _) ((ext_lo _ _ _ _ _ _ _ k).trans (if_pos ((coord t).trans h)))).trans (zero_mul _)
  · rw [if_neg (show ¬(pn t 0).val = 0 by show ¬t.val * 256 + 0 = 0; omega)]
    refine Finset.sum_congr rfl fun k _ => congrArg₂ _ ?_ (blk3 m c t k _)
    exact ((ext_lo _ _ _ _ _ _ _ k).trans (if_neg fun e => h ((coord t).symm.trans e))).trans (blk1 m c t h k)

theorem g_hi (t : Fin cfg0.N) (j : Fin 2816) : gx (pe m c t) (iblk m c 3 t) 272 j = (args m c).after (pn t 255) j := by
  have hl := lt_points t
  unfold gx Args.after
  by_cases h : t.val = 31
  · rw [dif_neg (show ¬(pn t 255).val + 1 < 8192 by show ¬t.val * 256 + 255 + 1 < 8192; omega)]
    refine Finset.sum_eq_zero fun k _ => ?_
    exact (congrArg (· * _) ((ext_hi _ _ _ _ _ _ _ k).trans (if_pos ((coord t).trans h)))).trans (zero_mul _)
  · rw [dif_pos (show (pn t 255).val + 1 < 8192 by show t.val * 256 + 255 + 1 < 8192; omega)]
    refine Finset.sum_congr rfl fun k _ => congrArg₂ _ ?_ (blk3 m c t k _)
    exact ((ext_hi _ _ _ _ _ _ _ k).trans (if_neg fun e => h ((coord t).symm.trans e))).trans (blk2 m c t h k)

theorem g_before (t : Fin cfg0.N) (r : Fin 256) (j : Fin 2816) :
    gx (pe m c t) (iblk m c 3 t) ⟨15 + r.val, by omega⟩ j = (args m c).before (pn t r) j := by
  by_cases h : r.val = 0
  · obtain rfl : r = 0 := Fin.ext h
    exact g_lo m c t j
  · have e : (⟨15 + r.val, by omega⟩ : Fin 288) = ⟨16 + (⟨r.val - 1, by omega⟩ : Fin 256).val, by show 16 + (r.val - 1) < 288; omega⟩ :=
      Fin.ext (by show 15 + r.val = 16 + (r.val - 1); omega)
    rw [e, g_mid]
    unfold Args.before
    rw [if_neg (show ¬(pn t r).val = 0 by show ¬t.val * 256 + r.val = 0; omega)]
    exact congrArg (fun n => (args m c).gate n j) (Fin.ext (by show t.val * 256 + (r.val - 1) = t.val * 256 + r.val - 1; omega))

theorem g_after (t : Fin cfg0.N) (r : Fin 256) (j : Fin 2816) :
    gx (pe m c t) (iblk m c 3 t) ⟨17 + r.val, by omega⟩ j = (args m c).after (pn t r) j := by
  have hl := lt_points t
  by_cases h : r.val = 255
  · obtain rfl : r = 255 := Fin.ext h
    exact g_hi m c t j
  · have e : (⟨17 + r.val, by omega⟩ : Fin 288) = ⟨16 + (⟨r.val + 1, by omega⟩ : Fin 256).val, by show 16 + (r.val + 1) < 288; omega⟩ :=
      Fin.ext (by show 17 + r.val = 16 + (r.val + 1); omega)
    rw [e, g_mid]
    unfold Args.after
    rw [dif_pos (show (pn t r).val + 1 < 8192 by show t.val * 256 + r.val + 1 < 8192; omega)]
    exact congrArg (fun n => (args m c).gate n j) (Fin.ext (by show t.val * 256 + (r.val + 1) = t.val * 256 + r.val + 1; omega))

theorem v_at (t : Fin cfg0.N) (r : Fin 256) (j : Fin 2816) :
    vx (pb m c t) (iblk m c 3 t) r j = (args m c).u (pn t r) ⟨2816 + j.val, by omega⟩ := by
  unfold vx Args.u
  exact Finset.sum_congr rfl fun k _ => congrArg₂ _ ((blk_at _ _ _ _ _ _ _ r k).trans (blk0 m c t r k)) (blk3 m c t k _)

theorem c_at (t : Fin cfg0.N) (r : Fin 256) (j : Fin 2816) :
    cx (pe m c t) (iblk m c 3 t) (iblk m c 4 t) (iblk m c 5 t) r j = (args m c).gc (pn t r) j := by
  unfold cx Args.gc
  rw [g_before, g_mid, g_after]
  simp only [blk4, blk5]

theorem h_at (t : Fin cfg0.N) (r : Fin 256) (j : Fin 2816) :
    hx (pe m c t) (pb m c t) (iblk m c 3 t) (iblk m c 4 t) (iblk m c 5 t) r j = (args m c).h (pn t r) j := by
  unfold hx Args.h
  rw [c_at, v_at]

theorem u_at (t : Fin cfg0.N) (r : Fin 256) (j : Fin 5632) : ux (pe m c t) (pb m c t) (iblk m c 3 t) r j = (args m c).u (pn t r) j := by
  unfold ux
  split
  · rw [g_mid]
    rfl
  · next hj =>
    rw [v_at]
    exact congrArg _ (Fin.ext (by show 2816 + (j.val - 2816) = j.val; omega))

/-! ## The arrays -/

theorem arr6 : (dats m 0 c).arrAt 6 cfg0.N = fun i : S8192x5632.Idx => (args m c).u (i 0) (i 1) := by
  refine (dats m 0 c).arrAt_eq_of_covers 6 _ (by decide +kernel) fun t hf y => ?_
  blk_simp [idx6]
  rw [after0_6]
  refine (out6 _ _ _ _ _ _ _ y).trans ((u_at m c t (y 0) (y 1)).trans ?_)
  exact congrArg₂ _ (Fin.ext (by unfold pn; blk_simp [idx6])) (Fin.ext (by blk_simp [idx6]))

theorem arr7 : (dats m 0 c).arrAt 7 cfg0.N = fun i : S8192x2816.Idx => (args m c).gc (i 0) (i 1) := by
  refine (dats m 0 c).arrAt_eq_of_covers 7 _ (by decide +kernel) fun t hf y => ?_
  blk_simp [idx7]
  rw [after0_7]
  refine (out7 _ _ _ _ _ _ _ y).trans ((c_at m c t (y 0) (y 1)).trans ?_)
  exact congrArg₂ _ (Fin.ext (by unfold pn; blk_simp [idx7])) (Fin.ext (by blk_simp [idx7]))

theorem arr8 : (dats m 0 c).arrAt 8 cfg0.N = fun i : S8192x2816.Idx => (args m c).h (i 0) (i 1) := by
  refine (dats m 0 c).arrAt_eq_of_covers 8 _ (by decide +kernel) fun t hf y => ?_
  blk_simp [idx8]
  rw [after0_8]
  refine (out8 _ _ _ _ _ _ _ y).trans ((h_at m c t (y 0) (y 1)).trans ?_)
  exact congrArg₂ _ (Fin.ext (by unfold pn; blk_simp [idx8])) (Fin.ext (by blk_simp [idx8]))

end Cert.Kernel7Ideal.Glu

end
-- ==== Proof.GluRef.lean ====
/-
  THE REFERENCE'S THREE RESULTS of the up-projection's forward call, at any arguments.
-/
module

public import proofs.«01_k».proof.Proof.GluMath
public import proofs.«01_k».proof.Proof.Gen.Reference7Ideal.Read

@[expose] public section

set_option maxRecDepth 16384

noncomputable section

namespace Cert.Reference7Ideal.Glu

open Idealize.ShloMosaic Idealize.ShloMosaic.TcCoe
open Cert.Reference7Ideal Cert.Reference7Ideal.Read Cert.Glu

variable (x0 : (⟨S8192x1024, .f32⟩ : BufTy).Contents (Elt Ideal)) (x1 : (⟨S1024x5632, .f32⟩ : BufTy).Contents (Elt Ideal))
  (x2 : (⟨S3x2816, .f32⟩ : BufTy).Contents (Elt Ideal)) (x3 : (⟨S1x2816, .f32⟩ : BufTy).Contents (Elt Ideal))

/-- The arguments' entries. -/
def args : Args where
  f n d := x0 (ix2 n d)
  w d j := x1 (ix2 d j)
  cw i j := x2 (ix2 i j)
  cb j := x3 (ix2 0 j)

theorem v0_at (n : Fin 8192) (j : Fin 5632) : val_main_v0 (F := Ideal) x0 x1 (ix2 n j) = (args x0 x1 x2 x3).u n j := by
  unfold Args.u args
  pointwise [val_main_v0]

theorem v1_at (n : Fin 8192) (j : Fin 2816) : val_main_v1 (F := Ideal) x0 x1 (ix2 n j) = (args x0 x1 x2 x3).gate n j := by
  refine Eq.trans ?_ (v0_at x0 x1 x2 x3 n _)
  unfold val_main_v1
  generalize val_main_v0 (F := Ideal) x0 x1 = a
  pointwise

theorem v2_at (n : Fin 8192) (j : Fin 2816) :
    val_main_v2 (F := Ideal) x0 x1 (ix2 n j) = (args x0 x1 x2 x3).u n ⟨2816 + j.val, by omega⟩ := by
  refine Eq.trans ?_ (v0_at x0 x1 x2 x3 n _)
  unfold val_main_v2
  generalize val_main_v0 (F := Ideal) x0 x1 = a
  pointwise

theorem v5_at (n : Fin 8192) (j : Fin 2816) : val_main_v5 (F := Ideal) x0 x1 (ix2 n j) = (args x0 x1 x2 x3).before n j := by
  unfold Args.before
  simp only [← v1_at x0 x1 x2 x3]
  unfold val_main_v5 val_main_v4
  generalize val_main_v1 (F := Ideal) x0 x1 = a
  pointwise [val_main_v3, val_main_cst]
  by_cases h : n.val = 0
  · rw [if_pos h, dif_pos (show n.val < 1 by omega)]
  · rw [if_neg h, dif_neg (show ¬n.val < 1 by omega), dif_pos (show n.val - 1 < 8192 by omega)]

theorem v13_at (n : Fin 8192) (j : Fin 2816) : val_main_v13 (F := Ideal) x0 x1 (ix2 n j) = (args x0 x1 x2 x3).gate n j := by
  simp only [← v1_at x0 x1 x2 x3]
  unfold val_main_v13 val_main_v4
  generalize val_main_v1 (F := Ideal) x0 x1 = a
  pointwise [val_main_v3, val_main_cst]

theorem v20_at (n : Fin 8192) (j : Fin 2816) : val_main_v20 (F := Ideal) x0 x1 (ix2 n j) = (args x0 x1 x2 x3).after n j := by
  unfold Args.after
  simp only [← v1_at x0 x1 x2 x3]
  unfold val_main_v20 val_main_v4
  generalize val_main_v1 (F := Ideal) x0 x1 = a
  pointwise [val_main_v3, val_main_cst]
  rw [dif_neg (show ¬2 + n.val < 1 by omega)]
  by_cases h : n.val + 1 < 8192
  · rw [dif_pos h, dif_pos (show 2 + n.val - 1 < 8192 by omega)]
    exact congrArg (fun k => a (ix2 k j)) (Fin.ext (by show 2 + n.val - 1 = n.val + 1; omega))
  · rw [dif_neg h, dif_neg (show ¬2 + n.val - 1 < 8192 by omega)]

theorem v28_at (n : Fin 8192) (j : Fin 2816) : val_main_v28 (F := Ideal) x0 x1 x2 x3 (ix2 n j) = (args x0 x1 x2 x3).gc n j := by
  unfold Args.gc
  rw [← v5_at x0 x1 x2 x3, ← v13_at x0 x1 x2 x3, ← v20_at x0 x1 x2 x3]
  unfold val_main_v28 val_main_v26 val_main_v19 val_main_v12 val_main_v10 val_main_v18 val_main_v25 args
  generalize val_main_v5 (F := Ideal) x0 x1 = a
  generalize val_main_v13 (F := Ideal) x0 x1 = b
  generalize val_main_v20 (F := Ideal) x0 x1 = d
  pointwise [val_main_v6, val_main_v7, val_main_v8, val_main_v9, val_main_v11, val_main_cst_0, val_main_v14, val_main_v15, val_main_v16, val_main_v17,
    val_main_v21, val_main_v22, val_main_v23, val_main_v24, val_main_v27]

theorem v31_at (n : Fin 8192) (j : Fin 2816) : val_main_v31 (F := Ideal) x0 x1 x2 x3 (ix2 n j) = (args x0 x1 x2 x3).h n j := by
  unfold Args.h
  rw [← v28_at x0 x1 x2 x3, ← v2_at x0 x1 x2 x3]
  unfold val_main_v31 val_main_v30 val_main_v29 val_main_call0_v5 val_main_call0_v3 val_main_call0_v1 val_main_call0_v0 Ideal.logistic
  generalize val_main_v28 (F := Ideal) x0 x1 x2 x3 = a
  generalize val_main_v2 (F := Ideal) x0 x1 = b
  pointwise [val_main_call0_v4, val_main_call0_v2, val_main_call0_cst, val_main_call0_cst_0]

end Cert.Reference7Ideal.Glu

end
-- ==== Proof.GluAlgebraic.lean ====
/-
  THE UP-PROJECTION'S FORWARD CALL AND ITS REFERENCE END WITH THE SAME THREE RESULTS, at any arguments.
-/
module

public import proofs.«01_k».proof.Defs
public import proofs.«01_k».proof.Proof.GluArray
public import proofs.«01_k».proof.Proof.GluRef
public import proofs.«01_k».proof.Proof.Gen.Reference7Ideal.Run

@[expose] public section

set_option maxRecDepth 16384

noncomputable section

namespace Cert.Glu

open Idealize.ShloMosaic Idealize.ShloMosaic.TcCoe Idealize.SL.Sem

section Results
variable (m : (ℓ : Loc Cert.Kernel7Ideal.nD Cert.Kernel7Ideal.τ Cert.Kernel7Ideal.sig) → Buf (Elt Ideal) ℓ) (c : Dev Cert.Kernel7Ideal.nD)

/-- One device's argument. -/
abbrev in0 := m ((c.tc : Thread Cert.Kernel7Ideal.nD Cert.Kernel7Ideal.τ).loc Cert.Kernel7Ideal.main_arg0)
abbrev in1 := m ((c.tc : Thread Cert.Kernel7Ideal.nD Cert.Kernel7Ideal.τ).loc Cert.Kernel7Ideal.main_arg1)
abbrev in2 := m ((c.tc : Thread Cert.Kernel7Ideal.nD Cert.Kernel7Ideal.τ).loc Cert.Kernel7Ideal.main_arg2)
abbrev in3 := m ((c.tc : Thread Cert.Kernel7Ideal.nD Cert.Kernel7Ideal.τ).loc Cert.Kernel7Ideal.main_arg3)

/-! Each array the call leaves is the reference's result. -/

theorem same6 : Cert.Reference7Ideal.Read.val_main_v0 (F := Ideal) (in0 m c) (in1 m c) = (Cert.Kernel7Ideal.Gen.dats m 0 c).arrAt 6 Cert.Kernel7Ideal.cfg0.N := by
  refine Eq.trans ?_ (Cert.Kernel7Ideal.Glu.arr6 m c).symm
  funext i
  exact (congrArg _ (eq_ix2 i)).trans (Cert.Reference7Ideal.Glu.v0_at (in0 m c) (in1 m c) (in2 m c) (in3 m c) (i 0) (i 1))

theorem same7 : Cert.Reference7Ideal.Read.val_main_v28 (F := Ideal) (in0 m c) (in1 m c) (in2 m c) (in3 m c) = (Cert.Kernel7Ideal.Gen.dats m 0 c).arrAt 7 Cert.Kernel7Ideal.cfg0.N := by
  refine Eq.trans ?_ (Cert.Kernel7Ideal.Glu.arr7 m c).symm
  funext i
  exact (congrArg _ (eq_ix2 i)).trans (Cert.Reference7Ideal.Glu.v28_at (in0 m c) (in1 m c) (in2 m c) (in3 m c) (i 0) (i 1))

theorem same8 : Cert.Reference7Ideal.Read.val_main_v31 (F := Ideal) (in0 m c) (in1 m c) (in2 m c) (in3 m c) = (Cert.Kernel7Ideal.Gen.dats m 0 c).arrAt 8 Cert.Kernel7Ideal.cfg0.N := by
  refine Eq.trans ?_ (Cert.Kernel7Ideal.Glu.arr8 m c).symm
  funext i
  exact (congrArg _ (eq_ix2 i)).trans (Cert.Reference7Ideal.Glu.v31_at (in0 m c) (in1 m c) (in2 m c) (in3 m c) (i 0) (i 1))

end Results

set_option maxHeartbeats 4000000 in
/-- From memories that agree on the arguments, both programs run, end with equal results, and leave their arguments as they were. -/
theorem holds : Cert.algebraic_Kernel7Ideal_Reference7Ideal (hKernel7Ideal := Cert.Kernel7Ideal.Gen.facts)
    (hReference7Ideal := Cert.Reference7Ideal.Gen.facts) := by
  intro m g m' g' _ ha
  refine ⟨fun c => (Cert.Kernel7Ideal.Gen.dats m 0 c).arrAt 6 Cert.Kernel7Ideal.cfg0.N,
    fun c => (Cert.Kernel7Ideal.Gen.dats m 0 c).arrAt 7 Cert.Kernel7Ideal.cfg0.N,
    fun c => (Cert.Kernel7Ideal.Gen.dats m 0 c).arrAt 8 Cert.Kernel7Ideal.cfg0.N,
    Cert.Kernel7Ideal.Value.run_blocks (F := Ideal) m g, ?_⟩
  refine (θ_run Cert.Reference7Ideal.defs _ _).mono (fun r h c => ?_) (Cert.Reference7Ideal.Value.run (F := Ideal) m' g')
  obtain ⟨a0, a1, a2, a3⟩ := ha c
  obtain ⟨h0, h1, h2, hr⟩ := h c
  refine ⟨h0.trans ?_, h1.trans ?_, h2.trans ?_, hr⟩
  · rw [Cert.Reference7Ideal.Read.val_main_v0_eq, a0, a1]
    exact same6 m c
  · rw [Cert.Reference7Ideal.Read.val_main_v28_eq, a0, a1, a2, a3]
    exact same7 m c
  · rw [Cert.Reference7Ideal.Read.val_main_v31_eq, a0, a1, a2, a3]
    exact same8 m c

end Cert.Glu

end
-- ==== Proof.DownForward.lean ====
/-
  THE DOWN-PROJECTION'S FORWARD CALL: the product of the hidden rows with the weights, and the gated residual. A point works on two ranges
  of 256 rows, and both are the same function of what they load.
-/
module

public import proofs.«01_k».proof.Defs
public import proofs.«01_k».proof.Proof.GluBlock
public import proofs.«01_k».proof.Proof.Gen.Kernel8Ideal.Value
public import proofs.«01_k».proof.Proof.Gen.Reference8Ideal.Read
public import proofs.«01_k».proof.Proof.Gen.Reference8Ideal.Run
public import Idealize.ShloMosaic.Lib.StableHlo.ReadAt

@[expose] public section

set_option maxRecDepth 16384

noncomputable section

namespace Cert.Kernel8Ideal.Down

open Idealize.ShloMosaic Idealize.ShloMosaic.TcCoe Idealize.SL.Sem
open Idealize.ShloMosaic.Pipeline (Dat)
open Cert.Kernel8Ideal Cert.Kernel8Ideal.Gen

/-! ## One point -/

section Block
variable (x0 : Vec Ideal S512x2816 .bf16) (x1 : Vec Ideal S2816x1024 .bf16) (x2 : Vec Ideal S512x1024 .f32) (x3 : Vec Ideal S1x1024 .f32)

/-- The product at a row of the block, and the gated residual. -/
def zx (r : Fin 512) (d : Fin 1024) : EReal := ∑ j : Fin 2816, x0 (ix2 r j) * x1 (ix2 j d)
def yx (r : Fin 512) (d : Fin 1024) : EReal := x2 (ix2 r d) + x3 (ix2 0 d) * zx x0 x1 r d

theorem prod_at (a : Vec Ideal S256x2816 .bf16) (w : Vec Ideal S2816x1024 .bf16) (r : Fin 256) (d : Fin 1024) :
    k0_pay1 a w (ix2 r d) = ∑ j : Fin 2816, a (ix2 r j) * w (ix2 j d) := by
  pointwise [k0_pay1]

theorem res_at (g : Vec Ideal S1x1024 .f32) (a : Vec Ideal S256x2816 .bf16) (w : Vec Ideal S2816x1024 .bf16) (x : Vec Ideal S256x1024 .f32)
    (r : Fin 256) (d : Fin 1024) : k0_pay2 g a w x (ix2 r d) = x (ix2 r d) + g (ix2 0 d) * k0_pay1 a w (ix2 r d) := by
  unfold k0_pay2
  generalize k0_pay1 a w = p
  pointwise

variable {o : ℕ} (ho : o + 256 ≤ 512)

include ho in
theorem hh : ∀ i, (![o, 0] : Fin 2 → ℕ) i + S256x2816.size i ≤ S512x2816.size i :=
  Fin.forall_fin_two.mpr ⟨by show o + 256 ≤ 512; omega, by show 0 + 2816 ≤ 2816; omega⟩
include ho in
theorem hx : ∀ i, (![o, 0] : Fin 2 → ℕ) i + S256x1024.size i ≤ S512x1024.size i :=
  Fin.forall_fin_two.mpr ⟨by show o + 256 ≤ 512; omega, by show 0 + 1024 ≤ 1024; omega⟩

/-- The rows from `o` of the hidden rows, and of the residual. -/
abbrev rh : Rect S512x2816 := Rect.unit (s := S512x2816) ![o, 0] S256x2816.size (hh ho)
abbrev rx : Rect S512x1024 := Rect.unit (s := S512x1024) ![o, 0] S256x1024.size (hx ho)

include ho in
theorem row_lt (r : Fin 256) : o + r.val < 512 := by
  have := r.isLt
  omega

theorem prod_ld (r : Fin 256) (d : Fin 1024) :
    k0_pay1 (View.ld x0 (rh ho)) (View.ld x1 r0_2) (ix2 r d) = zx x0 x1 ⟨o + r.val, row_lt ho r⟩ d := by
  refine (prod_at _ _ r d).trans (Finset.sum_congr rfl fun k _ => congrArg₂ _ ?_ ?_)
  · exact View.ld_unit_apply_of x0 _ _ _ _ _ (Fin.forall_fin_two.mpr ⟨rfl, (Nat.zero_add _).symm⟩)
  · exact View.ld_unit_apply_of x1 _ _ _ _ _ (Fin.forall_fin_two.mpr ⟨(Nat.zero_add _).symm, (Nat.zero_add _).symm⟩)

theorem res_ld (r : Fin 256) (d : Fin 1024) :
    k0_pay2 (View.ld x3 r0_0) (View.ld x0 (rh ho)) (View.ld x1 r0_2) (View.ld x2 (rx ho)) (ix2 r d)
      = yx x0 x1 x2 x3 ⟨o + r.val, row_lt ho r⟩ d := by
  refine (res_at _ _ _ _ r d).trans (congrArg₂ _ ?_ (congrArg₂ _ ?_ (prod_ld x0 x1 ho r d)))
  · exact View.ld_unit_apply_of x2 _ _ _ _ _ (Fin.forall_fin_two.mpr ⟨rfl, (Nat.zero_add _).symm⟩)
  · exact View.ld_unit_apply_of x3 _ _ _ _ _ (Fin.forall_fin_two.mpr ⟨(Nat.zero_add _).symm, (Nat.zero_add _).symm⟩)

/-- Where a range of rows lies in a block. -/
theorem emb_eq (x : S256x1024.Idx) : (rx ho).emb x = (ix2 ⟨o + (x 0).val, row_lt ho (x 0)⟩ (x 1) : S512x1024.Idx) :=
  funext fun i => Fin.ext ((Rect.idx_unit_val (s := S512x1024) ![o, 0] S256x1024.size (hx ho) x i).trans
    ((Fin.forall_fin_two (p := fun i => (![o, 0] : Fin 2 → ℕ) i + (x i).val = ((ix2 ⟨o + (x 0).val, row_lt ho (x 0)⟩ (x 1) : S512x1024.Idx) i).val)).mpr
      ⟨rfl, Nat.zero_add _⟩ i))

theorem prod_piece (x : S256x1024.Idx) : k0_pay1 (View.ld x0 (rh ho)) (View.ld x1 r0_2) x
    = (fun y : S512x1024.Idx => zx x0 x1 (y 0) (y 1)) ((rx ho).emb x) := by
  rw [emb_eq ho]
  exact (congrArg _ (eq_ix2 (n0 := 256) (n1 := 1024) x)).trans (prod_ld x0 x1 ho (x 0) (x 1))

theorem res_piece (x : S256x1024.Idx) :
    k0_pay2 (View.ld x3 r0_0) (View.ld x0 (rh ho)) (View.ld x1 r0_2) (View.ld x2 (rx ho)) x
      = (fun y : S512x1024.Idx => yx x0 x1 x2 x3 (y 0) (y 1)) ((rx ho).emb x) := by
  rw [emb_eq ho]
  exact (congrArg _ (eq_ix2 (n0 := 256) (n1 := 1024) x)).trans (res_ld x0 x1 x2 x3 ho (x 0) (x 1))

theorem out4 (y : S512x1024.Idx) : out0_4 (F := Ideal) x0 x1 x2 x3 y = zx x0 x1 (y 0) (y 1) := by
  unfold out0_4
  refine Cert.Kernel7Ideal.Glu.canon_pieces (t := .f32) (fun y : S512x1024.Idx => zx x0 x1 (y 0) (y 1)) _ ?_ y ?_
  rotate_left
  · exact cover0_4 _ _ y
  exact ⟨prod_piece x0 x1 (o := 256) (by decide), prod_piece x0 x1 (o := 0) (by decide), trivial⟩

theorem out5 (y : S512x1024.Idx) : out0_5 (F := Ideal) x0 x1 x2 x3 y = yx x0 x1 x2 x3 (y 0) (y 1) := by
  unfold out0_5
  refine Cert.Kernel7Ideal.Glu.canon_pieces (t := .f32) (fun y : S512x1024.Idx => yx x0 x1 x2 x3 (y 0) (y 1)) _ ?_ y ?_
  rotate_left
  · exact cover0_5 _ _ y
  exact ⟨res_piece x0 x1 x2 x3 (o := 256) (by decide), res_piece x0 x1 x2 x3 (o := 0) (by decide), trivial⟩

end Block

/-! ## The arrays -/

variable (m : (ℓ : Loc nD τ sig) → Buf (Elt Ideal) ℓ) (c : Dev nD)

/-- One device's arguments. -/
abbrev in0 : S8192x1024.Idx → EReal := m ((c.tc : Thread nD τ).loc main_arg0)
abbrev in1 : S8192x2816.Idx → EReal := m ((c.tc : Thread nD τ).loc main_arg1)
abbrev in2 : S2816x1024.Idx → EReal := m ((c.tc : Thread nD τ).loc main_arg2)
abbrev in3 : S1x1024.Idx → EReal := m ((c.tc : Thread nD τ).loc main_arg3)

theorem v0_at (n : Fin 8192) (j : Fin 2816) : V m c main_v0 (ix2 n j : S8192x2816.Idx) = in1 m c (ix2 n j) := by
  show StableHlo.after hostOps0 (fun b => m (c, b)) (Proc.devRef .tc main_v0) (ix2 n j : S8192x2816.Idx) = _
  unfold hostOps0
  after_reads_at

theorem v1_at (j : Fin 2816) (d : Fin 1024) : V m c main_v1 (ix2 j d : S2816x1024.Idx) = in2 m c (ix2 j d) := by
  show StableHlo.after hostOps0 (fun b => m (c, b)) (Proc.devRef .tc main_v1) (ix2 j d : S2816x1024.Idx) = _
  unfold hostOps0
  after_reads_at

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel

theorem lt_points (t : Fin cfg0.N) : t.val < 16 := t.isLt

/-- The row `r` of point `t`. -/
def pn (t : Fin cfg0.N) (r : Fin 512) : Fin 8192 := ⟨t.val * 512 + r.val, by have := lt_points t; omega⟩

theorem blk0 (t : Fin cfg0.N) (r : Fin 512) (j : Fin 2816) : iblk m c 0 t (ix2 r j : S512x2816.Idx) = in1 m c (ix2 (pn t r) j) := by
  rw [← v0_at]
  blk_simp [iblk]
  exact congrArg _ (by unfold pn; blk_ext [idx0])

theorem blk1 (t : Fin cfg0.N) (j : Fin 2816) (d : Fin 1024) : iblk m c 1 t (ix2 j d : S2816x1024.Idx) = in2 m c (ix2 j d) := by
  rw [← v1_at]
  blk_simp [iblk]
  exact congrArg _ (by blk_ext [idx1])

theorem blk2 (t : Fin cfg0.N) (r : Fin 512) (d : Fin 1024) : iblk m c 2 t (ix2 r d : S512x1024.Idx) = in0 m c (ix2 (pn t r) d) := by
  unfold in0
  rw [← V_main_arg0 m c]
  blk_simp [iblk]
  exact congrArg _ (by unfold pn; blk_ext [idx2])

theorem blk3 (t : Fin cfg0.N) (d : Fin 1024) : iblk m c 3 t (ix2 0 d : S1x1024.Idx) = in3 m c (ix2 0 d) := by
  unfold in3
  rw [← V_main_arg3 m c]
  blk_simp [iblk]
  exact congrArg _ (by blk_ext [idx3])

/-- The product, and the gated residual, at a row. -/
def z (n : Fin 8192) (d : Fin 1024) : EReal := ∑ j : Fin 2816, in1 m c (ix2 n j) * in2 m c (ix2 j d)
def y (n : Fin 8192) (d : Fin 1024) : EReal := in0 m c (ix2 n d) + in3 m c (ix2 0 d) * z m c n d

theorem z_at (t : Fin cfg0.N) (r : Fin 512) (d : Fin 1024) : zx (iblk m c 0 t) (iblk m c 1 t) r d = z m c (pn t r) d := by
  unfold zx z
  exact Finset.sum_congr rfl fun k _ => congrArg₂ _ (blk0 m c t r k) (blk1 m c t k d)

theorem y_at (t : Fin cfg0.N) (r : Fin 512) (d : Fin 1024) :
    yx (iblk m c 0 t) (iblk m c 1 t) (iblk m c 2 t) (iblk m c 3 t) r d = y m c (pn t r) d := by
  unfold yx y
  exact congrArg₂ _ (blk2 m c t r d) (congrArg₂ _ (blk3 m c t d) (z_at m c t r d))

theorem arr4 : (dats m 0 c).arrAt 4 cfg0.N = fun i : S8192x1024.Idx => z m c (i 0) (i 1) := by
  refine (dats m 0 c).arrAt_eq_of_covers 4 _ (by decide +kernel) fun t hf y => ?_
  blk_simp [idx4]
  rw [after0_4]
  refine (out4 _ _ _ _ y).trans ((z_at m c t (y 0) (y 1)).trans ?_)
  exact congrArg₂ _ (Fin.ext (by unfold pn; blk_simp [idx4])) (Fin.ext (by blk_simp [idx4]))

theorem arr5 : (dats m 0 c).arrAt 5 cfg0.N = fun i : S8192x1024.Idx => y m c (i 0) (i 1) := by
  refine (dats m 0 c).arrAt_eq_of_covers 5 _ (by decide +kernel) fun t hf y => ?_
  blk_simp [idx5]
  rw [after0_5]
  refine (out5 _ _ _ _ y).trans ((y_at m c t (y 0) (y 1)).trans ?_)
  exact congrArg₂ _ (Fin.ext (by unfold pn; blk_simp [idx5])) (Fin.ext (by blk_simp [idx5]))

/-! ## The reference -/

theorem ref0 : Cert.Reference8Ideal.Read.val_main_v0 (F := Ideal) (in1 m c) (in2 m c) = (dats m 0 c).arrAt 4 cfg0.N := by
  refine Eq.trans ?_ (arr4 m c).symm
  funext i
  refine (congrArg _ (eq_ix2 (n0 := 8192) (n1 := 1024) i)).trans ?_
  unfold z
  pointwise [Cert.Reference8Ideal.Read.val_main_v0]

theorem ref3 : Cert.Reference8Ideal.Read.val_main_v3 (F := Ideal) (in0 m c) (in1 m c) (in2 m c) (in3 m c) = (dats m 0 c).arrAt 5 cfg0.N := by
  refine Eq.trans ?_ (arr5 m c).symm
  funext i
  refine (congrArg _ (eq_ix2 (n0 := 8192) (n1 := 1024) i)).trans ?_
  unfold y z
  pointwise [Cert.Reference8Ideal.Read.val_main_v0, Cert.Reference8Ideal.Read.val_main_v1, Cert.Reference8Ideal.Read.val_main_v2,
    Cert.Reference8Ideal.Read.val_main_v3]

end Cert.Kernel8Ideal.Down

namespace Cert.Down

open Idealize.ShloMosaic Idealize.ShloMosaic.TcCoe Idealize.SL.Sem

set_option maxHeartbeats 4000000 in
/-- From memories that agree on the arguments, both programs run, end with equal results, and leave their arguments as they were. -/
theorem holds : Cert.algebraic_Kernel8Ideal_Reference8Ideal (hKernel8Ideal := Cert.Kernel8Ideal.Gen.facts)
    (hReference8Ideal := Cert.Reference8Ideal.Gen.facts) := by
  intro m g m' g' _ ha
  refine ⟨fun c => (Cert.Kernel8Ideal.Gen.dats m 0 c).arrAt 4 Cert.Kernel8Ideal.cfg0.N,
    fun c => (Cert.Kernel8Ideal.Gen.dats m 0 c).arrAt 5 Cert.Kernel8Ideal.cfg0.N,
    Cert.Kernel8Ideal.Value.run_blocks (F := Ideal) m g, ?_⟩
  refine (θ_run Cert.Reference8Ideal.defs _ _).mono (fun r h c => ?_) (Cert.Reference8Ideal.Value.run (F := Ideal) m' g')
  obtain ⟨a0, a1, a2, a3⟩ := ha c
  obtain ⟨h0, h1, hr⟩ := h c
  refine ⟨h0.trans ?_, h1.trans ?_, hr⟩
  · rw [Cert.Reference8Ideal.Read.val_main_v0_eq, a1, a2]
    exact Cert.Kernel8Ideal.Down.ref0 m c
  · rw [Cert.Reference8Ideal.Read.val_main_v3_eq, a0, a1, a2, a3]
    exact Cert.Kernel8Ideal.Down.ref3 m c

end Cert.Down

end
-- ==== Proof.DownLossBlock.lean ====
/-
  WHAT ONE POINT OF THE LOSS'S CALL COMPUTES from its blocks: the product, the difference from the target, its gradients, and the two
  ranges' parts of the loss and of the gate's gradient.
-/
module

public import proofs.«01_k».proof.Proof.NormMath
public import proofs.«01_k».proof.Proof.GluBlock
public import proofs.«01_k».proof.Proof.Gen.Kernel9Ideal.Value

@[expose] public section

set_option maxRecDepth 16384

noncomputable section

namespace Cert.DownLoss

open Idealize.ShloMosaic

theorem word_half : Ideal.ofBits .f32 0x3F000000#32 = ((1 / 2 : ℝ) : EReal) := by
  simp [Ideal.ofBits, Ideal.ieee]; rw [← EReal.coe_mul]; norm_num

theorem word_one : Ideal.ofBits .f32 0x3F800000#32 = ((1 : ℝ) : EReal) := by
  simp [Ideal.ofBits, Ideal.ieee]; rw [← EReal.coe_mul]; norm_num

theorem word_two : Ideal.ofBits .f32 0x40000000#32 = ((2 : ℝ) : EReal) := by
  simp [Ideal.ofBits, Ideal.ieee]; rw [← EReal.coe_mul]; norm_num

theorem word_part : Ideal.ofBits .f32 0x3A800000#32 = ((1 / 1024 : ℝ) : EReal) := by
  simp [Ideal.ofBits, Ideal.ieee]; rw [← EReal.coe_mul]; norm_num

/-- The half may be taken out of a sum. -/
theorem half_sum {ι : Type*} (s : Finset ι) (f : ι → EReal) :
    Ideal.ofBits .f32 0x3F000000#32 * ∑ i ∈ s, f i = ∑ i ∈ s, Ideal.ofBits .f32 0x3F000000#32 * f i := by
  rw [word_half, mul_comm, ← Cert.Norm.sum_mul_coe s f (by norm_num)]
  exact Finset.sum_congr rfl fun i _ => mul_comm _ _

/-- The derivative's factors, the half, the width and the square's two, are the kernel's one factor. -/
theorem scale_eq (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [word_half, word_one, word_two, word_part, Cert.Norm.word_1024, Ideal.div_coe (by norm_num), ← mul_assoc, mul_comm e]
  refine congrArg (· * e) ?_
  rw [← EReal.coe_mul, ← EReal.coe_mul, ← EReal.coe_mul]
  norm_num

/-- A sum over 512 rows is one over its two halves. -/
theorem sum_halves (f : Fin 512 → EReal) :
    ∑ r, f r = ∑ r : Fin 256, f ⟨0 + r.val, by omega⟩ + ∑ r : Fin 256, f ⟨256 + r.val, by omega⟩ := by
  show ∑ r : Fin (256 + 256), f r = _
  rw [Fin.sum_univ_add]
  refine congrArg₂ _ ?_ ?_
  · exact Finset.sum_congr rfl fun r _ => congrArg f (Fin.ext (Nat.zero_add _).symm)
  · exact Finset.sum_congr rfl fun r _ => congrArg f (Fin.ext rfl)

end Cert.DownLoss

namespace Cert.Kernel9Ideal.Down

open Idealize.ShloMosaic Idealize.ShloMosaic.TcCoe Idealize.SL.Sem
open Cert.Kernel9Ideal Cert.Kernel9Ideal.Gen

/-! ## A range of rows -/

section Rows
variable (g : Vec Ideal S1x1024 .f32) (a : Vec Ideal S256x2816 .bf16) (w : Vec Ideal S2816x1024 .bf16) (x t : Vec Ideal S256x1024 .f32)

theorem pay6_at (r : Fin 256) (d : Fin 1024) : k0_pay6 a w (ix2 r d) = ∑ j : Fin 2816, a (ix2 r j) * w (ix2 j d) := by
  pointwise [k0_pay6]

theorem pay7_at (r : Fin 256) (d : Fin 1024) :
    k0_pay7 g a w x t (ix2 r d) = (x (ix2 r d) + g (ix2 0 d) * k0_pay6 a w (ix2 r d)) - t (ix2 r d) := by
  unfold k0_pay7
  generalize k0_pay6 a w = p
  pointwise

theorem pay8_at (r : Fin 256) (d : Fin 1024) :
    k0_pay8 g a w x t (ix2 r d) = k0_pay7 g a w x t (ix2 r d) * Ideal.ofBits .f32 0x3A800000#32 := by
  unfold k0_pay8
  generalize k0_pay7 g a w x t = p
  pointwise

theorem pay9_at (l : Fin 128) :
    k0_pay9 g a w x t (ix2 0 l) = Ideal.ofBits .f32 0x3F000000#32 * ∑ r : Fin 256,
      Ideal.div (∑ d : Fin 1024, k0_pay7 g a w x t (ix2 r d) * k0_pay7 g a w x t (ix2 r d)) (Ideal.ofBits .f32 0x44800000#32) := by
  unfold k0_pay9
  generalize k0_pay7 g a w x t = p
  pointwise

theorem pay10_at (d : Fin 1024) :
    k0_pay10 g a w x t (ix2 0 d) = ∑ r : Fin 256, k0_pay8 g a w x t (ix2 r d) * k0_pay6 a w (ix2 r d) := by
  unfold k0_pay10
  generalize k0_pay8 g a w x t = p
  generalize k0_pay6 a w = q
  pointwise

theorem pay11_at (r : Fin 256) (d : Fin 1024) : k0_pay11 g a w x t (ix2 r d) = k0_pay8 g a w x t (ix2 r d) * g (ix2 0 d) := by
  unfold k0_pay11
  generalize k0_pay8 g a w x t = p
  pointwise

theorem pay12_at (v s : Vec Ideal S1x128 .f32) (l : Fin 128) : k0_pay12 v s (ix2 0 l) = s (ix2 0 l) + v (ix2 0 l) := by
  pointwise [k0_pay12]

theorem pay13_at (v s : Vec Ideal S1x1024 .f32) (d : Fin 1024) : k0_pay13 v s (ix2 0 d) = s (ix2 0 d) + v (ix2 0 d) := by
  pointwise [k0_pay13]

theorem pay4_at (l : Fin 128) : k0_pay4 (F := Ideal) (ix2 0 l) = 0 := by
  pointwise [k0_pay4]

theorem pay5_at (d : Fin 1024) : k0_pay5 (F := Ideal) (ix2 0 d) = 0 := by
  pointwise [k0_pay5]

end Rows

/-! ## A block -/

section Block
variable (x0 : Vec Ideal S512x2816 .bf16) (x1 : Vec Ideal S2816x1024 .bf16) (x2 x3 : Vec Ideal S512x1024 .f32) (x4 : Vec Ideal S1x1024 .f32)

/-- The product at a row, the difference from the target, its gradient, and its mean square. -/
def zx (r : Fin 512) (d : Fin 1024) : EReal := ∑ j : Fin 2816, x0 (ix2 r j) * x1 (ix2 j d)
def ex (r : Fin 512) (d : Fin 1024) : EReal := (x2 (ix2 r d) + x4 (ix2 0 d) * zx x0 x1 r d) - x3 (ix2 r d)
def gx (r : Fin 512) (d : Fin 1024) : EReal := ex x0 x1 x2 x3 x4 r d * Ideal.ofBits .f32 0x3A800000#32
def qx (r : Fin 512) : EReal :=
  Ideal.div (∑ d : Fin 1024, ex x0 x1 x2 x3 x4 r d * ex x0 x1 x2 x3 x4 r d) (Ideal.ofBits .f32 0x44800000#32)

variable {o : ℕ} (ho : o + 256 ≤ 512)

include ho in
theorem hh : ∀ i, (![o, 0] : Fin 2 → ℕ) i + S256x2816.size i ≤ S512x2816.size i :=
  Fin.forall_fin_two.mpr ⟨by show o + 256 ≤ 512; omega, by show 0 + 2816 ≤ 2816; omega⟩
include ho in
theorem hx : ∀ i, (![o, 0] : Fin 2 → ℕ) i + S256x1024.size i ≤ S512x1024.size i :=
  Fin.forall_fin_two.mpr ⟨by show o + 256 ≤ 512; omega, by show 0 + 1024 ≤ 1024; omega⟩

/-- The rows from `o`. -/
abbrev rh : Rect S512x2816 := Rect.unit (s := S512x2816) ![o, 0] S256x2816.size (hh ho)
abbrev rx : Rect S512x1024 := Rect.unit (s := S512x1024) ![o, 0] S256x1024.size (hx ho)

include ho in
theorem row_lt (r : Fin 256) : o + r.val < 512 := by
  have := r.isLt
  omega

theorem z_ld (r : Fin 256) (d : Fin 1024) : k0_pay6 (View.ld x0 (rh ho)) x1 (ix2 r d) = zx x0 x1 ⟨o + r.val, row_lt ho r⟩ d :=
  (pay6_at _ _ r d).trans (Finset.sum_congr rfl fun k _ => congrArg (· * _)
    (View.ld_unit_apply_of x0 _ _ _ _ _ (Fin.forall_fin_two.mpr ⟨rfl, (Nat.zero_add _).symm⟩)))

theorem e_ld (r : Fin 256) (d : Fin 1024) :
    k0_pay7 x4 (View.ld x0 (rh ho)) x1 (View.ld x2 (rx ho)) (View.ld x3 (rx ho)) (ix2 r d) = ex x0 x1 x2 x3 x4 ⟨o + r.val, row_lt ho r⟩ d := by
  refine (pay7_at _ _ _ _ _ r d).trans (congrArg₂ _ (congrArg₂ _ ?_ (congrArg _ (z_ld x0 x1 ho r d))) ?_)
  · exact View.ld_unit_apply_of x2 _ _ _ _ _ (Fin.forall_fin_two.mpr ⟨rfl, (Nat.zero_add _).symm⟩)
  · exact View.ld_unit_apply_of x3 _ _ _ _ _ (Fin.forall_fin_two.mpr ⟨rfl, (Nat.zero_add _).symm⟩)

theorem g_ld (r : Fin 256) (d : Fin 1024) :
    k0_pay8 x4 (View.ld x0 (rh ho)) x1 (View.ld x2 (rx ho)) (View.ld x3 (rx ho)) (ix2 r d) = gx x0 x1 x2 x3 x4 ⟨o + r.val, row_lt ho r⟩ d :=
  (pay8_at _ _ _ _ _ r d).trans (congrArg (· * _) (e_ld x0 x1 x2 x3 x4 ho r d))

theorem dz_ld (r : Fin 256) (d : Fin 1024) :
    k0_pay11 x4 (View.ld x0 (rh ho)) x1 (View.ld x2 (rx ho)) (View.ld x3 (rx ho)) (ix2 r d)
      = gx x0 x1 x2 x3 x4 ⟨o + r.val, row_lt ho r⟩ d * x4 (ix2 0 d) :=
  (pay11_at _ _ _ _ _ r d).trans (congrArg (· * _) (g_ld x0 x1 x2 x3 x4 ho r d))

theorem loss_ld (l : Fin 128) :
    k0_pay9 x4 (View.ld x0 (rh ho)) x1 (View.ld x2 (rx ho)) (View.ld x3 (rx ho)) (ix2 0 l)
      = ∑ r : Fin 256, Ideal.ofBits .f32 0x3F000000#32 * qx x0 x1 x2 x3 x4 ⟨o + r.val, row_lt ho r⟩ := by
  rw [← Cert.DownLoss.half_sum]
  exact (pay9_at _ _ _ _ _ l).trans (congrArg _ (Finset.sum_congr rfl fun r _ => congrArg (Ideal.div · _)
    (Finset.sum_congr rfl fun d _ => congrArg₂ _ (e_ld x0 x1 x2 x3 x4 ho r d) (e_ld x0 x1 x2 x3 x4 ho r d))))

theorem gate_ld (d : Fin 1024) :
    k0_pay10 x4 (View.ld x0 (rh ho)) x1 (View.ld x2 (rx ho)) (View.ld x3 (rx ho)) (ix2 0 d)
      = ∑ r : Fin 256, gx x0 x1 x2 x3 x4 ⟨o + r.val, row_lt ho r⟩ d * zx x0 x1 ⟨o + r.val, row_lt ho r⟩ d :=
  (pay10_at _ _ _ _ _ d).trans (Finset.sum_congr rfl fun r _ => congrArg₂ _ (g_ld x0 x1 x2 x3 x4 ho r d) (z_ld x0 x1 ho r d))

/-- Where a range of rows lies in a block. -/
theorem emb_eq (x : S256x1024.Idx) : (rx ho).emb x = (ix2 ⟨o + (x 0).val, row_lt ho (x 0)⟩ (x 1) : S512x1024.Idx) :=
  funext fun i => Fin.ext ((Rect.idx_unit_val (s := S512x1024) ![o, 0] S256x1024.size (hx ho) x i).trans
    ((Fin.forall_fin_two (p := fun i => (![o, 0] : Fin 2 → ℕ) i + (x i).val = ((ix2 ⟨o + (x 0).val, row_lt ho (x 0)⟩ (x 1) : S512x1024.Idx) i).val)).mpr
      ⟨rfl, Nat.zero_add _⟩ i))

theorem dx_piece (x : S256x1024.Idx) : k0_pay8 x4 (View.ld x0 (rh ho)) x1 (View.ld x2 (rx ho)) (View.ld x3 (rx ho)) x
    = (fun y : S512x1024.Idx => gx x0 x1 x2 x3 x4 (y 0) (y 1)) ((rx ho).emb x) := by
  rw [emb_eq ho]
  exact (congrArg _ (eq_ix2 (n0 := 256) (n1 := 1024) x)).trans (g_ld x0 x1 x2 x3 x4 ho (x 0) (x 1))

theorem dz_piece (x : S256x1024.Idx) : k0_pay11 x4 (View.ld x0 (rh ho)) x1 (View.ld x2 (rx ho)) (View.ld x3 (rx ho)) x
    = (fun y : S512x1024.Idx => gx x0 x1 x2 x3 x4 (y 0) (y 1) * x4 (ix2 0 (y 1))) ((rx ho).emb x) := by
  rw [emb_eq ho]
  exact (congrArg _ (eq_ix2 (n0 := 256) (n1 := 1024) x)).trans (dz_ld x0 x1 x2 x3 x4 ho (x 0) (x 1))

/-- The rows before the block's 256th, and the rest. -/
theorem lo : 0 + 256 ≤ 512 := by decide
theorem hi : 256 + 256 ≤ 512 := by decide

/-- A block of rows stored in two ranges is covered. -/
theorem covered {t : EltTy} (p q : Vec Ideal S256x1024 t) (y : S512x1024.Idx) :
    ∃ r ∈ ([⟨rx hi, p⟩, ⟨rx lo, q⟩] : List (View.Piece (Elt Ideal) S512x1024 t)), y ∈ r.1.set :=
  View.cover_of_tiled [⟨rx hi, p⟩, ⟨rx lo, q⟩] S256x1024.size (by rfl) y

/-- The two stores of a block's gradient, and of the product's, as one function. -/
theorem dx_two (y : S512x1024.Idx) :
    View.canon ([⟨rx hi, k0_pay8 x4 (View.ld x0 (rh hi)) x1 (View.ld x2 (rx hi)) (View.ld x3 (rx hi))⟩,
      ⟨rx lo, k0_pay8 x4 (View.ld x0 (rh lo)) x1 (View.ld x2 (rx lo)) (View.ld x3 (rx lo))⟩] : List (View.Piece (Elt Ideal) S512x1024 .f32)) y = gx x0 x1 x2 x3 x4 (y 0) (y 1) := by
  refine Cert.Kernel7Ideal.Glu.canon_pieces (t := .f32) (fun y : S512x1024.Idx => gx x0 x1 x2 x3 x4 (y 0) (y 1)) _ ?_ y ?_
  rotate_left
  · exact covered _ _ y
  exact ⟨dx_piece x0 x1 x2 x3 x4 hi, dx_piece x0 x1 x2 x3 x4 lo, trivial⟩

theorem dz_two (y : S512x1024.Idx) :
    View.canon ([⟨rx hi, k0_pay11 x4 (View.ld x0 (rh hi)) x1 (View.ld x2 (rx hi)) (View.ld x3 (rx hi))⟩,
      ⟨rx lo, k0_pay11 x4 (View.ld x0 (rh lo)) x1 (View.ld x2 (rx lo)) (View.ld x3 (rx lo))⟩] : List (View.Piece (Elt Ideal) S512x1024 .bf16)) y
      = gx x0 x1 x2 x3 x4 (y 0) (y 1) * x4 (ix2 0 (y 1)) := by
  refine Cert.Kernel7Ideal.Glu.canon_pieces (t := .bf16) (fun y : S512x1024.Idx => gx x0 x1 x2 x3 x4 (y 0) (y 1) * x4 (ix2 0 (y 1))) _ ?_ y ?_
  rotate_left
  · exact covered _ _ y
  exact ⟨dz_piece x0 x1 x2 x3 x4 hi, dz_piece x0 x1 x2 x3 x4 lo, trivial⟩

/-- The loss's part, and the gate's gradient's, of the two ranges, added to what was there. -/
theorem loss_two (s : Vec Ideal S1x128 .f32) (l : Fin 128) :
    k0_pay12 (k0_pay9 x4 (View.ld x0 (rh hi)) x1 (View.ld x2 (rx hi)) (View.ld x3 (rx hi)))
      (k0_pay12 (k0_pay9 x4 (View.ld x0 (rh lo)) x1 (View.ld x2 (rx lo)) (View.ld x3 (rx lo))) s) (ix2 0 l)
      = s (ix2 0 l) + ∑ r : Fin 512, Ideal.ofBits .f32 0x3F000000#32 * qx x0 x1 x2 x3 x4 r := by
  rw [Cert.DownLoss.sum_halves, ← add_assoc]
  refine (pay12_at _ _ l).trans (congrArg₂ _ ?_ (loss_ld x0 x1 x2 x3 x4 hi l))
  exact (pay12_at _ _ l).trans (congrArg _ (loss_ld x0 x1 x2 x3 x4 lo l))

theorem gate_two (s : Vec Ideal S1x1024 .f32) (d : Fin 1024) :
    k0_pay13 (k0_pay10 x4 (View.ld x0 (rh hi)) x1 (View.ld x2 (rx hi)) (View.ld x3 (rx hi)))
      (k0_pay13 (k0_pay10 x4 (View.ld x0 (rh lo)) x1 (View.ld x2 (rx lo)) (View.ld x3 (rx lo))) s) (ix2 0 d)
      = s (ix2 0 d) + ∑ r : Fin 512, gx x0 x1 x2 x3 x4 r d * zx x0 x1 r d := by
  rw [Cert.DownLoss.sum_halves, ← add_assoc]
  refine (pay13_at _ _ d).trans (congrArg₂ _ ?_ (gate_ld x0 x1 x2 x3 x4 hi d))
  exact (pay13_at _ _ d).trans (congrArg _ (gate_ld x0 x1 x2 x3 x4 lo d))

end Block

/-! ## What a point leaves -/

variable (m : (ℓ : Loc nD τ sig) → Buf (Elt Ideal) ℓ) (c : Dev nD)

/-- The gradient at the residual, and at the product. -/
theorem out5 (t : Fin cfg0.N) (y : S512x1024.Idx) : (outsAt0 m c t.val t.isLt).1 y
    = gx (iblk m c 0 t) (iblk m c 1 t) (iblk m c 2 t) (iblk m c 3 t) (iblk m c 4 t) (y 0) (y 1) := by
  by_cases h : t.val % 16 = 0
  · rw [outsAt0_A m c t h]; frame_out; exact dx_two _ _ _ _ _ y
  · rw [outsAt0_B m c t h]; frame_out; exact dx_two _ _ _ _ _ y

theorem out6 (t : Fin cfg0.N) (y : S512x1024.Idx) : (outsAt0 m c t.val t.isLt).2.1 y
    = gx (iblk m c 0 t) (iblk m c 1 t) (iblk m c 2 t) (iblk m c 3 t) (iblk m c 4 t) (y 0) (y 1)
      * (iblk m c 4 t : Vec Ideal S1x1024 .f32) (ix2 0 (y 1)) := by
  by_cases h : t.val % 16 = 0
  · rw [outsAt0_A m c t h]; frame_out; exact dz_two _ _ _ _ _ y
  · rw [outsAt0_B m c t h]; frame_out; exact dz_two _ _ _ _ _ y

/-- What a point adds to the loss, and to the gate's gradient. -/
def lx (t : Fin cfg0.N) : EReal := ∑ r : Fin 512, Ideal.ofBits .f32 0x3F000000#32
  * qx (iblk m c 0 t) (iblk m c 1 t) (iblk m c 2 t) (iblk m c 3 t) (iblk m c 4 t) r
def hgx (t : Fin cfg0.N) (d : Fin 1024) : EReal := ∑ r : Fin 512,
  gx (iblk m c 0 t) (iblk m c 1 t) (iblk m c 2 t) (iblk m c 3 t) (iblk m c 4 t) r d * zx (iblk m c 0 t) (iblk m c 1 t) r d

theorem out7_A (t : Fin cfg0.N) (h : t.val % 16 = 0) (l : Fin 128) : (outsAt0 m c t.val t.isLt).2.2.1 (ix2 0 l) = 0 + lx m c t := by
  rw [outsAt0_A m c t h]; frame_out
  exact (loss_two _ _ _ _ _ _ l).trans (congrArg (· + _) (pay4_at l))

theorem out7_B (t : Fin cfg0.N) (h : ¬t.val % 16 = 0) (l : Fin 128) : (outsAt0 m c t.val t.isLt).2.2.1 (ix2 0 l)
    = (outsAt0 m c (t.val - 1) (by have := t.isLt; omega)).2.2.1 (ix2 0 l) + lx m c t := by
  rw [outsAt0_B m c t h]; frame_out
  exact loss_two _ _ _ _ _ _ l

theorem out8_A (t : Fin cfg0.N) (h : t.val % 16 = 0) (d : Fin 1024) : (outsAt0 m c t.val t.isLt).2.2.2 (ix2 0 d) = 0 + hgx m c t d := by
  rw [outsAt0_A m c t h]; frame_out
  exact (gate_two _ _ _ _ _ _ d).trans (congrArg (· + _) (pay5_at d))

theorem out8_B (t : Fin cfg0.N) (h : ¬t.val % 16 = 0) (d : Fin 1024) : (outsAt0 m c t.val t.isLt).2.2.2 (ix2 0 d)
    = (outsAt0 m c (t.val - 1) (by have := t.isLt; omega)).2.2.2 (ix2 0 d) + hgx m c t d := by
  rw [outsAt0_B m c t h]; frame_out
  exact gate_two _ _ _ _ _ _ d

end Cert.Kernel9Ideal.Down

end
-- ==== Proof.DownLossRef.lean ====
/-
  THE REFERENCE OF THE LOSS'S CALL, at an index: the product, the difference from the target, the derivative's three gradients, and the loss.
-/
module

public import proofs.«01_k».proof.Defs
public import proofs.«01_k».proof.Proof.Gen.Reference9Ideal.Read
public import Idealize.ShloMosaic.Lib.Pointwise

@[expose] public section

set_option maxRecDepth 16384

noncomputable section

namespace Cert.Reference9Ideal.Down

open Idealize.ShloMosaic Idealize.ShloMosaic.TcCoe Idealize.SL.Sem
open Cert.Reference9Ideal Cert.Reference9Ideal.Read

variable (x : (⟨S8192x1024, .f32⟩ : BufTy).Contents (Elt Ideal)) (h : (⟨S8192x2816, .f32⟩ : BufTy).Contents (Elt Ideal))
  (w : (⟨S2816x1024, .f32⟩ : BufTy).Contents (Elt Ideal)) (g : (⟨S1x1024, .f32⟩ : BufTy).Contents (Elt Ideal))
  (t : (⟨S8192x1024, .f32⟩ : BufTy).Contents (Elt Ideal))

theorem v0_at (n : Fin 8192) (d : Fin 1024) :
    val_main_v0 (F := Ideal) h w (ix2 n d) = ∑ j : Fin 2816, (h (ix2 n j) * w (ix2 j d) : EReal) := by
  pointwise [val_main_v0]

theorem v4_at (n : Fin 8192) (d : Fin 1024) :
    val_main_v4 (F := Ideal) x h w g t (ix2 n d) = ((x (ix2 n d) + g (ix2 0 d) * val_main_v0 (F := Ideal) h w (ix2 n d)) - t (ix2 n d) : EReal) := by
  unfold val_main_v4 val_main_v3 val_main_v2 val_main_v1
  generalize val_main_v0 (F := Ideal) h w = z
  pointwise

theorem v18_at (n : Fin 8192) (d : Fin 1024) :
    val_main_v18 (F := Ideal) x h w g t (ix2 n d)
      = Ideal.div (Ideal.ofBits .f32 0x3F000000#32 * Ideal.ofBits .f32 0x3F800000#32) (Ideal.ofBits .f32 0x44800000#32)
        * (Ideal.ofBits .f32 0x40000000#32 * val_main_v4 (F := Ideal) x h w g t (ix2 n d)) := by
  unfold val_main_v18 val_main_v7
  generalize val_main_v4 (F := Ideal) x h w g t = e
  pointwise [val_main_v17, val_main_v16, val_main_v15, val_main_v14, val_main_v13, val_main_v6, val_main_cst, val_main_cst_4, val_main_cst_5,
    val_main_cst_6]

theorem v24_at (n : Fin 8192) (d : Fin 1024) :
    val_main_v24 (F := Ideal) x h w g t (ix2 n d) = (g (ix2 0 d) * val_main_v18 (F := Ideal) x h w g t (ix2 n d) : EReal) := by
  unfold val_main_v24 val_main_v20 val_main_v19
  generalize val_main_v18 (F := Ideal) x h w g t = e
  pointwise

theorem v23_at (d : Fin 1024) :
    val_main_v23 (F := Ideal) x h w g t (ix2 0 d)
      = ∑ n : Fin 8192, (val_main_v18 (F := Ideal) x h w g t (ix2 n d) * val_main_v0 (F := Ideal) h w (ix2 n d) : EReal) := by
  unfold val_main_v23 val_main_v22 val_main_v21
  generalize val_main_v18 (F := Ideal) x h w g t = e
  generalize val_main_v0 (F := Ideal) h w = z
  pointwise [val_main_cst_7]

theorem v25_at (l : Fin 128) :
    val_main_v25 (F := Ideal) x h w g t (ix2 0 l) = Ideal.ofBits .f32 0x3F000000#32 * ∑ n : Fin 8192,
      Ideal.div (∑ d : Fin 1024, val_main_v4 (F := Ideal) x h w g t (ix2 n d) * val_main_v4 (F := Ideal) x h w g t (ix2 n d))
        (Ideal.ofBits .f32 0x44800000#32) := by
  unfold val_main_v25 val_main_v12 val_main_v11 val_main_v10 val_main_v8 val_main_v5
  generalize val_main_v4 (F := Ideal) x h w g t = e
  pointwise [val_main_v9, val_main_cst_0, val_main_cst_1, val_main_cst_2, val_main_cst_3]

end Cert.Reference9Ideal.Down

end
-- ==== Proof.DownLossArray.lean ====
/-
  WHAT THE LOSS'S CALL LEAVES in its four arrays, at any arguments, and that the reference's results are the same: the gradients at the
  residual and at the product, the loss, and the gate's gradient.
-/
module

public import proofs.«01_k».proof.Proof.DownLossBlock
public import proofs.«01_k».proof.Proof.DownLossRef
public import proofs.«01_k».proof.Proof.Gen.Reference9Ideal.Run
public import Idealize.ShloMosaic.Lib.StableHlo.ReadAt

@[expose] public section

set_option maxRecDepth 16384

noncomputable section

namespace Cert.Kernel9Ideal.Down

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ) (c : Dev nD)

/-- One device's arguments. -/
abbrev in0 : S8192x1024.Idx → EReal := m ((c.tc : Thread nD τ).loc main_arg0)
abbrev in1 : S8192x2816.Idx → EReal := m ((c.tc : Thread nD τ).loc main_arg1)
abbrev in2 : S2816x1024.Idx → EReal := m ((c.tc : Thread nD τ).loc main_arg2)
abbrev in3 : S1x1024.Idx → EReal := m ((c.tc : Thread nD τ).loc main_arg3)
abbrev in4 : S8192x1024.Idx → EReal := m ((c.tc : Thread nD τ).loc main_arg4)

/-! ## The blocks -/

theorem v0_at (n : Fin 8192) (j : Fin 2816) : V m c main_v0 (ix2 n j : S8192x2816.Idx) = in1 m c (ix2 n j) := by
  show StableHlo.after hostOps0 (fun b => m (c, b)) (Proc.devRef .tc main_v0) (ix2 n j : S8192x2816.Idx) = _
  unfold hostOps0
  after_reads_at

theorem v1_at (j : Fin 2816) (d : Fin 1024) : V m c main_v1 (ix2 j d : S2816x1024.Idx) = in2 m c (ix2 j d) := by
  show StableHlo.after hostOps0 (fun b => m (c, b)) (Proc.devRef .tc main_v1) (ix2 j d : S2816x1024.Idx) = _
  unfold hostOps0
  after_reads_at

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![0, 0] := by decide +kernel
theorem idx8 : ∀ t : Fin cfg0.N, win0_8.index t = ![0, 0] := by decide +kernel

theorem lt_points (t : Fin cfg0.N) : t.val < 16 := t.isLt

/-- The row `r` of point `t`. -/
def pn (t : Fin cfg0.N) (r : Fin 512) : Fin 8192 := ⟨t.val * 512 + r.val, by have := lt_points t; omega⟩

theorem blk0 (t : Fin cfg0.N) (r : Fin 512) (j : Fin 2816) : iblk m c 0 t (ix2 r j : S512x2816.Idx) = in1 m c (ix2 (pn t r) j) := by
  rw [← v0_at]
  blk_simp [iblk]
  exact congrArg _ (by unfold pn; blk_ext [idx0])

theorem blk1 (t : Fin cfg0.N) (j : Fin 2816) (d : Fin 1024) : iblk m c 1 t (ix2 j d : S2816x1024.Idx) = in2 m c (ix2 j d) := by
  rw [← v1_at]
  blk_simp [iblk]
  exact congrArg _ (by blk_ext [idx1])

theorem blk2 (t : Fin cfg0.N) (r : Fin 512) (d : Fin 1024) : iblk m c 2 t (ix2 r d : S512x1024.Idx) = in0 m c (ix2 (pn t r) d) := by
  unfold in0
  rw [← V_main_arg0 m c]
  blk_simp [iblk]
  exact congrArg _ (by unfold pn; blk_ext [idx2])

theorem blk3 (t : Fin cfg0.N) (r : Fin 512) (d : Fin 1024) : iblk m c 3 t (ix2 r d : S512x1024.Idx) = in4 m c (ix2 (pn t r) d) := by
  unfold in4
  rw [← V_main_arg4 m c]
  blk_simp [iblk]
  exact congrArg _ (by unfold pn; blk_ext [idx3])

theorem blk4 (t : Fin cfg0.N) (d : Fin 1024) : iblk m c 4 t (ix2 0 d : S1x1024.Idx) = in3 m c (ix2 0 d) := by
  unfold in3
  rw [← V_main_arg3 m c]
  blk_simp [iblk]
  exact congrArg _ (by blk_ext [idx4])

/-! ## A row -/

/-- The product at a row, the difference from the target, its gradient, and its mean square. -/
def z (n : Fin 8192) (d : Fin 1024) : EReal := ∑ j : Fin 2816, in1 m c (ix2 n j) * in2 m c (ix2 j d)
def e (n : Fin 8192) (d : Fin 1024) : EReal := (in0 m c (ix2 n d) + in3 m c (ix2 0 d) * z m c n d) - in4 m c (ix2 n d)
def gr (n : Fin 8192) (d : Fin 1024) : EReal := e m c n d * Ideal.ofBits .f32 0x3A800000#32
def q (n : Fin 8192) : EReal := Ideal.div (∑ d : Fin 1024, e m c n d * e m c n d) (Ideal.ofBits .f32 0x44800000#32)

theorem z_at (t : Fin cfg0.N) (r : Fin 512) (d : Fin 1024) : zx (iblk m c 0 t) (iblk m c 1 t) r d = z m c (pn t r) d := by
  unfold zx z
  exact Finset.sum_congr rfl fun k _ => congrArg₂ _ (blk0 m c t r k) (blk1 m c t k d)

theorem e_at (t : Fin cfg0.N) (r : Fin 512) (d : Fin 1024) :
    ex (iblk m c 0 t) (iblk m c 1 t) (iblk m c 2 t) (iblk m c 3 t) (iblk m c 4 t) r d = e m c (pn t r) d := by
  unfold ex e
  exact congrArg₂ _ (congrArg₂ _ (blk2 m c t r d) (congrArg₂ _ (blk4 m c t d) (z_at m c t r d))) (blk3 m c t r d)

theorem gr_at (t : Fin cfg0.N) (r : Fin 512) (d : Fin 1024) :
    gx (iblk m c 0 t) (iblk m c 1 t) (iblk m c 2 t) (iblk m c 3 t) (iblk m c 4 t) r d = gr m c (pn t r) d :=
  congrArg (· * _) (e_at m c t r d)

theorem q_at (t : Fin cfg0.N) (r : Fin 512) :
    qx (iblk m c 0 t) (iblk m c 1 t) (iblk m c 2 t) (iblk m c 3 t) (iblk m c 4 t) r = q m c (pn t r) :=
  congrArg (Ideal.div · _) (Finset.sum_congr rfl fun d _ => congrArg₂ _ (e_at m c t r d) (e_at m c t r d))

/-! ## The sums over the rows -/

/-- A sum kept over the points, 512 rows at each, is the sum over the rows. -/
theorem fold_rows (f : (n : ℕ) → n < cfg0.N → EReal) (F : Fin 8192 → EReal)
    (h0 : ∀ t : Fin cfg0.N, t.val % 16 = 0 → f t.val t.isLt = 0 + ∑ r, F (pn t r))
    (h1 : ∀ t : Fin cfg0.N, ∀ h : ¬t.val % 16 = 0, f t.val t.isLt = f (t.val - 1) (by have := t.isLt; omega) + ∑ r, F (pn t r))
    (t : Fin cfg0.N) (ht : t.val % 16 = 15) : f t.val t.isLt = ∑ n, F n := by
  have H := Pipeline.eq_sum_fin_of_reset_step_apply_of_flush (N := cfg0.N) (M := EReal) (ι := Unit)
    (fun n h _ => f n h) 16 (fun _ => 0) (fun t _ => ∑ r, F (pn t r)) (fun t h _ => h0 t h) (fun t h _ => h1 t h) t ht ()
  refine H.trans ?_
  rw [zero_add, ← Fin.sum_mul_add_fin 16 512 F]
  have hN : t.val < 16 := t.isLt
  refine Finset.sum_congr rfl fun s _ => Finset.sum_congr rfl fun r _ => ?_
  exact congrArg F (Fin.ext (by show (16 * (t.val / 16) + s.val) * 512 + r.val = s.val * 512 + r.val; omega))

theorem loss_at (t : Fin cfg0.N) (ht : t.val % 16 = 15) (l : Fin 128) :
    (outsAt0 m c t.val t.isLt).2.2.1 (ix2 0 l) = ∑ n, Ideal.ofBits .f32 0x3F000000#32 * q m c n := by
  have hs : ∀ t : Fin cfg0.N, lx m c t = ∑ r, (fun n => Ideal.ofBits .f32 0x3F000000#32 * q m c n) (pn t r) := fun t =>
    Finset.sum_congr rfl fun r _ => congrArg _ (q_at m c t r)
  exact fold_rows (fun n h => (outsAt0 m c n h).2.2.1 (ix2 0 l)) (fun n => Ideal.ofBits .f32 0x3F000000#32 * q m c n)
    (fun t h => (out7_A m c t h l).trans (congrArg _ (hs t))) (fun t h => (out7_B m c t h l).trans (congrArg _ (hs t))) t ht

theorem gate_at (t : Fin cfg0.N) (ht : t.val % 16 = 15) (d : Fin 1024) :
    (outsAt0 m c t.val t.isLt).2.2.2 (ix2 0 d) = ∑ n, gr m c n d * z m c n d := by
  have hs : ∀ t : Fin cfg0.N, hgx m c t d = ∑ r, (fun n => gr m c n d * z m c n d) (pn t r) := fun t =>
    Finset.sum_congr rfl fun r _ => congrArg₂ _ (gr_at m c t r d) (z_at m c t r d)
  exact fold_rows (fun n h => (outsAt0 m c n h).2.2.2 (ix2 0 d)) (fun n => gr m c n d * z m c n d)
    (fun t h => (out8_A m c t h d).trans (congrArg _ (hs t))) (fun t h => (out8_B m c t h d).trans (congrArg _ (hs t))) t ht

/-! ## The arrays -/

theorem arr5 : (dats m 0 c).arrAt 5 cfg0.N = fun i : S8192x1024.Idx => gr m c (i 0) (i 1) := by
  refine (dats m 0 c).arrAt_eq_of_covers 5 _ (by decide +kernel) fun t hf y => ?_
  blk_simp [idx5]
  rw [after0_5]
  refine (out5 m c t y).trans ((gr_at m c t (y 0) (y 1)).trans ?_)
  exact congrArg₂ _ (Fin.ext (by unfold pn; blk_simp [idx5])) (Fin.ext (by blk_simp [idx5]))

theorem arr6 : (dats m 0 c).arrAt 6 cfg0.N = fun i : S8192x1024.Idx => gr m c (i 0) (i 1) * in3 m c (ix2 0 (i 1)) := by
  refine (dats m 0 c).arrAt_eq_of_covers 6 _ (by decide +kernel) fun t hf y => ?_
  blk_simp [idx6]
  rw [after0_6]
  refine (out6 m c t y).trans ((congrArg₂ _ (gr_at m c t (y 0) (y 1)) (blk4 m c t (y 1))).trans ?_)
  exact congrArg₂ (fun n d => gr m c n d * in3 m c (ix2 0 d)) (Fin.ext (by unfold pn; blk_simp [idx6])) (Fin.ext (by blk_simp [idx6]))

/-- The only row of an array of one row. -/
theorem row_zero {k : ℕ} (y : Shape.Idx ⟨2, ![1, k]⟩) : y = ix2 0 (y 1) :=
  (eq_ix2 (n0 := 1) (n1 := k) y).trans (congrArg (fun z => (ix2 z (y 1) : Shape.Idx ⟨2, ![1, k]⟩)) (Subsingleton.elim (α := Fin 1) _ _))

theorem arr7 : (dats m 0 c).arrAt 7 cfg0.N = fun _ : S1x128.Idx => ∑ n, Ideal.ofBits .f32 0x3F000000#32 * q m c n := by
  refine (dats m 0 c).arrAt_eq_of_covers 7 _ (by decide +kernel) fun t hf y => ?_
  have ht : t.val % 16 = 15 := (flush0_7 t).mp hf
  rw [after0_7]
  exact (congrArg _ (row_zero (k := 128) y)).trans (loss_at m c t ht (y 1))

theorem arr8 : (dats m 0 c).arrAt 8 cfg0.N = fun i : S1x1024.Idx => ∑ n, gr m c n (i 1) * z m c n (i 1) := by
  refine (dats m 0 c).arrAt_eq_of_covers 8 _ (by decide +kernel) fun t hf y => ?_
  have ht : t.val % 16 = 15 := (flush0_8 t).mp hf
  blk_simp [idx8]
  rw [after0_8]
  refine (congrArg _ (row_zero (k := 1024) y)).trans ((gate_at m c t ht (y 1)).trans ?_)
  exact congrArg (fun d => ∑ n, gr m c n d * z m c n d) (Fin.ext (by blk_simp [idx8]))

/-! ## The reference -/

open Cert.Reference9Ideal.Read (val_main_v0 val_main_v4 val_main_v18 val_main_v23 val_main_v24 val_main_v25)

theorem ref_e (n : Fin 8192) (d : Fin 1024) :
    val_main_v4 (F := Ideal) (in0 m c) (in1 m c) (in2 m c) (in3 m c) (in4 m c) (ix2 n d) = e m c n d := by
  refine (Cert.Reference9Ideal.Down.v4_at _ _ _ _ _ n d).trans ?_
  unfold e z
  rw [Cert.Reference9Ideal.Down.v0_at]

theorem ref_gr (n : Fin 8192) (d : Fin 1024) :
    val_main_v18 (F := Ideal) (in0 m c) (in1 m c) (in2 m c) (in3 m c) (in4 m c) (ix2 n d) = gr m c n d := by
  rw [Cert.Reference9Ideal.Down.v18_at, ref_e]
  exact Cert.DownLoss.scale_eq _

theorem ref5 : val_main_v18 (F := Ideal) (in0 m c) (in1 m c) (in2 m c) (in3 m c) (in4 m c) = (dats m 0 c).arrAt 5 cfg0.N := by
  refine Eq.trans ?_ (arr5 m c).symm
  funext i
  exact (congrArg _ (eq_ix2 (n0 := 8192) (n1 := 1024) i)).trans (ref_gr m c (i 0) (i 1))

theorem ref6 : val_main_v24 (F := Ideal) (in0 m c) (in1 m c) (in2 m c) (in3 m c) (in4 m c) = (dats m 0 c).arrAt 6 cfg0.N := by
  refine Eq.trans ?_ (arr6 m c).symm
  funext i
  refine (congrArg _ (eq_ix2 (n0 := 8192) (n1 := 1024) i)).trans ((Cert.Reference9Ideal.Down.v24_at _ _ _ _ _ (i 0) (i 1)).trans ?_)
  exact (congrArg _ (ref_gr m c (i 0) (i 1))).trans (mul_comm _ _)

theorem ref7 : val_main_v25 (F := Ideal) (in0 m c) (in1 m c) (in2 m c) (in3 m c) (in4 m c) = (dats m 0 c).arrAt 7 cfg0.N := by
  refine Eq.trans ?_ (arr7 m c).symm
  funext i
  refine (congrArg _ (row_zero (k := 128) i)).trans ((Cert.Reference9Ideal.Down.v25_at _ _ _ _ _ (i 1)).trans ?_)
  rw [← Cert.DownLoss.half_sum]
  exact congrArg _ (Finset.sum_congr rfl fun n _ => congrArg (Ideal.div · _)
    (Finset.sum_congr rfl fun d _ => congrArg₂ _ (ref_e m c n d) (ref_e m c n d)))

theorem ref8 : val_main_v23 (F := Ideal) (in0 m c) (in1 m c) (in2 m c) (in3 m c) (in4 m c) = (dats m 0 c).arrAt 8 cfg0.N := by
  refine Eq.trans ?_ (arr8 m c).symm
  funext i
  refine (congrArg _ (row_zero (k := 1024) i)).trans ((Cert.Reference9Ideal.Down.v23_at _ _ _ _ _ (i 1)).trans ?_)
  exact Finset.sum_congr rfl fun n _ => congrArg₂ _ (ref_gr m c n (i 1)) (Cert.Reference9Ideal.Down.v0_at _ _ n (i 1))

end Cert.Kernel9Ideal.Down

namespace Cert.DownLoss

open Idealize.ShloMosaic Idealize.ShloMosaic.TcCoe Idealize.SL.Sem

set_option maxHeartbeats 4000000 in
/-- From memories that agree on the arguments, both programs run, end with equal results, and leave their arguments as they were. -/
theorem holds : Cert.algebraic_Kernel9Ideal_Reference9Ideal (hKernel9Ideal := Cert.Kernel9Ideal.Gen.facts)
    (hReference9Ideal := Cert.Reference9Ideal.Gen.facts) := by
  intro m g m' g' _ ha
  refine ⟨fun c => (Cert.Kernel9Ideal.Gen.dats m 0 c).arrAt 5 Cert.Kernel9Ideal.cfg0.N,
    fun c => (Cert.Kernel9Ideal.Gen.dats m 0 c).arrAt 6 Cert.Kernel9Ideal.cfg0.N,
    fun c => (Cert.Kernel9Ideal.Gen.dats m 0 c).arrAt 7 Cert.Kernel9Ideal.cfg0.N,
    fun c => (Cert.Kernel9Ideal.Gen.dats m 0 c).arrAt 8 Cert.Kernel9Ideal.cfg0.N,
    Cert.Kernel9Ideal.Value.run_blocks (F := Ideal) m g, ?_⟩
  refine (θ_run Cert.Reference9Ideal.defs _ _).mono (fun r h c => ?_) (Cert.Reference9Ideal.Value.run (F := Ideal) m' g')
  obtain ⟨a0, a1, a2, a3, a4⟩ := ha c
  obtain ⟨h0, h1, h2, h3, hr⟩ := h c
  refine ⟨h0.trans ?_, h1.trans ?_, h2.trans ?_, h3.trans ?_, hr⟩
  · rw [Cert.Reference9Ideal.Read.val_main_v18_eq, a0, a1, a2, a3, a4]
    exact Cert.Kernel9Ideal.Down.ref5 m c
  · rw [Cert.Reference9Ideal.Read.val_main_v24_eq, a0, a1, a2, a3, a4]
    exact Cert.Kernel9Ideal.Down.ref6 m c
  · rw [Cert.Reference9Ideal.Read.val_main_v25_eq, a0, a1, a2, a3, a4]
    exact Cert.Kernel9Ideal.Down.ref7 m c
  · rw [Cert.Reference9Ideal.Read.val_main_v23_eq, a0, a1, a2, a3, a4]
    exact Cert.Kernel9Ideal.Down.ref8 m c

end Cert.DownLoss

end
-- ==== Proof.OutNorm.lean ====
/-
  THE OUTPUT PROJECTION'S CALL: the product of the attention's and the convolution's rows with the two halves of the weight, the gated
  residual, and its modulated norm. A point works on two ranges of 256 rows, and both are the same function of what they load.
-/
module

public import proofs.«01_k».proof.Defs
public import proofs.«01_k».proof.Proof.NormMath
public import proofs.«01_k».proof.Proof.GluBlock
public import proofs.«01_k».proof.Proof.Gen.Kernel10Ideal.Value
public import proofs.«01_k».proof.Proof.Gen.Reference10Ideal.Read
public import proofs.«01_k».proof.Proof.Gen.Reference10Ideal.Run
public import Idealize.ShloMosaic.Lib.StableHlo.ReadAt

@[expose] public section

set_option maxRecDepth 16384

noncomputable section

namespace Cert.Kernel10Ideal.Out

open Idealize.ShloMosaic Idealize.ShloMosaic.TcCoe Idealize.SL.Sem
open Idealize.ShloMosaic.Pipeline (Dat)
open Cert.Kernel10Ideal Cert.Kernel10Ideal.Gen Cert.Norm

/-- A row's norm, scaled by the gain and modulated. -/
def mod (X : Fin 1024 → EReal) (gain scale shift : EReal) (d : Fin 1024) : EReal :=
  X d * fac X * gain * (Ideal.ofBits .f32 0x3F800000#32 + scale) + shift

/-! ## A range of rows -/

section Rows
variable (g gain scale shift : Vec Ideal S1x1024 .f32) (a : Vec Ideal S256x512 .f32) (w : Vec Ideal S512x1024 .bf16)
  (b : Vec Ideal S256x512 .bf16) (u : Vec Ideal S512x1024 .bf16) (x : Vec Ideal S256x1024 .f32)

theorem pay2_at (r : Fin 256) (d : Fin 1024) : k0_pay2 a w b u (ix2 r d)
    = ∑ j : Fin 512, a (ix2 r j) * w (ix2 j d) + ∑ j : Fin 512, b (ix2 r j) * u (ix2 j d) := by
  pointwise [k0_pay2]

theorem pay3_at (r : Fin 256) (d : Fin 1024) :
    k0_pay3 g a w b u x (ix2 r d) = x (ix2 r d) + g (ix2 0 d) * k0_pay2 a w b u (ix2 r d) := by
  unfold k0_pay3
  generalize k0_pay2 a w b u = p
  pointwise

theorem pay5_at (r : Fin 256) (d : Fin 1024) : k0_pay5 shift (k0_pay4 g gain scale a w b u x) (ix2 r d)
    = mod (fun e : Fin 1024 => k0_pay3 g a w b u x (ix2 r e)) (gain (ix2 0 d)) (scale (ix2 0 d)) (shift (ix2 0 d)) d := by
  unfold k0_pay4 mod fac msq
  generalize k0_pay3 g a w b u x = p
  pointwise [k0_pay5]

end Rows

/-! ## One point -/

section Block
variable (x0 : Vec Ideal S512x512 .f32) (x1 : Vec Ideal S512x512 .bf16) (x2 : Vec Ideal S1024x1024 .bf16) (x3 : Vec Ideal S512x1024 .f32)
  (x4 x5 x6 x7 : Vec Ideal S1x1024 .f32)

/-- The product at a row of the block, the gated residual, and its modulated norm. -/
def zx (r : Fin 512) (d : Fin 1024) : EReal :=
  ∑ j : Fin 512, x0 (ix2 r j) * x2 (ix2 (Fin.castAdd 512 j) d) + ∑ j : Fin 512, x1 (ix2 r j) * x2 (ix2 (Fin.natAdd 512 j) d)
def yx (r : Fin 512) (d : Fin 1024) : EReal := x3 (ix2 r d) + x4 (ix2 0 d) * zx x0 x1 x2 r d
def fx (r : Fin 512) (d : Fin 1024) : EReal :=
  mod (yx x0 x1 x2 x3 x4 r) (x5 (ix2 0 d)) (x6 (ix2 0 d)) (x7 (ix2 0 d)) d

variable {o : ℕ} (ho : o + 256 ≤ 512)

include ho in
theorem hh : ∀ i, (![o, 0] : Fin 2 → ℕ) i + S256x512.size i ≤ S512x512.size i :=
  Fin.forall_fin_two.mpr ⟨by show o + 256 ≤ 512; omega, by show 0 + 512 ≤ 512; omega⟩
include ho in
theorem hx : ∀ i, (![o, 0] : Fin 2 → ℕ) i + S256x1024.size i ≤ S512x1024.size i :=
  Fin.forall_fin_two.mpr ⟨by show o + 256 ≤ 512; omega, by show 0 + 1024 ≤ 1024; omega⟩

/-- The rows from `o` of the two factors, and of the residual. -/
abbrev rh : Rect S512x512 := Rect.unit (s := S512x512) ![o, 0] S256x512.size (hh ho)
abbrev rx : Rect S512x1024 := Rect.unit (s := S512x1024) ![o, 0] S256x1024.size (hx ho)

include ho in
theorem row_lt (r : Fin 256) : o + r.val < 512 := by
  have := r.isLt
  omega

theorem vec_ld (v : Vec Ideal S1x1024 .f32) (d : Fin 1024) : View.ld v r0_0 (ix2 0 d : S1x1024.Idx) = v (ix2 0 d) :=
  View.ld_unit_apply_of v _ _ _ _ _ (Fin.forall_fin_two.mpr ⟨(Nat.zero_add _).symm, (Nat.zero_add _).symm⟩)

theorem prod_ld (r : Fin 256) (d : Fin 1024) :
    k0_pay2 (View.ld x0 (rh ho)) (View.ld x2 r0_2) (View.ld x1 (rh ho)) (View.ld x2 r0_3) (ix2 r d)
      = zx x0 x1 x2 ⟨o + r.val, row_lt ho r⟩ d := by
  refine (pay2_at _ _ _ _ r d).trans (congrArg₂ _ (Finset.sum_congr rfl fun k _ => congrArg₂ _ ?_ ?_)
    (Finset.sum_congr rfl fun k _ => congrArg₂ _ ?_ ?_))
  · exact View.ld_unit_apply_of x0 _ _ _ _ _ (Fin.forall_fin_two.mpr ⟨rfl, (Nat.zero_add _).symm⟩)
  · exact View.ld_unit_apply_of x2 _ _ _ _ _ (Fin.forall_fin_two.mpr ⟨(Nat.zero_add _).symm, (Nat.zero_add _).symm⟩)
  · exact View.ld_unit_apply_of x1 _ _ _ _ _ (Fin.forall_fin_two.mpr ⟨rfl, (Nat.zero_add _).symm⟩)
  · exact View.ld_unit_apply_of x2 _ _ _ _ _ (Fin.forall_fin_two.mpr ⟨rfl, (Nat.zero_add _).symm⟩)

theorem res_ld (r : Fin 256) (d : Fin 1024) :
    k0_pay3 (View.ld x4 r0_0) (View.ld x0 (rh ho)) (View.ld x2 r0_2) (View.ld x1 (rh ho)) (View.ld x2 r0_3) (View.ld x3 (rx ho)) (ix2 r d)
      = yx x0 x1 x2 x3 x4 ⟨o + r.val, row_lt ho r⟩ d := by
  refine (pay3_at _ _ _ _ _ _ r d).trans (congrArg₂ _ ?_ (congrArg₂ _ (vec_ld x4 d) (prod_ld x0 x1 x2 ho r d)))
  exact View.ld_unit_apply_of x3 _ _ _ _ _ (Fin.forall_fin_two.mpr ⟨rfl, (Nat.zero_add _).symm⟩)

theorem norm_ld (r : Fin 256) (d : Fin 1024) :
    k0_pay5 (View.ld x7 r0_0) (k0_pay4 (View.ld x4 r0_0) (View.ld x5 r0_0) (View.ld x6 r0_0) (View.ld x0 (rh ho)) (View.ld x2 r0_2)
        (View.ld x1 (rh ho)) (View.ld x2 r0_3) (View.ld x3 (rx ho))) (ix2 r d)
      = fx x0 x1 x2 x3 x4 x5 x6 x7 ⟨o + r.val, row_lt ho r⟩ d := by
  refine (pay5_at _ _ _ _ _ _ _ _ _ r d).trans ?_
  unfold fx
  rw [vec_ld, vec_ld, vec_ld]
  exact congrArg (fun X => mod X _ _ _ d) (funext fun e => res_ld x0 x1 x2 x3 x4 ho r e)

/-- Where a range of rows lies in a block. -/
theorem emb_eq (x : S256x1024.Idx) : (rx ho).emb x = (ix2 ⟨o + (x 0).val, row_lt ho (x 0)⟩ (x 1) : S512x1024.Idx) :=
  funext fun i => Fin.ext ((Rect.idx_unit_val (s := S512x1024) ![o, 0] S256x1024.size (hx ho) x i).trans
    ((Fin.forall_fin_two (p := fun i => (![o, 0] : Fin 2 → ℕ) i + (x i).val = ((ix2 ⟨o + (x 0).val, row_lt ho (x 0)⟩ (x 1) : S512x1024.Idx) i).val)).mpr
      ⟨rfl, Nat.zero_add _⟩ i))

theorem prod_piece (x : S256x1024.Idx) :
    k0_pay2 (View.ld x0 (rh ho)) (View.ld x2 r0_2) (View.ld x1 (rh ho)) (View.ld x2 r0_3) x
      = (fun y : S512x1024.Idx => zx x0 x1 x2 (y 0) (y 1)) ((rx ho).emb x) := by
  rw [emb_eq ho]
  exact (congrArg _ (eq_ix2 (n0 := 256) (n1 := 1024) x)).trans (prod_ld x0 x1 x2 ho (x 0) (x 1))

theorem res_piece (x : S256x1024.Idx) :
    k0_pay3 (View.ld x4 r0_0) (View.ld x0 (rh ho)) (View.ld x2 r0_2) (View.ld x1 (rh ho)) (View.ld x2 r0_3) (View.ld x3 (rx ho)) x
      = (fun y : S512x1024.Idx => yx x0 x1 x2 x3 x4 (y 0) (y 1)) ((rx ho).emb x) := by
  rw [emb_eq ho]
  exact (congrArg _ (eq_ix2 (n0 := 256) (n1 := 1024) x)).trans (res_ld x0 x1 x2 x3 x4 ho (x 0) (x 1))

theorem norm_piece (x : S256x1024.Idx) :
    k0_pay5 (View.ld x7 r0_0) (k0_pay4 (View.ld x4 r0_0) (View.ld x5 r0_0) (View.ld x6 r0_0) (View.ld x0 (rh ho)) (View.ld x2 r0_2)
        (View.ld x1 (rh ho)) (View.ld x2 r0_3) (View.ld x3 (rx ho))) x
      = (fun y : S512x1024.Idx => fx x0 x1 x2 x3 x4 x5 x6 x7 (y 0) (y 1)) ((rx ho).emb x) := by
  rw [emb_eq ho]
  exact (congrArg _ (eq_ix2 (n0 := 256) (n1 := 1024) x)).trans (norm_ld x0 x1 x2 x3 x4 x5 x6 x7 ho (x 0) (x 1))

theorem out8 (y : S512x1024.Idx) : out0_8 (F := Ideal) x0 x1 x2 x3 x4 x5 x6 x7 y = zx x0 x1 x2 (y 0) (y 1) := by
  unfold out0_8
  refine Cert.Kernel7Ideal.Glu.canon_pieces (t := .f32) (fun y : S512x1024.Idx => zx x0 x1 x2 (y 0) (y 1)) _ ?_ y ?_
  rotate_left
  · exact cover0_8 _ _ y
  exact ⟨prod_piece x0 x1 x2 (o := 256) (by decide), prod_piece x0 x1 x2 (o := 0) (by decide), trivial⟩

theorem out9 (y : S512x1024.Idx) : out0_9 (F := Ideal) x0 x1 x2 x3 x4 x5 x6 x7 y = yx x0 x1 x2 x3 x4 (y 0) (y 1) := by
  unfold out0_9
  refine Cert.Kernel7Ideal.Glu.canon_pieces (t := .f32) (fun y : S512x1024.Idx => yx x0 x1 x2 x3 x4 (y 0) (y 1)) _ ?_ y ?_
  rotate_left
  · exact cover0_9 _ _ y
  exact ⟨res_piece x0 x1 x2 x3 x4 (o := 256) (by decide), res_piece x0 x1 x2 x3 x4 (o := 0) (by decide), trivial⟩

theorem out10 (y : S512x1024.Idx) : out0_10 (F := Ideal) x0 x1 x2 x3 x4 x5 x6 x7 y = fx x0 x1 x2 x3 x4 x5 x6 x7 (y 0) (y 1) := by
  unfold out0_10
  refine Cert.Kernel7Ideal.Glu.canon_pieces (t := .bf16) (fun y : S512x1024.Idx => fx x0 x1 x2 x3 x4 x5 x6 x7 (y 0) (y 1)) _ ?_ y ?_
  rotate_left
  · exact cover0_10 _ _ y
  exact ⟨norm_piece x0 x1 x2 x3 x4 x5 x6 x7 (o := 256) (by decide), norm_piece x0 x1 x2 x3 x4 x5 x6 x7 (o := 0) (by decide), trivial⟩

end Block

/-! ## The arrays -/

variable (m : (ℓ : Loc nD τ sig) → Buf (Elt Ideal) ℓ) (c : Dev nD)

/-- One device's arguments. -/
abbrev in0 : S8192x1024.Idx → EReal := m ((c.tc : Thread nD τ).loc main_arg0)
abbrev in1 : S8192x512.Idx → EReal := m ((c.tc : Thread nD τ).loc main_arg1)
abbrev in2 : S8192x512.Idx → EReal := m ((c.tc : Thread nD τ).loc main_arg2)
abbrev in3 : S1024x1024.Idx → EReal := m ((c.tc : Thread nD τ).loc main_arg3)
abbrev in4 : S1x1024.Idx → EReal := m ((c.tc : Thread nD τ).loc main_arg4)
abbrev in5 : S1x1024.Idx → EReal := m ((c.tc : Thread nD τ).loc main_arg5)
abbrev in6 : S1x1024.Idx → EReal := m ((c.tc : Thread nD τ).loc main_arg6)
abbrev in7 : S1x1024.Idx → EReal := m ((c.tc : Thread nD τ).loc main_arg7)

theorem v0_at (n : Fin 8192) (j : Fin 512) : V m c main_v0 (ix2 n j : S8192x512.Idx) = in2 m c (ix2 n j) := by
  show StableHlo.after hostOps0 (fun b => m (c, b)) (Proc.devRef .tc main_v0) (ix2 n j : S8192x512.Idx) = _
  unfold hostOps0
  after_reads_at

theorem v1_at (j d : Fin 1024) : V m c main_v1 (ix2 j d : S1024x1024.Idx) = in3 m c (ix2 j d) := by
  show StableHlo.after hostOps0 (fun b => m (c, b)) (Proc.devRef .tc main_v1) (ix2 j d : S1024x1024.Idx) = _
  unfold hostOps0
  after_reads_at

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel

theorem lt_points (t : Fin cfg0.N) : t.val < 16 := t.isLt

/-- The row `r` of point `t`. -/
def pn (t : Fin cfg0.N) (r : Fin 512) : Fin 8192 := ⟨t.val * 512 + r.val, by have := lt_points t; omega⟩

theorem blk0 (t : Fin cfg0.N) (r j : Fin 512) : iblk m c 0 t (ix2 r j : S512x512.Idx) = in1 m c (ix2 (pn t r) j) := by
  unfold in1
  rw [← V_main_arg1 m c]
  blk_simp [iblk]
  exact congrArg _ (by unfold pn; blk_ext [idx0])

theorem blk1 (t : Fin cfg0.N) (r j : Fin 512) : iblk m c 1 t (ix2 r j : S512x512.Idx) = in2 m c (ix2 (pn t r) j) := by
  rw [← v0_at]
  blk_simp [iblk]
  exact congrArg _ (by unfold pn; blk_ext [idx1])

theorem blk2 (t : Fin cfg0.N) (j d : Fin 1024) : iblk m c 2 t (ix2 j d : S1024x1024.Idx) = in3 m c (ix2 j d) := by
  rw [← v1_at]
  blk_simp [iblk]
  exact congrArg _ (by blk_ext [idx2])

theorem blk3 (t : Fin cfg0.N) (r : Fin 512) (d : Fin 1024) : iblk m c 3 t (ix2 r d : S512x1024.Idx) = in0 m c (ix2 (pn t r) d) := by
  unfold in0
  rw [← V_main_arg0 m c]
  blk_simp [iblk]
  exact congrArg _ (by unfold pn; blk_ext [idx3])

theorem blk4 (t : Fin cfg0.N) (d : Fin 1024) : iblk m c 4 t (ix2 0 d : S1x1024.Idx) = in4 m c (ix2 0 d) := by
  unfold in4
  rw [← V_main_arg4 m c]
  blk_simp [iblk]
  exact congrArg _ (by blk_ext [idx4])

theorem blk5 (t : Fin cfg0.N) (d : Fin 1024) : iblk m c 5 t (ix2 0 d : S1x1024.Idx) = in5 m c (ix2 0 d) := by
  unfold in5
  rw [← V_main_arg5 m c]
  blk_simp [iblk]
  exact congrArg _ (by blk_ext [idx5])

theorem blk6 (t : Fin cfg0.N) (d : Fin 1024) : iblk m c 6 t (ix2 0 d : S1x1024.Idx) = in7 m c (ix2 0 d) := by
  unfold in7
  rw [← V_main_arg7 m c]
  blk_simp [iblk]
  exact congrArg _ (by blk_ext [idx6])

theorem blk7 (t : Fin cfg0.N) (d : Fin 1024) : iblk m c 7 t (ix2 0 d : S1x1024.Idx) = in6 m c (ix2 0 d) := by
  unfold in6
  rw [← V_main_arg6 m c]
  blk_simp [iblk]
  exact congrArg _ (by blk_ext [idx7])

/-- The product, the gated residual, and its modulated norm, at a row. -/
def z (n : Fin 8192) (d : Fin 1024) : EReal :=
  ∑ j : Fin 512, in1 m c (ix2 n j) * in3 m c (ix2 (Fin.castAdd 512 j) d) + ∑ j : Fin 512, in2 m c (ix2 n j) * in3 m c (ix2 (Fin.natAdd 512 j) d)
def y (n : Fin 8192) (d : Fin 1024) : EReal := in0 m c (ix2 n d) + in4 m c (ix2 0 d) * z m c n d
def f (n : Fin 8192) (d : Fin 1024) : EReal :=
  mod (y m c n) (in5 m c (ix2 0 d)) (in7 m c (ix2 0 d)) (in6 m c (ix2 0 d)) d

theorem z_at (t : Fin cfg0.N) (r : Fin 512) (d : Fin 1024) : zx (iblk m c 0 t) (iblk m c 1 t) (iblk m c 2 t) r d = z m c (pn t r) d := by
  unfold zx z
  exact congrArg₂ _ (Finset.sum_congr rfl fun k _ => congrArg₂ _ (blk0 m c t r k) (blk2 m c t _ d))
    (Finset.sum_congr rfl fun k _ => congrArg₂ _ (blk1 m c t r k) (blk2 m c t _ d))

theorem y_at (t : Fin cfg0.N) (r : Fin 512) (d : Fin 1024) :
    yx (iblk m c 0 t) (iblk m c 1 t) (iblk m c 2 t) (iblk m c 3 t) (iblk m c 4 t) r d = y m c (pn t r) d := by
  unfold yx y
  exact congrArg₂ _ (blk3 m c t r d) (congrArg₂ _ (blk4 m c t d) (z_at m c t r d))

theorem f_at (t : Fin cfg0.N) (r : Fin 512) (d : Fin 1024) :
    fx (iblk m c 0 t) (iblk m c 1 t) (iblk m c 2 t) (iblk m c 3 t) (iblk m c 4 t) (iblk m c 5 t) (iblk m c 6 t) (iblk m c 7 t) r d
      = f m c (pn t r) d := by
  unfold fx f
  have h : yx (iblk m c 0 t) (iblk m c 1 t) (iblk m c 2 t) (iblk m c 3 t) (iblk m c 4 t) r = y m c (pn t r) := funext fun e => y_at m c t r e
  rw [h]
  congr 1
  · exact blk5 m c t d
  · exact blk6 m c t d
  · exact blk7 m c t d

theorem arr8 : (dats m 0 c).arrAt 8 cfg0.N = fun i : S8192x1024.Idx => z m c (i 0) (i 1) := by
  refine (dats m 0 c).arrAt_eq_of_covers 8 _ (by decide +kernel) fun t hf y => ?_
  blk_simp [idx8]
  rw [after0_8]
  refine (out8 _ _ _ _ _ _ _ _ y).trans ((z_at m c t (y 0) (y 1)).trans ?_)
  exact congrArg₂ _ (Fin.ext (by unfold pn; blk_simp [idx8])) (Fin.ext (by blk_simp [idx8]))

theorem arr9 : (dats m 0 c).arrAt 9 cfg0.N = fun i : S8192x1024.Idx => y m c (i 0) (i 1) := by
  refine (dats m 0 c).arrAt_eq_of_covers 9 _ (by decide +kernel) fun t hf y => ?_
  blk_simp [idx9]
  rw [after0_9]
  refine (out9 _ _ _ _ _ _ _ _ y).trans ((y_at m c t (y 0) (y 1)).trans ?_)
  exact congrArg₂ _ (Fin.ext (by unfold pn; blk_simp [idx9])) (Fin.ext (by blk_simp [idx9]))

theorem arr10 : (dats m 0 c).arrAt 10 cfg0.N = fun i : S8192x1024.Idx => f m c (i 0) (i 1) := by
  refine (dats m 0 c).arrAt_eq_of_covers 10 _ (by decide +kernel) fun t hf y => ?_
  blk_simp [idx10]
  rw [after0_10]
  refine (out10 _ _ _ _ _ _ _ _ y).trans ((f_at m c t (y 0) (y 1)).trans ?_)
  exact congrArg₂ _ (Fin.ext (by unfold pn; blk_simp [idx10])) (Fin.ext (by blk_simp [idx10]))

end Cert.Kernel10Ideal.Out

/-! ## The reference -/

namespace Cert.Reference10Ideal.Out

open Idealize.ShloMosaic Idealize.ShloMosaic.TcCoe Idealize.SL.Sem
open Cert.Reference10Ideal Cert.Reference10Ideal.Gen Cert.Reference10Ideal.Read Cert.Norm

variable (x0 : S8192x1024.Idx → EReal) (x1 x2 : S8192x512.Idx → EReal) (x3 : S1024x1024.Idx → EReal)
  (x4 x5 x6 x7 : S1x1024.Idx → EReal)

theorem v0_lo (n : Fin 8192) (j : Fin 512) : val_main_v0 (F := Ideal) x1 x2 (ix2 n (Fin.castAdd 512 j)) = x1 (ix2 n j) := by
  pointwise [val_main_v0]
  rw [dif_pos (show (Fin.castAdd 512 j).val < 512 from j.isLt)]
  rfl

theorem v0_hi (n : Fin 8192) (j : Fin 512) : val_main_v0 (F := Ideal) x1 x2 (ix2 n (Fin.natAdd 512 j)) = x2 (ix2 n j) := by
  pointwise [val_main_v0]
  rw [dif_neg (show ¬(Fin.natAdd 512 j).val < 512 from by simp)]
  exact congrArg (fun e => x2 (ix2 n e)) (Fin.ext (by simp))

theorem v1_at (n : Fin 8192) (d : Fin 1024) : val_main_v1 (F := Ideal) x1 x2 x3 (ix2 n d)
    = ∑ j : Fin 512, x1 (ix2 n j) * x3 (ix2 (Fin.castAdd 512 j) d) + ∑ j : Fin 512, x2 (ix2 n j) * x3 (ix2 (Fin.natAdd 512 j) d) := by
  have h : val_main_v1 (F := Ideal) x1 x2 x3 (ix2 n d)
      = ∑ j : Fin (512 + 512), val_main_v0 (F := Ideal) x1 x2 (ix2 n j : S8192x1024.Idx) * x3 (ix2 j d : S1024x1024.Idx) := by
    unfold val_main_v1
    generalize val_main_v0 (F := Ideal) x1 x2 = a
    pointwise
  rw [h, Fin.sum_univ_add]
  simp only [v0_lo, v0_hi]

theorem v4_at (n : Fin 8192) (d : Fin 1024) : val_main_v4 (F := Ideal) x0 x1 x2 x3 x4 (ix2 n d)
    = x0 (ix2 n d) + x4 (ix2 0 d) * val_main_v1 (F := Ideal) x1 x2 x3 (ix2 n d) := by
  unfold val_main_v4 val_main_v3
  generalize val_main_v1 (F := Ideal) x1 x2 x3 = a
  pointwise [val_main_v2]

theorem v12_at (n : Fin 8192) : val_main_v12 (F := Ideal) x0 x1 x2 x3 x4 (ix2 n 0)
    = fac (fun e : Fin 1024 => val_main_v4 (F := Ideal) x0 x1 x2 x3 x4 (ix2 n e)) := by
  unfold val_main_v12 val_main_v11 val_main_v9 val_main_v7 val_main_v6 val_main_v5 fac msq
  generalize val_main_v4 (F := Ideal) x0 x1 x2 x3 x4 = a
  pointwise [val_main_v10, val_main_v8, val_main_cst, val_main_cst_0, val_main_cst_1]

theorem v23_at (n : Fin 8192) (d : Fin 1024) : val_main_v23 (F := Ideal) x0 x1 x2 x3 x4 x5 x6 x7 (ix2 n d)
    = Cert.Kernel10Ideal.Out.mod (fun e : Fin 1024 => val_main_v4 (F := Ideal) x0 x1 x2 x3 x4 (ix2 n e))
        (x5 (ix2 0 d)) (x7 (ix2 0 d)) (x6 (ix2 0 d)) d := by
  unfold Cert.Kernel10Ideal.Out.mod
  rw [← v12_at]
  unfold val_main_v23 val_main_v22 val_main_v20 val_main_v16 val_main_v14 val_main_v13
  generalize val_main_v12 (F := Ideal) x0 x1 x2 x3 x4 = b
  generalize val_main_v4 (F := Ideal) x0 x1 x2 x3 x4 = a
  pointwise [val_main_v21, val_main_v19, val_main_v18, val_main_v17, val_main_v15, val_main_cst_2]

end Cert.Reference10Ideal.Out

namespace Cert.Kernel10Ideal.Out

open Idealize.ShloMosaic Idealize.ShloMosaic.TcCoe Idealize.SL.Sem
open Cert.Kernel10Ideal Cert.Kernel10Ideal.Gen Cert.Norm

variable (m : (ℓ : Loc nD τ sig) → Buf (Elt Ideal) ℓ) (c : Dev nD)

theorem ref1_at (n : Fin 8192) (d : Fin 1024) :
    Cert.Reference10Ideal.Read.val_main_v1 (F := Ideal) (in1 m c) (in2 m c) (in3 m c) (ix2 n d) = z m c n d :=
  Cert.Reference10Ideal.Out.v1_at _ _ _ n d

theorem ref4_at (n : Fin 8192) (d : Fin 1024) :
    Cert.Reference10Ideal.Read.val_main_v4 (F := Ideal) (in0 m c) (in1 m c) (in2 m c) (in3 m c) (in4 m c) (ix2 n d) = y m c n d := by
  rw [Cert.Reference10Ideal.Out.v4_at, ref1_at]
  rfl

theorem ref1 : Cert.Reference10Ideal.Read.val_main_v1 (F := Ideal) (in1 m c) (in2 m c) (in3 m c) = (dats m 0 c).arrAt 8 cfg0.N := by
  refine Eq.trans ?_ (arr8 m c).symm
  funext i
  exact (congrArg _ (eq_ix2 (n0 := 8192) (n1 := 1024) i)).trans (ref1_at m c (i 0) (i 1))

theorem ref4 : Cert.Reference10Ideal.Read.val_main_v4 (F := Ideal) (in0 m c) (in1 m c) (in2 m c) (in3 m c) (in4 m c)
    = (dats m 0 c).arrAt 9 cfg0.N := by
  refine Eq.trans ?_ (arr9 m c).symm
  funext i
  exact (congrArg _ (eq_ix2 (n0 := 8192) (n1 := 1024) i)).trans (ref4_at m c (i 0) (i 1))

theorem ref23 : Cert.Reference10Ideal.Read.val_main_v23 (F := Ideal) (in0 m c) (in1 m c) (in2 m c) (in3 m c) (in4 m c) (in5 m c) (in6 m c) (in7 m c)
    = (dats m 0 c).arrAt 10 cfg0.N := by
  refine Eq.trans ?_ (arr10 m c).symm
  funext i
  refine (congrArg _ (eq_ix2 (n0 := 8192) (n1 := 1024) i)).trans ((Cert.Reference10Ideal.Out.v23_at _ _ _ _ _ _ _ _ (i 0) (i 1)).trans ?_)
  exact congrArg (fun X => mod X _ _ _ (i 1)) (funext fun e => ref4_at m c (i 0) e)

end Cert.Kernel10Ideal.Out

namespace Cert.OutNorm

open Idealize.ShloMosaic Idealize.ShloMosaic.TcCoe Idealize.SL.Sem

set_option maxHeartbeats 4000000 in
/-- From memories that agree on the arguments, both programs run, end with equal results, and leave their arguments as they were. -/
theorem holds : Cert.algebraic_Kernel10Ideal_Reference10Ideal (hKernel10Ideal := Cert.Kernel10Ideal.Gen.facts)
    (hReference10Ideal := Cert.Reference10Ideal.Gen.facts) := by
  intro m g m' g' _ ha
  refine ⟨fun c => (Cert.Kernel10Ideal.Gen.dats m 0 c).arrAt 8 Cert.Kernel10Ideal.cfg0.N,
    fun c => (Cert.Kernel10Ideal.Gen.dats m 0 c).arrAt 9 Cert.Kernel10Ideal.cfg0.N,
    fun c => (Cert.Kernel10Ideal.Gen.dats m 0 c).arrAt 10 Cert.Kernel10Ideal.cfg0.N,
    Cert.Kernel10Ideal.Value.run_blocks (F := Ideal) m g, ?_⟩
  refine (θ_run Cert.Reference10Ideal.defs _ _).mono (fun r h c => ?_) (Cert.Reference10Ideal.Value.run (F := Ideal) m' g')
  obtain ⟨a0, a1, a2, a3, a4, a5, a6, a7⟩ := ha c
  obtain ⟨h0, h1, h2, hr⟩ := h c
  refine ⟨h0.trans ?_, h1.trans ?_, h2.trans ?_, hr⟩
  · rw [Cert.Reference10Ideal.Read.val_main_v1_eq, a1, a2, a3]
    exact Cert.Kernel10Ideal.Out.ref1 m c
  · rw [Cert.Reference10Ideal.Read.val_main_v4_eq, a0, a1, a2, a3, a4]
    exact Cert.Kernel10Ideal.Out.ref4 m c
  · rw [Cert.Reference10Ideal.Read.val_main_v23_eq, a0, a1, a2, a3, a4, a5, a6, a7]
    exact Cert.Kernel10Ideal.Out.ref23 m c

end Cert.OutNorm

end
-- ==== Proof.InNormMath.lean ====
/-
  THE GRADIENTS of the input projection's modulated norm, as sums over rows of extended reals. Nothing here mentions a program.
-/
module

public import proofs.«01_k».proof.Proof.NormMath

@[expose] public section

noncomputable section

namespace Cert.InNorm

open Idealize.ShloMosaic
open Cert.Norm (fac back)

/-- The arguments' entries: the residual, the norm's gain, the modulation's scale, the projection, and the gradients that arrive at the
    residual and at the projection's two parts. -/
structure Args where
  x : Fin 8192 → Fin 1024 → EReal
  gain : Fin 1024 → EReal
  scale : Fin 1024 → EReal
  w : Fin 1024 → Fin 2560 → EReal
  dxo : Fin 8192 → Fin 1024 → EReal
  dq : Fin 8192 → Fin 1024 → EReal
  dc : Fin 8192 → Fin 1536 → EReal

namespace Args
variable (a : Args)

/-- What arrives at the modulated norm, through the projection's two parts. -/
def dav (n : Fin 8192) (d : Fin 1024) : EReal :=
  ∑ j : Fin 1024, a.dq n j * a.w d ⟨j.val, by omega⟩ + ∑ j : Fin 1536, a.dc n j * a.w d ⟨1024 + j.val, by omega⟩

/-- What arrives at the norm. -/
def dn (n : Fin 8192) (d : Fin 1024) : EReal := a.dav n d * (Ideal.ofBits .f32 0x3F800000#32 + a.scale d)

/-- The normalised row. -/
def xh (n : Fin 8192) (d : Fin 1024) : EReal := a.x n d * fac (a.x n)

/-- The gradient of the residual. -/
def dx (n : Fin 8192) (d : Fin 1024) : EReal := back (a.x n) (fun e => a.dn n e * a.gain e) (a.dxo n d) d

def dshift (d : Fin 1024) : EReal := ∑ n, a.dav n d
def dscale (d : Fin 1024) : EReal := ∑ n, a.dav n d * (a.xh n d * a.gain d)
def dgain (d : Fin 1024) : EReal := ∑ n, a.dn n d * a.xh n d

end Args

end Cert.InNorm

end
-- ==== Proof.InNormBlock.lean ====
/-
  WHAT ONE POINT OF THE INPUT PROJECTION'S BACKWARD CALL COMPUTES from its blocks, in two ranges of 256 rows: the gradient that arrives
  through the two products, the residual's gradient, and the ranges' parts of the three column sums.
-/
module

public import proofs.«01_k».proof.Proof.InNormMath
public import proofs.«01_k».proof.Proof.GluBlock
public import proofs.«01_k».proof.Proof.DownLossBlock
public import proofs.«01_k».proof.Proof.Gen.Kernel11Ideal.Value

@[expose] public section

set_option maxRecDepth 16384

noncomputable section

namespace Cert.Kernel11Ideal.Norm

open Idealize.ShloMosaic Idealize.ShloMosaic.TcCoe Idealize.SL.Sem
open Cert.Kernel11Ideal Cert.Kernel11Ideal.Gen
open Cert.Norm (fac msq back)

/-! ## A range of rows -/

/-- The projection's rows for the queries, keys and values, and for the convolution. -/
abbrev top (x2 : Vec Ideal S2560x1024 .bf16) : Vec Ideal S1024x1024 .bf16 := View.ld x2 (Rect.unit ![0, 0] ![1024, 1024] inb_S2560x1024_S1024x1024_0_0)
abbrev low (x2 : Vec Ideal S2560x1024 .bf16) : Vec Ideal S1536x1024 .bf16 := View.ld x2 (Rect.unit ![1024, 0] ![1536, 1024] inb_S2560x1024_S1536x1024_1024_0)

theorem pay7_at (a : Vec Ideal S256x1024 .bf16) (b : Vec Ideal S256x1536 .bf16) (x2 : Vec Ideal S2560x1024 .bf16) (r : Fin 256) (d : Fin 1024) :
    k0_pay7 a (top x2) b (low x2) (ix2 r d)
      = ∑ j : Fin 1024, a (ix2 r j) * x2 (ix2 ⟨j.val, by omega⟩ d) + ∑ j : Fin 1536, b (ix2 r j) * x2 (ix2 ⟨1024 + j.val, by omega⟩ d) := by
  pointwise [k0_pay7, top, low]

section Rows
variable (x : Vec Ideal S256x1024 .f32)

theorem pay8_at (r : Fin 256) : k0_pay8 x (ix2 r 0) = fac (fun e : Fin 1024 => x (ix2 r e)) := by
  unfold fac msq
  pointwise [k0_pay8]

theorem pay9_at (r : Fin 256) (d : Fin 1024) : k0_pay9 x (ix2 r d) = x (ix2 r d) * fac (fun e : Fin 1024 => x (ix2 r e)) := by
  rw [← pay8_at]
  unfold k0_pay9
  generalize k0_pay8 x = a
  pointwise

variable (gain scale : Vec Ideal S1x1024 .f32) (o : Vec Ideal S256x1024 .f32)

theorem pay10_at (r : Fin 256) (d : Fin 1024) : k0_pay10 gain x (ix2 r d) = k0_pay9 x (ix2 r d) * gain (ix2 0 d) := by
  unfold k0_pay10
  generalize k0_pay9 x = a
  pointwise

theorem pay11_at (a : Vec Ideal S256x1024 .bf16) (b : Vec Ideal S256x1536 .bf16) (w0 : Vec Ideal S1024x1024 .bf16) (w1 : Vec Ideal S1536x1024 .bf16)
    (r : Fin 256) (d : Fin 1024) :
    k0_pay11 scale a w0 b w1 (ix2 r d) = k0_pay7 a w0 b w1 (ix2 r d) * (Ideal.ofBits .f32 0x3F800000#32 + scale (ix2 0 d)) := by
  unfold k0_pay11
  generalize k0_pay7 a w0 b w1 = v
  pointwise

theorem pay12_at (w : FVec Ideal S256x1024 .f32) (r : Fin 256) (d : Fin 1024) :
    k0_pay12 gain o (k0_pay8 x) (k0_pay9 x) w (ix2 r d)
      = back (fun e : Fin 1024 => x (ix2 r e)) (fun e : Fin 1024 => w (ix2 r e) * gain (ix2 0 e)) (o (ix2 r d)) d := by
  unfold back
  simp only [← pay9_at x r]
  rw [← pay8_at]
  unfold k0_pay12
  generalize k0_pay8 x = a
  generalize k0_pay9 x = b
  pointwise

theorem pay13_at (v : FVec Ideal S256x1024 .f32) (s : Vec Ideal S1x1024 .f32) (d : Fin 1024) :
    k0_pay13 v s (ix2 0 d) = s (ix2 0 d) + ∑ r : Fin 256, v (ix2 r d) := by
  pointwise [k0_pay13]

theorem pay14_at (v b : FVec Ideal S256x1024 .f32) (s : Vec Ideal S1x1024 .f32) (d : Fin 1024) :
    k0_pay14 v b s (ix2 0 d) = s (ix2 0 d) + ∑ r : Fin 256, v (ix2 r d) * b (ix2 r d) := by
  pointwise [k0_pay14]

theorem pay15_at (b w : FVec Ideal S256x1024 .f32) (s : Vec Ideal S1x1024 .f32) (d : Fin 1024) :
    k0_pay15 b w s (ix2 0 d) = s (ix2 0 d) + ∑ r : Fin 256, w (ix2 r d) * b (ix2 r d) := by
  pointwise [k0_pay15]

theorem pay4_at (d : Fin 1024) : k0_pay4 (F := Ideal) (ix2 0 d) = 0 := by
  pointwise [k0_pay4]
theorem pay5_at (d : Fin 1024) : k0_pay5 (F := Ideal) (ix2 0 d) = 0 := by
  pointwise [k0_pay5]
theorem pay6_at (d : Fin 1024) : k0_pay6 (F := Ideal) (ix2 0 d) = 0 := by
  pointwise [k0_pay6]

/-! The second range has the first one's text. -/

theorem pay16_eq : k0_pay16 (F := Ideal) = k0_pay7 := rfl
theorem pay17_eq : k0_pay17 (F := Ideal) = k0_pay8 := rfl
theorem pay18_eq : k0_pay18 (F := Ideal) = k0_pay9 := rfl
theorem pay19_eq : k0_pay19 (F := Ideal) = k0_pay10 := rfl
theorem pay20_eq : k0_pay20 (F := Ideal) = k0_pay11 := rfl
theorem pay1_eq : k0_pay1 (F := Ideal) = k0_pay13 := rfl
theorem pay2_eq : k0_pay2 (F := Ideal) = k0_pay14 := rfl
theorem pay3_eq : k0_pay3 (F := Ideal) = k0_pay15 := rfl
theorem pay21_eq (a : Vec Ideal S256x1024 .bf16) (b : Vec Ideal S256x1536 .bf16) (w0 : Vec Ideal S1024x1024 .bf16) (w1 : Vec Ideal S1536x1024 .bf16) :
    k0_pay21 gain scale a w0 b w1 x o = k0_pay12 gain o (k0_pay8 x) (k0_pay9 x) (k0_pay11 scale a w0 b w1) := rfl

end Rows

/-! ## A block -/

section Block
variable (x0 : Vec Ideal S512x1024 .bf16) (x1 : Vec Ideal S512x1536 .bf16) (x2 : Vec Ideal S2560x1024 .bf16) (x3 x4 : Vec Ideal S512x1024 .f32)
  (x5 x6 : Vec Ideal S1x1024 .f32)

/-- What arrives through the products at a row, the normalised row, what arrives at the norm, and the residual's gradient. -/
def vx (r : Fin 512) (d : Fin 1024) : EReal :=
  ∑ j : Fin 1024, x0 (ix2 r j) * x2 (ix2 ⟨j.val, by omega⟩ d) + ∑ j : Fin 1536, x1 (ix2 r j) * x2 (ix2 ⟨1024 + j.val, by omega⟩ d)
def hx (r : Fin 512) (d : Fin 1024) : EReal := x3 (ix2 r d) * fac (fun e : Fin 1024 => x3 (ix2 r e))
def wx (r : Fin 512) (d : Fin 1024) : EReal := vx x0 x1 x2 r d * (Ideal.ofBits .f32 0x3F800000#32 + x6 (ix2 0 d))
def ox (r : Fin 512) (d : Fin 1024) : EReal :=
  back (fun e : Fin 1024 => x3 (ix2 r e)) (fun e : Fin 1024 => wx x0 x1 x2 x6 r e * x5 (ix2 0 e)) (x4 (ix2 r d)) d

variable {o : ℕ} (ho : o + 256 ≤ 512)

include ho in
theorem inq : ∀ i, (![o, 0] : Fin 2 → ℕ) i + S256x1024.size i ≤ S512x1024.size i :=
  Fin.forall_fin_two.mpr ⟨by show o + 256 ≤ 512; omega, by show 0 + 1024 ≤ 1024; omega⟩
include ho in
theorem inc : ∀ i, (![o, 0] : Fin 2 → ℕ) i + S256x1536.size i ≤ S512x1536.size i :=
  Fin.forall_fin_two.mpr ⟨by show o + 256 ≤ 512; omega, by show 0 + 1536 ≤ 1536; omega⟩

/-- The rows from `o`. -/
abbrev rq : Rect S512x1024 := Rect.unit (s := S512x1024) ![o, 0] S256x1024.size (inq ho)
abbrev rc : Rect S512x1536 := Rect.unit (s := S512x1536) ![o, 0] S256x1536.size (inc ho)

include ho in
theorem row_lt (r : Fin 256) : o + r.val < 512 := by
  have := r.isLt
  omega

theorem ld_q {t : EltTy} (x : Vec Ideal S512x1024 t) (r : Fin 256) (d : Fin 1024) :
    View.ld x (rq ho) (ix2 r d) = x (ix2 ⟨o + r.val, row_lt ho r⟩ d) :=
  View.ld_unit_apply_of x _ _ _ _ _ (Fin.forall_fin_two.mpr ⟨rfl, (Nat.zero_add _).symm⟩)

theorem ld_c {t : EltTy} (x : Vec Ideal S512x1536 t) (r : Fin 256) (d : Fin 1536) :
    View.ld x (rc ho) (ix2 r d) = x (ix2 ⟨o + r.val, row_lt ho r⟩ d) :=
  View.ld_unit_apply_of x _ _ _ _ _ (Fin.forall_fin_two.mpr ⟨rfl, (Nat.zero_add _).symm⟩)

/-- A range's values. -/
abbrev pv : FVec Ideal S256x1024 .f32 := k0_pay7 (View.ld x0 (rq ho)) (top x2) (View.ld x1 (rc ho)) (low x2)
abbrev pw : FVec Ideal S256x1024 .f32 := k0_pay11 x6 (View.ld x0 (rq ho)) (top x2) (View.ld x1 (rc ho)) (low x2)
abbrev ph : FVec Ideal S256x1024 .f32 := k0_pay9 (F := Ideal) (View.ld x3 (rq ho))
abbrev pg : FVec Ideal S256x1024 .f32 := k0_pay10 (F := Ideal) x5 (View.ld x3 (rq ho))
abbrev po : FVec Ideal S256x1024 .f32 :=
  k0_pay12 x5 (View.ld x4 (rq ho)) (k0_pay8 (View.ld x3 (rq ho))) (ph x3 ho) (pw x0 x1 x2 x6 ho)

theorem v_ld (r : Fin 256) (d : Fin 1024) : pv x0 x1 x2 ho (ix2 r d) = vx x0 x1 x2 ⟨o + r.val, row_lt ho r⟩ d :=
  (pay7_at _ _ _ r d).trans (congrArg₂ _ (Finset.sum_congr rfl fun k _ => congrArg (· * _) (ld_q ho x0 r k))
    (Finset.sum_congr rfl fun k _ => congrArg (· * _) (ld_c ho x1 r k)))

theorem h_ld (r : Fin 256) (d : Fin 1024) : ph x3 ho (ix2 r d) = hx x3 ⟨o + r.val, row_lt ho r⟩ d :=
  (pay9_at _ r d).trans (congrArg₂ _ (ld_q ho x3 r d) (congrArg fac (funext fun e => ld_q ho x3 r e)))

theorem w_ld (r : Fin 256) (d : Fin 1024) : pw x0 x1 x2 x6 ho (ix2 r d) = wx x0 x1 x2 x6 ⟨o + r.val, row_lt ho r⟩ d :=
  (pay11_at _ _ _ _ _ r d).trans (congrArg (· * _) (v_ld x0 x1 x2 ho r d))

theorem g_ld (r : Fin 256) (d : Fin 1024) : pg x3 x5 ho (ix2 r d) = hx x3 ⟨o + r.val, row_lt ho r⟩ d * x5 (ix2 0 d) :=
  (pay10_at _ _ r d).trans (congrArg (· * _) (h_ld x3 ho r d))

theorem o_ld (r : Fin 256) (d : Fin 1024) : po x0 x1 x2 x3 x4 x5 x6 ho (ix2 r d) = ox x0 x1 x2 x3 x4 x5 x6 ⟨o + r.val, row_lt ho r⟩ d := by
  refine (pay12_at _ _ _ _ r d).trans ?_
  unfold ox
  rw [ld_q ho x4 r d]
  exact congrArg₂ (fun a b => back a b _ d) (funext fun e => ld_q ho x3 r e) (funext fun e => congrArg (· * _) (w_ld x0 x1 x2 x6 ho r e))

/-- Where a range of rows lies in a block. -/
theorem emb_eq (x : S256x1024.Idx) : (rq ho).emb x = (ix2 ⟨o + (x 0).val, row_lt ho (x 0)⟩ (x 1) : S512x1024.Idx) :=
  funext fun i => Fin.ext ((Rect.idx_unit_val (s := S512x1024) ![o, 0] S256x1024.size (inq ho) x i).trans
    ((Fin.forall_fin_two (p := fun i => (![o, 0] : Fin 2 → ℕ) i + (x i).val = ((ix2 ⟨o + (x 0).val, row_lt ho (x 0)⟩ (x 1) : S512x1024.Idx) i).val)).mpr
      ⟨rfl, Nat.zero_add _⟩ i))

theorem o_piece (x : S256x1024.Idx) : po x0 x1 x2 x3 x4 x5 x6 ho x
    = (fun y : S512x1024.Idx => ox x0 x1 x2 x3 x4 x5 x6 (y 0) (y 1)) ((rq ho).emb x) := by
  rw [emb_eq ho]
  exact (congrArg _ (eq_ix2 (n0 := 256) (n1 := 1024) x)).trans (o_ld x0 x1 x2 x3 x4 x5 x6 ho (x 0) (x 1))

/-- The rows before the block's 256th, and the rest. -/
theorem lo : 0 + 256 ≤ 512 := by decide
theorem hi : 256 + 256 ≤ 512 := by decide

/-- A block of rows stored in two ranges is covered. -/
theorem covered (p q : Vec Ideal S256x1024 .f32) (y : S512x1024.Idx) :
    ∃ r ∈ ([⟨rq hi, p⟩, ⟨rq lo, q⟩] : List (View.Piece (Elt Ideal) S512x1024 .f32)), y ∈ r.1.set :=
  View.cover_of_tiled [⟨rq hi, p⟩, ⟨rq lo, q⟩] S256x1024.size (by rfl) y

/-- The two stores of a block's gradient, as one function. -/
theorem o_two (y : S512x1024.Idx) :
    View.canon ([⟨rq hi, k0_pay21 x5 x6 (View.ld x0 (rq hi)) (top x2) (View.ld x1 (rc hi)) (low x2) (View.ld x3 (rq hi)) (View.ld x4 (rq hi))⟩,
      ⟨rq lo, po x0 x1 x2 x3 x4 x5 x6 lo⟩] : List (View.Piece (Elt Ideal) S512x1024 .f32)) y = ox x0 x1 x2 x3 x4 x5 x6 (y 0) (y 1) := by
  rw [pay21_eq]
  refine Cert.Kernel7Ideal.Glu.canon_pieces (t := .f32) (fun y : S512x1024.Idx => ox x0 x1 x2 x3 x4 x5 x6 (y 0) (y 1)) _ ?_ y ?_
  rotate_left
  · exact covered _ _ y
  exact ⟨o_piece x0 x1 x2 x3 x4 x5 x6 hi, o_piece x0 x1 x2 x3 x4 x5 x6 lo, trivial⟩

/-- The column sums' parts of the two ranges, added to what was there. -/
theorem shift_two (s : Vec Ideal S1x1024 .f32) (d : Fin 1024) :
    k0_pay1 (k0_pay16 (View.ld x0 (rq hi)) (top x2) (View.ld x1 (rc hi)) (low x2)) (k0_pay13 (pv x0 x1 x2 lo) s) (ix2 0 d)
      = s (ix2 0 d) + ∑ r : Fin 512, vx x0 x1 x2 r d := by
  rw [pay1_eq, pay16_eq, Cert.DownLoss.sum_halves, ← add_assoc]
  refine (pay13_at _ _ d).trans (congrArg₂ _ ?_ (Finset.sum_congr rfl fun r _ => v_ld x0 x1 x2 hi r d))
  exact (pay13_at _ _ d).trans (congrArg _ (Finset.sum_congr rfl fun r _ => v_ld x0 x1 x2 lo r d))

theorem scale_two (s : Vec Ideal S1x1024 .f32) (d : Fin 1024) :
    k0_pay2 (k0_pay16 (View.ld x0 (rq hi)) (top x2) (View.ld x1 (rc hi)) (low x2)) (k0_pay19 x5 (View.ld x3 (rq hi)))
      (k0_pay14 (pv x0 x1 x2 lo) (pg x3 x5 lo) s) (ix2 0 d)
      = s (ix2 0 d) + ∑ r : Fin 512, vx x0 x1 x2 r d * (hx x3 r d * x5 (ix2 0 d)) := by
  rw [pay2_eq, pay16_eq, pay19_eq, Cert.DownLoss.sum_halves, ← add_assoc]
  refine (pay14_at _ _ _ d).trans (congrArg₂ _ ?_ (Finset.sum_congr rfl fun r _ => congrArg₂ _ (v_ld x0 x1 x2 hi r d) (g_ld x3 x5 hi r d)))
  exact (pay14_at _ _ _ d).trans (congrArg _ (Finset.sum_congr rfl fun r _ => congrArg₂ _ (v_ld x0 x1 x2 lo r d) (g_ld x3 x5 lo r d)))

theorem gain_two (s : Vec Ideal S1x1024 .f32) (d : Fin 1024) :
    k0_pay3 (k0_pay18 (View.ld x3 (rq hi))) (k0_pay20 x6 (View.ld x0 (rq hi)) (top x2) (View.ld x1 (rc hi)) (low x2))
      (k0_pay15 (ph x3 lo) (pw x0 x1 x2 x6 lo) s) (ix2 0 d)
      = s (ix2 0 d) + ∑ r : Fin 512, wx x0 x1 x2 x6 r d * hx x3 r d := by
  rw [pay3_eq, pay18_eq, pay20_eq, Cert.DownLoss.sum_halves, ← add_assoc]
  refine (pay15_at _ _ _ d).trans (congrArg₂ _ ?_ (Finset.sum_congr rfl fun r _ => congrArg₂ _ (w_ld x0 x1 x2 x6 hi r d) (h_ld x3 hi r d)))
  exact (pay15_at _ _ _ d).trans (congrArg _ (Finset.sum_congr rfl fun r _ => congrArg₂ _ (w_ld x0 x1 x2 x6 lo r d) (h_ld x3 lo r d)))

end Block

/-! ## What a point leaves -/

variable (m : (ℓ : Loc nD τ sig) → Buf (Elt Ideal) ℓ) (c : Dev nD)

/-- The gradient of the residual. -/
theorem out7 (t : Fin cfg0.N) (y : S512x1024.Idx) : (outsAt0 m c t.val t.isLt).1 y
    = ox (iblk m c 0 t) (iblk m c 1 t) (iblk m c 2 t) (iblk m c 3 t) (iblk m c 4 t) (iblk m c 5 t) (iblk m c 6 t) (y 0) (y 1) := by
  by_cases h : t.val % 16 = 0
  · rw [outsAt0_A m c t h]; frame_out; exact o_two _ _ _ _ _ _ _ y
  · rw [outsAt0_B m c t h]; frame_out; exact o_two _ _ _ _ _ _ _ y

/-- What a point adds to the three column sums. -/
def sx (t : Fin cfg0.N) (d : Fin 1024) : EReal := ∑ r : Fin 512, vx (iblk m c 0 t) (iblk m c 1 t) (iblk m c 2 t) r d
def cx (t : Fin cfg0.N) (d : Fin 1024) : EReal := ∑ r : Fin 512, vx (iblk m c 0 t) (iblk m c 1 t) (iblk m c 2 t) r d
  * (hx (iblk m c 3 t) r d * (iblk m c 5 t : Vec Ideal S1x1024 .f32) (ix2 0 d))
def nx (t : Fin cfg0.N) (d : Fin 1024) : EReal := ∑ r : Fin 512, wx (iblk m c 0 t) (iblk m c 1 t) (iblk m c 2 t) (iblk m c 6 t) r d
  * hx (iblk m c 3 t) r d

theorem out8_A (t : Fin cfg0.N) (h : t.val % 16 = 0) (d : Fin 1024) : (outsAt0 m c t.val t.isLt).2.1 (ix2 0 d) = 0 + sx m c t d := by
  rw [outsAt0_A m c t h]; frame_out
  exact (shift_two _ _ _ _ d).trans (congrArg (· + _) (pay4_at d))

theorem out8_B (t : Fin cfg0.N) (h : ¬t.val % 16 = 0) (d : Fin 1024) : (outsAt0 m c t.val t.isLt).2.1 (ix2 0 d)
    = (outsAt0 m c (t.val - 1) (by have := t.isLt; omega)).2.1 (ix2 0 d) + sx m c t d := by
  rw [outsAt0_B m c t h]; frame_out
  exact shift_two _ _ _ _ d

theorem out9_A (t : Fin cfg0.N) (h : t.val % 16 = 0) (d : Fin 1024) : (outsAt0 m c t.val t.isLt).2.2.1 (ix2 0 d) = 0 + cx m c t d := by
  rw [outsAt0_A m c t h]; frame_out
  exact (scale_two _ _ _ _ _ _ d).trans (congrArg (· + _) (pay5_at d))

theorem out9_B (t : Fin cfg0.N) (h : ¬t.val % 16 = 0) (d : Fin 1024) : (outsAt0 m c t.val t.isLt).2.2.1 (ix2 0 d)
    = (outsAt0 m c (t.val - 1) (by have := t.isLt; omega)).2.2.1 (ix2 0 d) + cx m c t d := by
  rw [outsAt0_B m c t h]; frame_out
  exact scale_two _ _ _ _ _ _ d

theorem out10_A (t : Fin cfg0.N) (h : t.val % 16 = 0) (d : Fin 1024) : (outsAt0 m c t.val t.isLt).2.2.2 (ix2 0 d) = 0 + nx m c t d := by
  rw [outsAt0_A m c t h]; frame_out
  exact (gain_two _ _ _ _ _ _ d).trans (congrArg (· + _) (pay6_at d))

theorem out10_B (t : Fin cfg0.N) (h : ¬t.val % 16 = 0) (d : Fin 1024) : (outsAt0 m c t.val t.isLt).2.2.2 (ix2 0 d)
    = (outsAt0 m c (t.val - 1) (by have := t.isLt; omega)).2.2.2 (ix2 0 d) + nx m c t d := by
  rw [outsAt0_B m c t h]; frame_out
  exact gain_two _ _ _ _ _ _ d

end Cert.Kernel11Ideal.Norm

end
-- ==== Proof.InNormArray.lean ====
/-
  WHAT THE INPUT PROJECTION'S BACKWARD CALL LEAVES in its four arrays, at any arguments: the gradient of the residual, and the three
  column sums.
-/
module

public import proofs.«01_k».proof.Proof.InNormBlock
public import proofs.«01_k».proof.Proof.Gen.Kernel11Ideal.Value
public import Idealize.ShloMosaic.Lib.StableHlo.ReadAt
public import Idealize.ShloMosaic.Lib.Pipeline.ValueKit

@[expose] public section

set_option maxRecDepth 16384

noncomputable section

namespace Cert.Kernel11Ideal.Norm

open Idealize.ShloMosaic Idealize.ShloMosaic.TcCoe Idealize.SL.Sem
open Idealize.ShloMosaic.Pipeline (Dat)
open Cert.Kernel11Ideal Cert.Kernel11Ideal.Gen
open Cert.Norm (fac back)
open Cert.InNorm (Args)

variable (m : (ℓ : Loc nD τ sig) → Buf (Elt Ideal) ℓ) (c : Dev nD)

/-- The entries of one device's arguments. -/
def args : Args where
  x n d := (m ((c.tc : Thread nD τ).loc main_arg0) : S8192x1024.Idx → EReal) (ix2 n d)
  gain d := (m ((c.tc : Thread nD τ).loc main_arg1) : S1x1024.Idx → EReal) (ix2 0 d)
  scale d := (m ((c.tc : Thread nD τ).loc main_arg3) : S1x1024.Idx → EReal) (ix2 0 d)
  w d j := (m ((c.tc : Thread nD τ).loc main_arg4) : S1024x2560.Idx → EReal) (ix2 d j)
  dxo n d := (m ((c.tc : Thread nD τ).loc main_arg5) : S8192x1024.Idx → EReal) (ix2 n d)
  dq n j := (m ((c.tc : Thread nD τ).loc main_arg6) : S8192x1024.Idx → EReal) (ix2 n j)
  dc n j := (m ((c.tc : Thread nD τ).loc main_arg7) : S8192x1536.Idx → EReal) (ix2 n j)

/-! ## What the call finds -/

theorem v3_at (j : Fin 2560) (d : Fin 1024) : V m c main_v3 (ix2 j d : S2560x1024.Idx) = (args m c).w d j := by
  unfold args
  show StableHlo.after hostOps0 (fun b => m (c, b)) (Proc.devRef .tc main_v3) (ix2 j d : S2560x1024.Idx) = _
  unfold hostOps0
  after_reads_at

theorem v0_at (n : Fin 8192) (j : Fin 1024) : V m c main_v0 (ix2 n j : S8192x1024.Idx) = (args m c).dq n j := by
  unfold args
  show StableHlo.after hostOps0 (fun b => m (c, b)) (Proc.devRef .tc main_v0) (ix2 n j : S8192x1024.Idx) = _
  unfold hostOps0
  after_reads_at

theorem v1_at (n : Fin 8192) (j : Fin 1536) : V m c main_v1 (ix2 n j : S8192x1536.Idx) = (args m c).dc n j := by
  unfold args
  show StableHlo.after hostOps0 (fun b => m (c, b)) (Proc.devRef .tc main_v1) (ix2 n j : S8192x1536.Idx) = _
  unfold hostOps0
  after_reads_at

/-! ## The blocks -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel

theorem lt_points (t : Fin cfg0.N) : t.val < 16 := t.isLt

/-- The token of row `r` of point `t`. -/
def pn (t : Fin cfg0.N) (r : Fin 512) : Fin 8192 := ⟨t.val * 512 + r.val, by have := lt_points t; omega⟩

theorem blk0 (t : Fin cfg0.N) (r : Fin 512) (j : Fin 1024) : iblk m c 0 t (ix2 r j : S512x1024.Idx) = (args m c).dq (pn t r) j := by
  rw [← v0_at]
  blk_simp [iblk]
  exact congrArg _ (by unfold pn; blk_ext [idx0])

theorem blk1 (t : Fin cfg0.N) (r : Fin 512) (j : Fin 1536) : iblk m c 1 t (ix2 r j : S512x1536.Idx) = (args m c).dc (pn t r) j := by
  rw [← v1_at]
  blk_simp [iblk]
  exact congrArg _ (by unfold pn; blk_ext [idx1])

theorem blk2 (t : Fin cfg0.N) (j : Fin 2560) (d : Fin 1024) : iblk m c 2 t (ix2 j d : S2560x1024.Idx) = (args m c).w d j := by
  rw [← v3_at]
  blk_simp [iblk]
  exact congrArg _ (by blk_ext [idx2])

theorem blk3 (t : Fin cfg0.N) (r : Fin 512) (d : Fin 1024) : iblk m c 3 t (ix2 r d : S512x1024.Idx) = (args m c).x (pn t r) d := by
  unfold args
  dsimp only
  rw [← V_main_arg0 m c]
  blk_simp [iblk]
  exact congrArg _ (by unfold pn; blk_ext [idx3])

theorem blk4 (t : Fin cfg0.N) (r : Fin 512) (d : Fin 1024) : iblk m c 4 t (ix2 r d : S512x1024.Idx) = (args m c).dxo (pn t r) d := by
  unfold args
  dsimp only
  rw [← V_main_arg5 m c]
  blk_simp [iblk]
  exact congrArg _ (by unfold pn; blk_ext [idx4])

theorem blk5 (t : Fin cfg0.N) (d : Fin 1024) : iblk m c 5 t (ix2 0 d : S1x1024.Idx) = (args m c).gain d := by
  unfold args
  dsimp only
  rw [← V_main_arg1 m c]
  blk_simp [iblk]
  exact congrArg _ (by blk_ext [idx5])

theorem blk6 (t : Fin cfg0.N) (d : Fin 1024) : iblk m c 6 t (ix2 0 d : S1x1024.Idx) = (args m c).scale d := by
  unfold args
  dsimp only
  rw [← V_main_arg3 m c]
  blk_simp [iblk]
  exact congrArg _ (by blk_ext [idx6])

/-! ## One point -/

theorem v_at (t : Fin cfg0.N) (r : Fin 512) (d : Fin 1024) :
    vx (iblk m c 0 t) (iblk m c 1 t) (iblk m c 2 t) r d = (args m c).dav (pn t r) d := by
  unfold vx Args.dav
  exact congrArg₂ _ (Finset.sum_congr rfl fun k _ => congrArg₂ _ (blk0 m c t r k) (blk2 m c t _ d))
    (Finset.sum_congr rfl fun k _ => congrArg₂ _ (blk1 m c t r k) (blk2 m c t _ d))

theorem h_at (t : Fin cfg0.N) (r : Fin 512) (d : Fin 1024) : hx (iblk m c 3 t) r d = (args m c).xh (pn t r) d := by
  unfold hx Args.xh
  exact congrArg₂ _ (blk3 m c t r d) (congrArg fac (funext fun e => blk3 m c t r e))

theorem w_at (t : Fin cfg0.N) (r : Fin 512) (d : Fin 1024) :
    wx (iblk m c 0 t) (iblk m c 1 t) (iblk m c 2 t) (iblk m c 6 t) r d = (args m c).dn (pn t r) d := by
  unfold wx Args.dn
  exact congrArg₂ _ (v_at m c t r d) (congrArg _ (blk6 m c t d))

theorem o_at (t : Fin cfg0.N) (r : Fin 512) (d : Fin 1024) :
    ox (iblk m c 0 t) (iblk m c 1 t) (iblk m c 2 t) (iblk m c 3 t) (iblk m c 4 t) (iblk m c 5 t) (iblk m c 6 t) r d = (args m c).dx (pn t r) d := by
  unfold ox Args.dx
  refine (congrArg (fun z => back _ _ z d) (blk4 m c t r d)).trans ?_
  exact congrArg₂ (fun a b => back a b _ d) (funext fun e => blk3 m c t r e)
    (funext fun e => congrArg₂ _ (w_at m c t r e) (blk5 m c t e))

/-! ## The column sums -/

/-- A sum kept over the points, 512 rows at each, is the sum over the rows. -/
theorem fold_rows (f : (n : ℕ) → n < cfg0.N → EReal) (F : Fin 8192 → EReal)
    (h0 : ∀ t : Fin cfg0.N, t.val % 16 = 0 → f t.val t.isLt = 0 + ∑ r, F (pn t r))
    (h1 : ∀ t : Fin cfg0.N, ∀ h : ¬t.val % 16 = 0, f t.val t.isLt = f (t.val - 1) (by have := t.isLt; omega) + ∑ r, F (pn t r))
    (t : Fin cfg0.N) (ht : t.val % 16 = 15) : f t.val t.isLt = ∑ n, F n := by
  have H := Pipeline.eq_sum_fin_of_reset_step_apply_of_flush (N := cfg0.N) (M := EReal) (ι := Unit)
    (fun n h _ => f n h) 16 (fun _ => 0) (fun t _ => ∑ r, F (pn t r)) (fun t h _ => h0 t h) (fun t h _ => h1 t h) t ht ()
  refine H.trans ?_
  rw [zero_add, ← Fin.sum_mul_add_fin 16 512 F]
  have hN : t.val < 16 := t.isLt
  refine Finset.sum_congr rfl fun s _ => Finset.sum_congr rfl fun r _ => ?_
  exact congrArg F (Fin.ext (by show (16 * (t.val / 16) + s.val) * 512 + r.val = s.val * 512 + r.val; omega))

theorem shift_at (t : Fin cfg0.N) (ht : t.val % 16 = 15) (d : Fin 1024) : (outsAt0 m c t.val t.isLt).2.1 (ix2 0 d) = (args m c).dshift d := by
  have hs : ∀ t : Fin cfg0.N, sx m c t d = ∑ r, (fun n => (args m c).dav n d) (pn t r) := fun t =>
    Finset.sum_congr rfl fun r _ => v_at m c t r d
  exact fold_rows (fun n h => (outsAt0 m c n h).2.1 (ix2 0 d)) (fun n => (args m c).dav n d)
    (fun t h => (out8_A m c t h d).trans (congrArg _ (hs t))) (fun t h => (out8_B m c t h d).trans (congrArg _ (hs t))) t ht

theorem scale_at (t : Fin cfg0.N) (ht : t.val % 16 = 15) (d : Fin 1024) : (outsAt0 m c t.val t.isLt).2.2.1 (ix2 0 d) = (args m c).dscale d := by
  have hs : ∀ t : Fin cfg0.N, cx m c t d = ∑ r, (fun n => (args m c).dav n d * ((args m c).xh n d * (args m c).gain d)) (pn t r) := fun t =>
    Finset.sum_congr rfl fun r _ => congrArg₂ _ (v_at m c t r d) (congrArg₂ _ (h_at m c t r d) (blk5 m c t d))
  exact fold_rows (fun n h => (outsAt0 m c n h).2.2.1 (ix2 0 d)) (fun n => (args m c).dav n d * ((args m c).xh n d * (args m c).gain d))
    (fun t h => (out9_A m c t h d).trans (congrArg _ (hs t))) (fun t h => (out9_B m c t h d).trans (congrArg _ (hs t))) t ht

theorem gain_at (t : Fin cfg0.N) (ht : t.val % 16 = 15) (d : Fin 1024) : (outsAt0 m c t.val t.isLt).2.2.2 (ix2 0 d) = (args m c).dgain d := by
  have hs : ∀ t : Fin cfg0.N, nx m c t d = ∑ r, (fun n => (args m c).dn n d * (args m c).xh n d) (pn t r) := fun t =>
    Finset.sum_congr rfl fun r _ => congrArg₂ _ (w_at m c t r d) (h_at m c t r d)
  exact fold_rows (fun n h => (outsAt0 m c n h).2.2.2 (ix2 0 d)) (fun n => (args m c).dn n d * (args m c).xh n d)
    (fun t h => (out10_A m c t h d).trans (congrArg _ (hs t))) (fun t h => (out10_B m c t h d).trans (congrArg _ (hs t))) t ht

/-! ## The arrays -/

theorem arr7 : (dats m 0 c).arrAt 7 cfg0.N = fun i : S8192x1024.Idx => (args m c).dx (i 0) (i 1) := by
  refine (dats m 0 c).arrAt_eq_of_covers 7 _ (by decide +kernel) fun t hf y => ?_
  blk_simp [idx7]
  rw [after0_7]
  refine (out7 m c t y).trans ((o_at m c t (y 0) (y 1)).trans ?_)
  exact congrArg₂ _ (Fin.ext (by unfold pn; blk_simp [idx7])) (Fin.ext (by blk_simp [idx7]))

/-- The only row of an array of one row. -/
theorem row_zero (y : S1x1024.Idx) : y = ix2 0 (y 1) :=
  (eq_ix2 (n0 := 1) (n1 := 1024) y).trans (congrArg (fun z => (ix2 z (y 1) : S1x1024.Idx)) (Subsingleton.elim (α := Fin 1) _ _))

theorem arr8 : (dats m 0 c).arrAt 8 cfg0.N = fun i : S1x1024.Idx => (args m c).dshift (i 1) := by
  refine (dats m 0 c).arrAt_eq_of_covers 8 _ (by decide +kernel) fun t hf y => ?_
  have ht : t.val % 16 = 15 := (flush0_8 t).mp hf
  blk_simp [idx8]
  rw [after0_8]
  refine (congrArg _ (row_zero y)).trans ((shift_at m c t ht (y 1)).trans ?_)
  exact congrArg _ (Fin.ext (by blk_simp [idx8]))

theorem arr9 : (dats m 0 c).arrAt 9 cfg0.N = fun i : S1x1024.Idx => (args m c).dscale (i 1) := by
  refine (dats m 0 c).arrAt_eq_of_covers 9 _ (by decide +kernel) fun t hf y => ?_
  have ht : t.val % 16 = 15 := (flush0_9 t).mp hf
  blk_simp [idx9]
  rw [after0_9]
  refine (congrArg _ (row_zero y)).trans ((scale_at m c t ht (y 1)).trans ?_)
  exact congrArg _ (Fin.ext (by blk_simp [idx9]))

theorem arr10 : (dats m 0 c).arrAt 10 cfg0.N = fun i : S1x1024.Idx => (args m c).dgain (i 1) := by
  refine (dats m 0 c).arrAt_eq_of_covers 10 _ (by decide +kernel) fun t hf y => ?_
  have ht : t.val % 16 = 15 := (flush0_10 t).mp hf
  blk_simp [idx10]
  rw [after0_10]
  refine (congrArg _ (row_zero y)).trans ((gain_at m c t ht (y 1)).trans ?_)
  exact congrArg _ (Fin.ext (by blk_simp [idx10]))

end Cert.Kernel11Ideal.Norm

end
-- ==== Proof.InNormRef.lean ====
/-
  THE REFERENCE'S FOUR RESULTS of the input projection's backward call, at any arguments: the gradients that
  `Proof/InNormMath.lean` writes.
-/
module

public import proofs.«01_k».proof.Proof.InNormMath
public import proofs.«01_k».proof.Proof.Gen.Reference11Ideal.Read
public import Idealize.ShloMosaic.Lib.Pointwise

@[expose] public section

set_option maxRecDepth 16384

noncomputable section

namespace Cert.Reference11Ideal.Norm

open Idealize.ShloMosaic Idealize.ShloMosaic.TcCoe
open Cert.Reference11Ideal Cert.Reference11Ideal.Read
open Cert.Norm (fac msq back via back_eq)
open Cert.InNorm (Args)

variable (x0 : (⟨S8192x1024, .f32⟩ : BufTy).Contents (Elt Ideal)) (x1 x3 : (⟨S1x1024, .f32⟩ : BufTy).Contents (Elt Ideal))
  (x4 : (⟨S1024x2560, .f32⟩ : BufTy).Contents (Elt Ideal)) (x5 : (⟨S8192x1024, .f32⟩ : BufTy).Contents (Elt Ideal))
  (x6 : (⟨S8192x1024, .f32⟩ : BufTy).Contents (Elt Ideal)) (x7 : (⟨S8192x1536, .f32⟩ : BufTy).Contents (Elt Ideal))

/-- The arguments' entries. -/
def args : Args where
  x n d := x0 (ix2 n d)
  gain d := x1 (ix2 0 d)
  scale d := x3 (ix2 0 d)
  w d j := x4 (ix2 d j)
  dxo n d := x5 (ix2 n d)
  dq n j := x6 (ix2 n j)
  dc n j := x7 (ix2 n j)

theorem x_eq (n : Fin 8192) (d : Fin 1024) : (args x0 x1 x3 x4 x5 x6 x7).x n d = x0 (ix2 n d) := rfl

theorem v6_at (n : Fin 8192) : val_main_v6 (F := Ideal) x0 (ix2 n 0) = msq ((args x0 x1 x3 x4 x5 x6 x7).x n) := by
  unfold msq
  simp only [x_eq x0 x1 x3 x4 x5 x6 x7]
  unfold val_main_v6 val_main_v4 val_main_v2 val_main_v1 val_main_v0
  pointwise [val_main_v5, val_main_v3, val_main_cst, val_main_cst_0, val_main_cst_1]

theorem v7_at (n : Fin 8192) : val_main_v7 (F := Ideal) x0 (ix2 n 0) = fac ((args x0 x1 x3 x4 x5 x6 x7).x n) := by
  unfold fac
  rw [← v6_at x0 x1 x3 x4 x5 x6 x7]
  unfold val_main_v7
  generalize val_main_v6 (F := Ideal) x0 = a
  pointwise

theorem v10_at (n : Fin 8192) : val_main_v10 (F := Ideal) x0 (ix2 n 0)
    = Ideal.ofBits .f32 0xBF000000#32 * Ideal.div (fac ((args x0 x1 x3 x4 x5 x6 x7).x n)) (msq ((args x0 x1 x3 x4 x5 x6 x7).x n)) := by
  rw [← v7_at x0 x1 x3 x4 x5 x6 x7, ← v6_at x0 x1 x3 x4 x5 x6 x7]
  unfold val_main_v10 val_main_v8
  generalize val_main_v6 (F := Ideal) x0 = a
  generalize val_main_v7 (F := Ideal) x0 = b
  pointwise [val_main_v9, val_main_cst_2]

theorem v12_at (n : Fin 8192) (d : Fin 1024) : val_main_v12 (F := Ideal) x0 (ix2 n d) = (args x0 x1 x3 x4 x5 x6 x7).xh n d := by
  unfold Args.xh
  rw [← v7_at x0 x1 x3 x4 x5 x6 x7, x_eq x0 x1 x3 x4 x5 x6 x7]
  unfold val_main_v12 val_main_v11
  generalize val_main_v7 (F := Ideal) x0 = b
  pointwise

theorem v24_lo (n : Fin 8192) (j : Fin 1024) : val_main_v24 (F := Ideal) x6 x7 (ix2 n (Fin.castAdd 1536 j)) = x6 (ix2 n j) := by
  pointwise [val_main_v24]
  rw [dif_pos (show (Fin.castAdd 1536 j).val < 1024 from j.isLt)]
  rfl

theorem v24_hi (n : Fin 8192) (j : Fin 1536) : val_main_v24 (F := Ideal) x6 x7 (ix2 n (Fin.natAdd 1024 j)) = x7 (ix2 n j) := by
  pointwise [val_main_v24]
  rw [dif_neg (show ¬(Fin.natAdd 1024 j).val < 1024 from by simp)]
  exact congrArg (fun e => x7 (ix2 n e)) (Fin.ext (by simp))

theorem v25_at (n : Fin 8192) (d : Fin 1024) : val_main_v25 (F := Ideal) x4 x6 x7 (ix2 n d) = (args x0 x1 x3 x4 x5 x6 x7).dav n d := by
  have h : val_main_v25 (F := Ideal) x4 x6 x7 (ix2 n d)
      = ∑ j : Fin (1024 + 1536), val_main_v24 (F := Ideal) x6 x7 (ix2 n j : S8192x2560.Idx) * x4 (ix2 d j : S1024x2560.Idx) := by
    unfold val_main_v25
    generalize val_main_v24 (F := Ideal) x6 x7 = a
    pointwise
  rw [h, Fin.sum_univ_add]
  simp only [v24_lo, v24_hi]
  rfl

theorem v32_at (n : Fin 8192) (d : Fin 1024) : val_main_v32 (F := Ideal) x3 x4 x6 x7 (ix2 n d) = (args x0 x1 x3 x4 x5 x6 x7).dn n d := by
  unfold Args.dn
  rw [← v25_at x0 x1 x3 x4 x5 x6 x7]
  unfold val_main_v32
  generalize val_main_v25 (F := Ideal) x4 x6 x7 = a
  unfold args
  pointwise [val_main_v31, val_main_v16, val_main_v15, val_main_cst_3]

theorem v37_at (n : Fin 8192) (d : Fin 1024) : val_main_v37 (F := Ideal) x1 x3 x4 x6 x7 (ix2 n d) = (args x0 x1 x3 x4 x5 x6 x7).dn n d * (args x0 x1 x3 x4 x5 x6 x7).gain d := by
  rw [← v32_at x0 x1 x3 x4 x5 x6 x7]
  unfold val_main_v37
  generalize val_main_v32 (F := Ideal) x3 x4 x6 x7 = a
  unfold args
  pointwise [val_main_v36]

theorem v46_at (n : Fin 8192) : val_main_v46 (F := Ideal) x0 x1 x3 x4 x6 x7 (ix2 n 0) = via ((args x0 x1 x3 x4 x5 x6 x7).x n) (fun e => (args x0 x1 x3 x4 x5 x6 x7).dn n e * (args x0 x1 x3 x4 x5 x6 x7).gain e) := by
  unfold via
  rw [← v10_at]
  simp only [← v37_at x0 x1 x3 x4 x5 x6 x7, x_eq x0 x1 x3 x4 x5 x6 x7]
  unfold val_main_v46 val_main_v44 val_main_v40 val_main_v39 val_main_v38
  generalize val_main_v10 (F := Ideal) x0 = b
  generalize val_main_v37 (F := Ideal) x1 x3 x4 x6 x7 = w
  pointwise [val_main_v45, val_main_cst_7, val_main_cst_8]

theorem v48_at (n : Fin 8192) (d : Fin 1024) :
    val_main_v48 (F := Ideal) x0 x1 x3 x4 x6 x7 (ix2 n d) = via ((args x0 x1 x3 x4 x5 x6 x7).x n) (fun e => (args x0 x1 x3 x4 x5 x6 x7).dn n e * (args x0 x1 x3 x4 x5 x6 x7).gain e) := by
  rw [← v46_at]
  unfold val_main_v48 val_main_v47
  generalize val_main_v46 (F := Ideal) x0 x1 x3 x4 x6 x7 = a
  pointwise [val_main_cst_9]
  exact Fintype.sum_unique _

theorem v52_at (n : Fin 8192) (d : Fin 1024) : val_main_v52 (F := Ideal) x0 x1 x3 x4 x5 x6 x7 (ix2 n d) = (args x0 x1 x3 x4 x5 x6 x7).dx n d := by
  unfold Args.dx
  rw [back_eq, ← v48_at x0 x1 x3 x4 x5 x6 x7 n d, ← v7_at, x_eq x0 x1 x3 x4 x5 x6 x7]
  rw [← v37_at x0 x1 x3 x4 x5 x6 x7]
  unfold val_main_v52 val_main_v51 val_main_v50 val_main_v49 val_main_v43 val_main_v42 val_main_v41
  generalize val_main_v7 (F := Ideal) x0 = b
  generalize val_main_v37 (F := Ideal) x1 x3 x4 x6 x7 = w
  generalize val_main_v48 (F := Ideal) x0 x1 x3 x4 x6 x7 = z
  unfold args
  pointwise

theorem v27_at (d : Fin 1024) : val_main_v27 (F := Ideal) x4 x6 x7 (ix2 0 d) = (args x0 x1 x3 x4 x5 x6 x7).dshift d := by
  unfold Args.dshift
  simp only [← v25_at]
  unfold val_main_v27 val_main_v26
  generalize val_main_v25 (F := Ideal) x4 x6 x7 = a
  pointwise [val_main_cst_4]

theorem v30_at (d : Fin 1024) : val_main_v30 (F := Ideal) x0 x1 x4 x6 x7 (ix2 0 d) = (args x0 x1 x3 x4 x5 x6 x7).dscale d := by
  have h : ∀ n, (args x0 x1 x3 x4 x5 x6 x7).dav n d * ((args x0 x1 x3 x4 x5 x6 x7).xh n d * (args x0 x1 x3 x4 x5 x6 x7).gain d) = val_main_v12 (F := Ideal) x0 (ix2 n d) * x1 (ix2 0 d) * val_main_v25 (F := Ideal) x4 x6 x7 (ix2 n d) := fun n => by
    rw [v25_at x0 x1 x3 x4 x5 x6 x7, v12_at x0 x1 x3 x4 x5 x6 x7, mul_comm]
    rfl
  unfold Args.dscale
  simp only [h]
  unfold val_main_v30 val_main_v29 val_main_v28 val_main_v14
  generalize val_main_v25 (F := Ideal) x4 x6 x7 = a
  generalize val_main_v12 (F := Ideal) x0 = b
  pointwise [val_main_cst_5, val_main_v13]

theorem v35_at (d : Fin 1024) : val_main_v35 (F := Ideal) x0 x3 x4 x6 x7 (ix2 0 d) = (args x0 x1 x3 x4 x5 x6 x7).dgain d := by
  have h : ∀ n, (args x0 x1 x3 x4 x5 x6 x7).dn n d * (args x0 x1 x3 x4 x5 x6 x7).xh n d = val_main_v12 (F := Ideal) x0 (ix2 n d) * val_main_v32 (F := Ideal) x3 x4 x6 x7 (ix2 n d) := fun n => by
    rw [v32_at x0 x1 x3 x4 x5 x6 x7, v12_at x0 x1 x3 x4 x5 x6 x7, mul_comm]
  unfold Args.dgain
  simp only [h]
  unfold val_main_v35 val_main_v34 val_main_v33
  generalize val_main_v32 (F := Ideal) x3 x4 x6 x7 = a
  generalize val_main_v12 (F := Ideal) x0 = b
  pointwise [val_main_cst_6]

end Cert.Reference11Ideal.Norm

end
-- ==== Proof.InNorm.lean ====
/-
  THE INPUT PROJECTION'S BACKWARD CALL AND ITS REFERENCE END WITH THE SAME FOUR RESULTS, at any arguments.
-/
module

public import proofs.«01_k».proof.Defs
public import proofs.«01_k».proof.Proof.InNormArray
public import proofs.«01_k».proof.Proof.InNormRef
public import proofs.«01_k».proof.Proof.Gen.Reference11Ideal.Run

@[expose] public section

set_option maxRecDepth 16384

noncomputable section

namespace Cert.InNorm

open Idealize.ShloMosaic Idealize.ShloMosaic.TcCoe Idealize.SL.Sem

section Results
variable (m : (ℓ : Loc Cert.Kernel11Ideal.nD Cert.Kernel11Ideal.τ Cert.Kernel11Ideal.sig) → Buf (Elt Ideal) ℓ) (c : Dev Cert.Kernel11Ideal.nD)

/-- One device's argument. -/
abbrev in0 := m ((c.tc : Thread Cert.Kernel11Ideal.nD Cert.Kernel11Ideal.τ).loc Cert.Kernel11Ideal.main_arg0)
abbrev in1 := m ((c.tc : Thread Cert.Kernel11Ideal.nD Cert.Kernel11Ideal.τ).loc Cert.Kernel11Ideal.main_arg1)
abbrev in2 := m ((c.tc : Thread Cert.Kernel11Ideal.nD Cert.Kernel11Ideal.τ).loc Cert.Kernel11Ideal.main_arg2)
abbrev in3 := m ((c.tc : Thread Cert.Kernel11Ideal.nD Cert.Kernel11Ideal.τ).loc Cert.Kernel11Ideal.main_arg3)
abbrev in4 := m ((c.tc : Thread Cert.Kernel11Ideal.nD Cert.Kernel11Ideal.τ).loc Cert.Kernel11Ideal.main_arg4)
abbrev in5 := m ((c.tc : Thread Cert.Kernel11Ideal.nD Cert.Kernel11Ideal.τ).loc Cert.Kernel11Ideal.main_arg5)
abbrev in6 := m ((c.tc : Thread Cert.Kernel11Ideal.nD Cert.Kernel11Ideal.τ).loc Cert.Kernel11Ideal.main_arg6)
abbrev in7 := m ((c.tc : Thread Cert.Kernel11Ideal.nD Cert.Kernel11Ideal.τ).loc Cert.Kernel11Ideal.main_arg7)

/-! Each array the call leaves is the reference's result. -/

theorem same7 : Cert.Reference11Ideal.Read.val_main_v52 (F := Ideal) (in0 m c) (in1 m c) (in3 m c) (in4 m c) (in5 m c) (in6 m c) (in7 m c) = (Cert.Kernel11Ideal.Gen.dats m 0 c).arrAt 7 Cert.Kernel11Ideal.cfg0.N := by
  refine Eq.trans ?_ (Cert.Kernel11Ideal.Norm.arr7 m c).symm
  funext i
  exact (congrArg _ (eq_ix2 i)).trans (Cert.Reference11Ideal.Norm.v52_at (in0 m c) (in1 m c) (in3 m c) (in4 m c) (in5 m c) (in6 m c) (in7 m c) (i 0) (i 1))

theorem same8 : Cert.Reference11Ideal.Read.val_main_v27 (F := Ideal) (in4 m c) (in6 m c) (in7 m c) = (Cert.Kernel11Ideal.Gen.dats m 0 c).arrAt 8 Cert.Kernel11Ideal.cfg0.N := by
  refine Eq.trans ?_ (Cert.Kernel11Ideal.Norm.arr8 m c).symm
  funext i
  exact (congrArg _ (Cert.Kernel11Ideal.Norm.row_zero i)).trans (Cert.Reference11Ideal.Norm.v27_at (in0 m c) (in1 m c) (in3 m c) (in4 m c) (in5 m c) (in6 m c) (in7 m c) (i 1))

theorem same9 : Cert.Reference11Ideal.Read.val_main_v30 (F := Ideal) (in0 m c) (in1 m c) (in4 m c) (in6 m c) (in7 m c) = (Cert.Kernel11Ideal.Gen.dats m 0 c).arrAt 9 Cert.Kernel11Ideal.cfg0.N := by
  refine Eq.trans ?_ (Cert.Kernel11Ideal.Norm.arr9 m c).symm
  funext i
  exact (congrArg _ (Cert.Kernel11Ideal.Norm.row_zero i)).trans (Cert.Reference11Ideal.Norm.v30_at (in0 m c) (in1 m c) (in3 m c) (in4 m c) (in5 m c) (in6 m c) (in7 m c) (i 1))

theorem same10 : Cert.Reference11Ideal.Read.val_main_v35 (F := Ideal) (in0 m c) (in3 m c) (in4 m c) (in6 m c) (in7 m c) = (Cert.Kernel11Ideal.Gen.dats m 0 c).arrAt 10 Cert.Kernel11Ideal.cfg0.N := by
  refine Eq.trans ?_ (Cert.Kernel11Ideal.Norm.arr10 m c).symm
  funext i
  exact (congrArg _ (Cert.Kernel11Ideal.Norm.row_zero i)).trans (Cert.Reference11Ideal.Norm.v35_at (in0 m c) (in1 m c) (in3 m c) (in4 m c) (in5 m c) (in6 m c) (in7 m c) (i 1))

end Results

set_option maxHeartbeats 4000000 in
/-- From memories that agree on the arguments, both programs run, end with equal results, and leave their arguments as they were. -/
theorem holds : Cert.algebraic_Kernel11Ideal_Reference11Ideal (hKernel11Ideal := Cert.Kernel11Ideal.Gen.facts)
    (hReference11Ideal := Cert.Reference11Ideal.Gen.facts) := by
  intro m g m' g' _ ha
  refine ⟨fun c => (Cert.Kernel11Ideal.Gen.dats m 0 c).arrAt 7 Cert.Kernel11Ideal.cfg0.N,
    fun c => (Cert.Kernel11Ideal.Gen.dats m 0 c).arrAt 8 Cert.Kernel11Ideal.cfg0.N,
    fun c => (Cert.Kernel11Ideal.Gen.dats m 0 c).arrAt 9 Cert.Kernel11Ideal.cfg0.N,
    fun c => (Cert.Kernel11Ideal.Gen.dats m 0 c).arrAt 10 Cert.Kernel11Ideal.cfg0.N,
    Cert.Kernel11Ideal.Value.run_blocks (F := Ideal) m g, ?_⟩
  refine (θ_run Cert.Reference11Ideal.defs _ _).mono (fun r h c => ?_) (Cert.Reference11Ideal.Value.run (F := Ideal) m' g')
  obtain ⟨a0, a1, a2, a3, a4, a5, a6, a7⟩ := ha c
  obtain ⟨h0, h1, h2, h3, hr⟩ := h c
  refine ⟨h0.trans ?_, h1.trans ?_, h2.trans ?_, h3.trans ?_, hr⟩
  · rw [Cert.Reference11Ideal.Read.val_main_v52_eq, a0, a1, a3, a4, a5, a6, a7]
    exact same7 m c
  · rw [Cert.Reference11Ideal.Read.val_main_v27_eq, a4, a6, a7]
    exact same8 m c
  · rw [Cert.Reference11Ideal.Read.val_main_v30_eq, a0, a1, a4, a6, a7]
    exact same9 m c
  · rw [Cert.Reference11Ideal.Read.val_main_v35_eq, a0, a3, a4, a6, a7]
    exact same10 m c

end Cert.InNorm

end
-- ==== Proof.InWeight.lean ====
/-
  THE GRADIENT OF THE INPUT PROJECTION'S WEIGHT, for the convolution's columns: what the call leaves, and that the reference ends with the same.
-/
module

public import proofs.«01_k».proof.Proof.WeightMath
public import proofs.«01_k».proof.Defs
public import proofs.«01_k».proof.Proof.Gen.Kernel12Ideal.Frame
public import proofs.«01_k».proof.Proof.Gen.Reference12Ideal.Run
public import proofs.«01_k».proof.Proof.Gen.Reference12Ideal.Read
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel12Ideal.Weight

open Idealize.ShloMosaic Idealize.ShloMosaic.TcCoe Idealize.SL.Sem
open Idealize.ShloMosaic.Pipeline (Dat)
open Cert.Kernel12Ideal Cert.Kernel12Ideal.Gen Cert.Weight

variable (m : (ℓ : Loc nD τ sig) → Buf (Elt Ideal) ℓ) (c : Dev nD)

/-- The entries of the product's left operand and of the cotangent. -/
def wide (n : Fin 8192) (i : Fin 1536) : EReal := (m ((c.tc : Thread nD τ).loc main_arg0) : S8192x1536.Idx → EReal) (ix2 n i)
def slim (n : Fin 8192) (j : Fin 1024) : EReal := (m ((c.tc : Thread nD τ).loc main_arg1) : S8192x1024.Idx → EReal) (ix2 n j)

theorem v0_at (n : Fin 8192) (i : Fin 1536) : V m c main_v0 (ix2 n i : S8192x1536.Idx) = wide m c n i := by
  unfold wide
  show StableHlo.after hostOps0 (fun b => m (c, b)) (Proc.devRef .tc main_v0) (ix2 n i : S8192x1536.Idx) = _
  unfold hostOps0
  after_reads_at

theorem v1_at (n : Fin 8192) (j : Fin 1024) : V m c main_v1 (ix2 n j : S8192x1024.Idx) = slim m c n j := by
  unfold slim
  show StableHlo.after hostOps0 (fun b => m (c, b)) (Proc.devRef .tc main_v1) (ix2 n j : S8192x1024.Idx) = _
  unfold hostOps0
  after_reads_at

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel

theorem blk0 (t : Fin cfg0.N) (r : Fin 1024) (i : Fin 1536) : iblk m c 0 t (ix2 r i : S1024x1536.Idx) = wide m c (token t r) i := by
  rw [← v0_at]
  blk_simp [iblk]
  exact congrArg _ (by unfold token; blk_ext [idx0])

theorem blk1 (t : Fin cfg0.N) (r : Fin 1024) (j : Fin 1024) : iblk m c 1 t (ix2 r j : S1024x1024.Idx) = slim m c (token t r) j := by
  rw [← v1_at]
  blk_simp [iblk]
  exact congrArg _ (by unfold token; blk_ext [idx1])

/-! ## The sum kept over the points -/

theorem pay1_at (i : Fin 1536) (j : Fin 1024) : k0_pay1 (F := Ideal) (ix2 i j) = 0 := by
  pointwise [k0_pay1]

theorem pay2_at (s : Vec Ideal S1536x1024 .f32) (a : Vec Ideal S1024x1536 .bf16) (b : Vec Ideal S1024x1024 .bf16) (i : Fin 1536) (j : Fin 1024) :
    k0_pay2 s a b (ix2 i j) = s (ix2 i j) + ∑ r : Fin 1024, a (ix2 r i) * b (ix2 r j) := by
  pointwise [k0_pay2]

theorem pay3_at (s : Vec Ideal S1536x1024 .f32) (i : Fin 1536) (j : Fin 1024) : k0_pay3 s (ix2 i j) = s (ix2 i j) := by
  pointwise [k0_pay3]

theorem step_at (s : Vec Ideal S1536x1024 .f32) (t : Fin cfg0.N) (i : Fin 1536) (j : Fin 1024) :
    k0_pay2 (F := Ideal) s (iblk m c 0 t) (iblk m c 1 t) (ix2 i j)
      = s (ix2 i j) + ∑ r, (fun n => wide m c n i * slim m c n j) (token t r) := by
  rw [pay2_at]
  simp only [blk0, blk1]

theorem kept_first (t : Fin cfg0.N) (h : t.val % 8 = 0) :
    (outsAt0 m c t.val t.isLt).2 = k0_pay2 (F := Ideal) (k0_pay1 (F := Ideal)) (iblk m c 0 t) (iblk m c 1 t) := by
  rw [outsAt0_A m c t h (by omega)]; frame_out

theorem kept_next (t : Fin cfg0.N) (h : ¬t.val % 8 = 0) :
    (outsAt0 m c t.val t.isLt).2 = k0_pay2 (F := Ideal) (outsAt0 m c (t.val - 1) (by have := t.isLt; omega)).2 (iblk m c 0 t) (iblk m c 1 t) := by
  by_cases h1 : t.val % 8 = 7
  · rw [outsAt0_C m c t h h1]; frame_out; rw [read_unread_whole]
  · rw [outsAt0_B m c t h h1]; frame_out; rw [read_unread_whole]

theorem out_last (t : Fin cfg0.N) (h : t.val % 8 = 7) : (outsAt0 m c t.val t.isLt).1 = k0_pay3 (F := Ideal) (outsAt0 m c t.val t.isLt).2 := by
  rw [kept_next m c t (by omega), outsAt0_C m c t (by omega) h]; frame_out; rw [read_unread_whole]

theorem kept_last (t : Fin cfg0.N) (ht : t.val % 8 = 7) (i : Fin 1536) (j : Fin 1024) :
    (outsAt0 m c t.val t.isLt).2 (ix2 i j) = ∑ n, wide m c n i * slim m c n j :=
  fold_tokens (fun n h => (outsAt0 m c n h).2 (ix2 i j)) (fun n => wide m c n i * slim m c n j)
    (fun t h => (congrFun (kept_first m c t h) _).trans ((step_at m c _ t i j).trans (congrArg (· + _) (pay1_at i j))))
    (fun t h => (congrFun (kept_next m c t h) _).trans (step_at m c _ t i j)) t ht

/-- What the call leaves in its array. -/
theorem arr2 : (dats m 0 c).arrAt 2 cfg0.N = fun p : S1536x1024.Idx => ∑ n, wide m c n (p 0) * slim m c n (p 1) := by
  refine (dats m 0 c).arrAt_eq_of_covers 2 _ (by decide +kernel) fun t hf y => ?_
  have ht : t.val % 8 = 7 := (flush0_2 t).mp hf
  blk_simp [idx2]
  rw [after0_2]
  refine (congrArg _ (eq_ix2 (n0 := 1536) (n1 := 1024) y)).trans ?_
  refine (congrFun (out_last m c t ht) _).trans ((pay3_at _ _ _).trans ((kept_last m c t ht _ _).trans ?_))
  refine Finset.sum_congr rfl fun n _ => congrArg₂ _ (congrArg _ (Fin.ext ?_)) (congrArg _ (Fin.ext ?_)) <;> blk_simp [idx2]

/-! ## The reference -/

theorem ref_at (x0 : (⟨S8192x1536, .f32⟩ : BufTy).Contents (Elt Ideal)) (x1 : (⟨S8192x1024, .f32⟩ : BufTy).Contents (Elt Ideal)) (i : Fin 1536) (j : Fin 1024) :
    Cert.Reference12Ideal.Read.val_main_v5 (F := Ideal) x0 x1 (ix2 i j) = ∑ n : Fin 8192, x0 (ix2 n i) * x1 (ix2 n j) := by
  pointwise [Cert.Reference12Ideal.Read.val_main_v5, Cert.Reference12Ideal.Read.val_main_v4, Cert.Reference12Ideal.Read.val_main_v3, Cert.Reference12Ideal.Read.val_main_v2]

/-- The call runs, and ends with its array and its arguments so. -/
theorem run (g : Dev nD → PrngReg) : θ_run defs (onTc (τ := τ) (main (F := Ideal))) ⟨m, fun _ => 0, g⟩ fun r => ∀ c : Dev nD,
    r.2.mem ((c : Thread nD τ).loc main_v2) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m g)

/-- From memories that agree on the arguments, both programs run, end with the same gradient, and leave their arguments as they were. -/
theorem holds : Cert.algebraic_Kernel12Ideal_Reference12Ideal (hKernel12Ideal := Cert.Kernel12Ideal.Gen.facts) (hReference12Ideal := Cert.Reference12Ideal.Gen.facts) := by
  intro m g m' g' _ ha
  refine ⟨fun c => (dats m 0 c).arrAt 2 cfg0.N, run m g, ?_⟩
  refine (θ_run Cert.Reference12Ideal.defs _ _).mono (fun r h c => ?_) (Cert.Reference12Ideal.Value.run (F := Ideal) m' g')
  obtain ⟨a0, a1⟩ := ha c
  obtain ⟨h0, hr⟩ := h c
  refine ⟨h0.trans ?_, hr⟩
  rw [Cert.Reference12Ideal.Read.val_main_v5_eq, a0, a1]
  refine Eq.trans ?_ (arr2 m c).symm
  funext p
  exact (congrArg _ (eq_ix2 p)).trans (ref_at _ _ (p 0) (p 1))

end Cert.Kernel12Ideal.Weight

end
-- ==== Proof.OutWeightAttn.lean ====
/-
  THE GRADIENT OF THE OUTPUT PROJECTION'S WEIGHT, for the attention's rows: what the call leaves, and that the reference ends with the same.
-/
module

public import proofs.«01_k».proof.Proof.WeightMath
public import proofs.«01_k».proof.Defs
public import proofs.«01_k».proof.Proof.Gen.Kernel13Ideal.Frame
public import proofs.«01_k».proof.Proof.Gen.Reference13Ideal.Run
public import proofs.«01_k».proof.Proof.Gen.Reference13Ideal.Read
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel13Ideal.Weight

open Idealize.ShloMosaic Idealize.ShloMosaic.TcCoe Idealize.SL.Sem
open Idealize.ShloMosaic.Pipeline (Dat)
open Cert.Kernel13Ideal Cert.Kernel13Ideal.Gen Cert.Weight

variable (m : (ℓ : Loc nD τ sig) → Buf (Elt Ideal) ℓ) (c : Dev nD)

/-- The entries of the product's left operand and of the cotangent. -/
def wide (n : Fin 8192) (i : Fin 512) : EReal := (m ((c.tc : Thread nD τ).loc main_arg0) : S8192x512.Idx → EReal) (ix2 n i)
def slim (n : Fin 8192) (j : Fin 1024) : EReal := (m ((c.tc : Thread nD τ).loc main_arg1) : S8192x1024.Idx → EReal) (ix2 n j)

theorem v0_at (n : Fin 8192) (j : Fin 1024) : V m c main_v0 (ix2 n j : S8192x1024.Idx) = slim m c n j := by
  unfold slim
  show StableHlo.after hostOps0 (fun b => m (c, b)) (Proc.devRef .tc main_v0) (ix2 n j : S8192x1024.Idx) = _
  unfold hostOps0
  after_reads_at

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel

theorem blk0 (t : Fin cfg0.N) (r : Fin 1024) (i : Fin 512) : iblk m c 0 t (ix2 r i : S1024x512.Idx) = wide m c (token t r) i := by
  unfold wide
  rw [← V_main_arg0 m c]
  blk_simp [iblk]
  exact congrArg _ (by unfold token; blk_ext [idx0])

theorem blk1 (t : Fin cfg0.N) (r : Fin 1024) (j : Fin 1024) : iblk m c 1 t (ix2 r j : S1024x1024.Idx) = slim m c (token t r) j := by
  rw [← v0_at]
  blk_simp [iblk]
  exact congrArg _ (by unfold token; blk_ext [idx1])

/-! ## The sum kept over the points -/

theorem pay1_at (i : Fin 512) (j : Fin 1024) : k0_pay1 (F := Ideal) (ix2 i j) = 0 := by
  pointwise [k0_pay1]

theorem pay2_at (s : Vec Ideal S512x1024 .f32) (a : Vec Ideal S1024x512 .f32) (b : Vec Ideal S1024x1024 .bf16) (i : Fin 512) (j : Fin 1024) :
    k0_pay2 s a b (ix2 i j) = s (ix2 i j) + ∑ r : Fin 1024, a (ix2 r i) * b (ix2 r j) := by
  pointwise [k0_pay2]

theorem pay3_at (s : Vec Ideal S512x1024 .f32) (i : Fin 512) (j : Fin 1024) : k0_pay3 s (ix2 i j) = s (ix2 i j) := by
  pointwise [k0_pay3]

theorem step_at (s : Vec Ideal S512x1024 .f32) (t : Fin cfg0.N) (i : Fin 512) (j : Fin 1024) :
    k0_pay2 (F := Ideal) s (iblk m c 0 t) (iblk m c 1 t) (ix2 i j)
      = s (ix2 i j) + ∑ r, (fun n => wide m c n i * slim m c n j) (token t r) := by
  rw [pay2_at]
  simp only [blk0, blk1]

theorem kept_first (t : Fin cfg0.N) (h : t.val % 8 = 0) :
    (outsAt0 m c t.val t.isLt).2 = k0_pay2 (F := Ideal) (k0_pay1 (F := Ideal)) (iblk m c 0 t) (iblk m c 1 t) := by
  rw [outsAt0_A m c t h (by omega)]; frame_out

theorem kept_next (t : Fin cfg0.N) (h : ¬t.val % 8 = 0) :
    (outsAt0 m c t.val t.isLt).2 = k0_pay2 (F := Ideal) (outsAt0 m c (t.val - 1) (by have := t.isLt; omega)).2 (iblk m c 0 t) (iblk m c 1 t) := by
  by_cases h1 : t.val % 8 = 7
  · rw [outsAt0_C m c t h h1]; frame_out; rw [read_unread_whole]
  · rw [outsAt0_B m c t h h1]; frame_out; rw [read_unread_whole]

theorem out_last (t : Fin cfg0.N) (h : t.val % 8 = 7) : (outsAt0 m c t.val t.isLt).1 = k0_pay3 (F := Ideal) (outsAt0 m c t.val t.isLt).2 := by
  rw [kept_next m c t (by omega), outsAt0_C m c t (by omega) h]; frame_out; rw [read_unread_whole]

theorem kept_last (t : Fin cfg0.N) (ht : t.val % 8 = 7) (i : Fin 512) (j : Fin 1024) :
    (outsAt0 m c t.val t.isLt).2 (ix2 i j) = ∑ n, wide m c n i * slim m c n j :=
  fold_tokens (fun n h => (outsAt0 m c n h).2 (ix2 i j)) (fun n => wide m c n i * slim m c n j)
    (fun t h => (congrFun (kept_first m c t h) _).trans ((step_at m c _ t i j).trans (congrArg (· + _) (pay1_at i j))))
    (fun t h => (congrFun (kept_next m c t h) _).trans (step_at m c _ t i j)) t ht

/-- What the call leaves in its array. -/
theorem arr2 : (dats m 0 c).arrAt 2 cfg0.N = fun p : S512x1024.Idx => ∑ n, wide m c n (p 0) * slim m c n (p 1) := by
  refine (dats m 0 c).arrAt_eq_of_covers 2 _ (by decide +kernel) fun t hf y => ?_
  have ht : t.val % 8 = 7 := (flush0_2 t).mp hf
  blk_simp [idx2]
  rw [after0_2]
  refine (congrArg _ (eq_ix2 (n0 := 512) (n1 := 1024) y)).trans ?_
  refine (congrFun (out_last m c t ht) _).trans ((pay3_at _ _ _).trans ((kept_last m c t ht _ _).trans ?_))
  refine Finset.sum_congr rfl fun n _ => congrArg₂ _ (congrArg _ (Fin.ext ?_)) (congrArg _ (Fin.ext ?_)) <;> blk_simp [idx2]

/-! ## The reference -/

theorem ref_at (x0 : (⟨S8192x512, .f32⟩ : BufTy).Contents (Elt Ideal)) (x1 : (⟨S8192x1024, .f32⟩ : BufTy).Contents (Elt Ideal)) (i : Fin 512) (j : Fin 1024) :
    Cert.Reference13Ideal.Read.val_main_v4 (F := Ideal) x0 x1 (ix2 i j) = ∑ n : Fin 8192, x0 (ix2 n i) * x1 (ix2 n j) := by
  refine Eq.trans (b := ∑ n : Fin 8192, x1 (ix2 n j) * x0 (ix2 n i)) ?_ (Finset.sum_congr rfl fun n _ => mul_comm _ _)
  pointwise [Cert.Reference13Ideal.Read.val_main_v4, Cert.Reference13Ideal.Read.val_main_v3, Cert.Reference13Ideal.Read.val_main_v2]

/-- The call runs, and ends with its array and its arguments so. -/
theorem run (g : Dev nD → PrngReg) : θ_run defs (onTc (τ := τ) (main (F := Ideal))) ⟨m, fun _ => 0, g⟩ fun r => ∀ c : Dev nD,
    r.2.mem ((c : Thread nD τ).loc main_v1) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2, h.2 c⟩) (θ_run_and (run_main m g) (unchanged m g))

/-- From memories that agree on the arguments, both programs run, end with the same gradient, and leave their arguments as they were. -/
theorem holds : Cert.algebraic_Kernel13Ideal_Reference13Ideal (hKernel13Ideal := Cert.Kernel13Ideal.Gen.facts) (hReference13Ideal := Cert.Reference13Ideal.Gen.facts) := by
  intro m g m' g' _ ha
  refine ⟨fun c => (dats m 0 c).arrAt 2 cfg0.N, run m g, ?_⟩
  refine (θ_run Cert.Reference13Ideal.defs _ _).mono (fun r h c => ?_) (Cert.Reference13Ideal.Value.run (F := Ideal) m' g')
  obtain ⟨a0, a1⟩ := ha c
  obtain ⟨h0, hr⟩ := h c
  refine ⟨h0.trans ?_, hr⟩
  rw [Cert.Reference13Ideal.Read.val_main_v4_eq, a0, a1]
  refine Eq.trans ?_ (arr2 m c).symm
  funext p
  exact (congrArg _ (eq_ix2 p)).trans (ref_at _ _ (p 0) (p 1))

end Cert.Kernel13Ideal.Weight

end
-- ==== Proof.OutWeightConv.lean ====
/-
  THE GRADIENT OF THE OUTPUT PROJECTION'S WEIGHT, for the convolution's rows: what the call leaves, and that the reference ends with the same.
-/
module

public import proofs.«01_k».proof.Proof.WeightMath
public import proofs.«01_k».proof.Defs
public import proofs.«01_k».proof.Proof.Gen.Kernel14Ideal.Frame
public import proofs.«01_k».proof.Proof.Gen.Reference14Ideal.Run
public import proofs.«01_k».proof.Proof.Gen.Reference14Ideal.Read
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel14Ideal.Weight

open Idealize.ShloMosaic Idealize.ShloMosaic.TcCoe Idealize.SL.Sem
open Idealize.ShloMosaic.Pipeline (Dat)
open Cert.Kernel14Ideal Cert.Kernel14Ideal.Gen Cert.Weight

variable (m : (ℓ : Loc nD τ sig) → Buf (Elt Ideal) ℓ) (c : Dev nD)

/-- The entries of the product's left operand and of the cotangent. -/
def wide (n : Fin 8192) (i : Fin 512) : EReal := (m ((c.tc : Thread nD τ).loc main_arg0) : S8192x512.Idx → EReal) (ix2 n i)
def slim (n : Fin 8192) (j : Fin 1024) : EReal := (m ((c.tc : Thread nD τ).loc main_arg1) : S8192x1024.Idx → EReal) (ix2 n j)

theorem v0_at (n : Fin 8192) (i : Fin 512) : V m c main_v0 (ix2 n i : S8192x512.Idx) = wide m c n i := by
  unfold wide
  show StableHlo.after hostOps0 (fun b => m (c, b)) (Proc.devRef .tc main_v0) (ix2 n i : S8192x512.Idx) = _
  unfold hostOps0
  after_reads_at

theorem v1_at (n : Fin 8192) (j : Fin 1024) : V m c main_v1 (ix2 n j : S8192x1024.Idx) = slim m c n j := by
  unfold slim
  show StableHlo.after hostOps0 (fun b => m (c, b)) (Proc.devRef .tc main_v1) (ix2 n j : S8192x1024.Idx) = _
  unfold hostOps0
  after_reads_at

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel

theorem blk0 (t : Fin cfg0.N) (r : Fin 1024) (i : Fin 512) : iblk m c 0 t (ix2 r i : S1024x512.Idx) = wide m c (token t r) i := by
  rw [← v0_at]
  blk_simp [iblk]
  exact congrArg _ (by unfold token; blk_ext [idx0])

theorem blk1 (t : Fin cfg0.N) (r : Fin 1024) (j : Fin 1024) : iblk m c 1 t (ix2 r j : S1024x1024.Idx) = slim m c (token t r) j := by
  rw [← v1_at]
  blk_simp [iblk]
  exact congrArg _ (by unfold token; blk_ext [idx1])

/-! ## The sum kept over the points -/

theorem pay1_at (i : Fin 512) (j : Fin 1024) : k0_pay1 (F := Ideal) (ix2 i j) = 0 := by
  pointwise [k0_pay1]

theorem pay2_at (s : Vec Ideal S512x1024 .f32) (a : Vec Ideal S1024x512 .bf16) (b : Vec Ideal S1024x1024 .bf16) (i : Fin 512) (j : Fin 1024) :
    k0_pay2 s a b (ix2 i j) = s (ix2 i j) + ∑ r : Fin 1024, a (ix2 r i) * b (ix2 r j) := by
  pointwise [k0_pay2]

theorem pay3_at (s : Vec Ideal S512x1024 .f32) (i : Fin 512) (j : Fin 1024) : k0_pay3 s (ix2 i j) = s (ix2 i j) := by
  pointwise [k0_pay3]

theorem step_at (s : Vec Ideal S512x1024 .f32) (t : Fin cfg0.N) (i : Fin 512) (j : Fin 1024) :
    k0_pay2 (F := Ideal) s (iblk m c 0 t) (iblk m c 1 t) (ix2 i j)
      = s (ix2 i j) + ∑ r, (fun n => wide m c n i * slim m c n j) (token t r) := by
  rw [pay2_at]
  simp only [blk0, blk1]

theorem kept_first (t : Fin cfg0.N) (h : t.val % 8 = 0) :
    (outsAt0 m c t.val t.isLt).2 = k0_pay2 (F := Ideal) (k0_pay1 (F := Ideal)) (iblk m c 0 t) (iblk m c 1 t) := by
  rw [outsAt0_A m c t h (by omega)]; frame_out

theorem kept_next (t : Fin cfg0.N) (h : ¬t.val % 8 = 0) :
    (outsAt0 m c t.val t.isLt).2 = k0_pay2 (F := Ideal) (outsAt0 m c (t.val - 1) (by have := t.isLt; omega)).2 (iblk m c 0 t) (iblk m c 1 t) := by
  by_cases h1 : t.val % 8 = 7
  · rw [outsAt0_C m c t h h1]; frame_out; rw [read_unread_whole]
  · rw [outsAt0_B m c t h h1]; frame_out; rw [read_unread_whole]

theorem out_last (t : Fin cfg0.N) (h : t.val % 8 = 7) : (outsAt0 m c t.val t.isLt).1 = k0_pay3 (F := Ideal) (outsAt0 m c t.val t.isLt).2 := by
  rw [kept_next m c t (by omega), outsAt0_C m c t (by omega) h]; frame_out; rw [read_unread_whole]

theorem kept_last (t : Fin cfg0.N) (ht : t.val % 8 = 7) (i : Fin 512) (j : Fin 1024) :
    (outsAt0 m c t.val t.isLt).2 (ix2 i j) = ∑ n, wide m c n i * slim m c n j :=
  fold_tokens (fun n h => (outsAt0 m c n h).2 (ix2 i j)) (fun n => wide m c n i * slim m c n j)
    (fun t h => (congrFun (kept_first m c t h) _).trans ((step_at m c _ t i j).trans (congrArg (· + _) (pay1_at i j))))
    (fun t h => (congrFun (kept_next m c t h) _).trans (step_at m c _ t i j)) t ht

/-- What the call leaves in its array. -/
theorem arr2 : (dats m 0 c).arrAt 2 cfg0.N = fun p : S512x1024.Idx => ∑ n, wide m c n (p 0) * slim m c n (p 1) := by
  refine (dats m 0 c).arrAt_eq_of_covers 2 _ (by decide +kernel) fun t hf y => ?_
  have ht : t.val % 8 = 7 := (flush0_2 t).mp hf
  blk_simp [idx2]
  rw [after0_2]
  refine (congrArg _ (eq_ix2 (n0 := 512) (n1 := 1024) y)).trans ?_
  refine (congrFun (out_last m c t ht) _).trans ((pay3_at _ _ _).trans ((kept_last m c t ht _ _).trans ?_))
  refine Finset.sum_congr rfl fun n _ => congrArg₂ _ (congrArg _ (Fin.ext ?_)) (congrArg _ (Fin.ext ?_)) <;> blk_simp [idx2]

/-! ## The reference -/

theorem ref_at (x0 : (⟨S8192x512, .f32⟩ : BufTy).Contents (Elt Ideal)) (x1 : (⟨S8192x1024, .f32⟩ : BufTy).Contents (Elt Ideal)) (i : Fin 512) (j : Fin 1024) :
    Cert.Reference14Ideal.Read.val_main_v4 (F := Ideal) x0 x1 (ix2 i j) = ∑ n : Fin 8192, x0 (ix2 n i) * x1 (ix2 n j) := by
  refine Eq.trans (b := ∑ n : Fin 8192, x1 (ix2 n j) * x0 (ix2 n i)) ?_ (Finset.sum_congr rfl fun n _ => mul_comm _ _)
  pointwise [Cert.Reference14Ideal.Read.val_main_v4, Cert.Reference14Ideal.Read.val_main_v3, Cert.Reference14Ideal.Read.val_main_v2]

/-- The call runs, and ends with its array and its arguments so. -/
theorem run (g : Dev nD → PrngReg) : θ_run defs (onTc (τ := τ) (main (F := Ideal))) ⟨m, fun _ => 0, g⟩ fun r => ∀ c : Dev nD,
    r.2.mem ((c : Thread nD τ).loc main_v2) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m g)

/-- From memories that agree on the arguments, both programs run, end with the same gradient, and leave their arguments as they were. -/
theorem holds : Cert.algebraic_Kernel14Ideal_Reference14Ideal (hKernel14Ideal := Cert.Kernel14Ideal.Gen.facts) (hReference14Ideal := Cert.Reference14Ideal.Gen.facts) := by
  intro m g m' g' _ ha
  refine ⟨fun c => (dats m 0 c).arrAt 2 cfg0.N, run m g, ?_⟩
  refine (θ_run Cert.Reference14Ideal.defs _ _).mono (fun r h c => ?_) (Cert.Reference14Ideal.Value.run (F := Ideal) m' g')
  obtain ⟨a0, a1⟩ := ha c
  obtain ⟨h0, hr⟩ := h c
  refine ⟨h0.trans ?_, hr⟩
  rw [Cert.Reference14Ideal.Read.val_main_v4_eq, a0, a1]
  refine Eq.trans ?_ (arr2 m c).symm
  funext p
  exact (congrArg _ (eq_ix2 p)).trans (ref_at _ _ (p 0) (p 1))

end Cert.Kernel14Ideal.Weight

end
-- ==== Proof.lean ====
/-
  THE PROOF OF `Cert.Claim`: the programs' frames, the idealization's two named constants, and the equality of every program's results
  with its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Algebraic
public import proofs.«01_k».proof.Proof.NormAlgebraic
public import proofs.«01_k».proof.Proof.PlainAlgebraic
public import proofs.«01_k».proof.Proof.DownWeight
public import proofs.«01_k».proof.Proof.UpWeight
public import proofs.«01_k».proof.Proof.GluAlgebraic
public import proofs.«01_k».proof.Proof.DownForward
public import proofs.«01_k».proof.Proof.DownLossArray
public import proofs.«01_k».proof.Proof.OutNorm
public import proofs.«01_k».proof.Proof.InNorm
public import proofs.«01_k».proof.Proof.InWeight
public import proofs.«01_k».proof.Proof.OutWeightAttn
public import proofs.«01_k».proof.Proof.OutWeightConv
public import Idealize.ShloMosaic.Adequacy
public import Idealize.ShloMosaic.Init

@[expose] public section

noncomputable section

namespace Cert.Proof

open Idealize.ShloMosaic Idealize.SL.Sem Cert.Kernel

/-- The reference runs, leaves its arguments as they were, and every counter ends at zero. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite_arguments.facts,
    fun m g _ => Cert.Kernel.Gen.frame m g,
    fun m g _ => Cert.KernelIdeal.Gen.frame m g,
    fun m g _ => Cert.KernelIdeal.Gen.frame m g,
    fun m g _ => frame_ref m g,
    fun m g _ => frame_ref m g,
    fun m g _ => Cert.Kernel2.Gen.frame m g,
    fun m g _ => Cert.Kernel2Ideal.Gen.frame m g,
    fun m g _ => (θ_run Cert.Reference2Ideal.defs _ _).mono
      (fun r h => ⟨fun c => (h c).2.2.2.2.2.2, Idealize.ShloMosaic.sem_eq_zero_of_no_sems (by decide) r.2⟩)
      (Cert.Reference2Ideal.Value.run (F := Ideal) m g),
    fun m g _ => Cert.Kernel4.Gen.frame m g,
    fun m g _ => Cert.Kernel4Ideal.Gen.frame m g,
    fun m g _ => (θ_run Cert.Reference4Ideal.defs _ _).mono
      (fun r h => ⟨fun c => (h c).2, Idealize.ShloMosaic.sem_eq_zero_of_no_sems (by decide) r.2⟩)
      (Cert.Reference4Ideal.Value.run (F := Ideal) m g),
    fun m g _ => Cert.Kernel5.Gen.frame m g,
    fun m g _ => Cert.Kernel5Ideal.Gen.frame m g,
    fun m g _ => (θ_run Cert.Reference5Ideal.defs _ _).mono
      (fun r h => ⟨fun c => (h c).2.2.2.2, Idealize.ShloMosaic.sem_eq_zero_of_no_sems (by decide) r.2⟩)
      (Cert.Reference5Ideal.Value.run (F := Ideal) m g),
    fun m g _ => Cert.Kernel6.Gen.frame m g,
    fun m g _ => Cert.Kernel6Ideal.Gen.frame m g,
    fun m g _ => (θ_run Cert.Reference6Ideal.defs _ _).mono
      (fun r h => ⟨fun c => (h c).2, Idealize.ShloMosaic.sem_eq_zero_of_no_sems (by decide) r.2⟩)
      (Cert.Reference6Ideal.Value.run (F := Ideal) m g),
    fun m g _ => Cert.Kernel7.Gen.frame m g,
    fun m g _ => Cert.Kernel7Ideal.Gen.frame m g,
    fun m g _ => (θ_run Cert.Reference7Ideal.defs _ _).mono
      (fun r h => ⟨fun c => (h c).2.2.2, Idealize.ShloMosaic.sem_eq_zero_of_no_sems (by decide) r.2⟩)
      (Cert.Reference7Ideal.Value.run (F := Ideal) m g),
    fun m g _ => Cert.Kernel8.Gen.frame m g,
    fun m g _ => Cert.Kernel8Ideal.Gen.frame m g,
    fun m g _ => (θ_run Cert.Reference8Ideal.defs _ _).mono
      (fun r h => ⟨fun c => (h c).2.2, Idealize.ShloMosaic.sem_eq_zero_of_no_sems (by decide) r.2⟩)
      (Cert.Reference8Ideal.Value.run (F := Ideal) m g),
    fun m g _ => Cert.Kernel9.Gen.frame m g,
    fun m g _ => Cert.Kernel9Ideal.Gen.frame m g,
    fun m g _ => (θ_run Cert.Reference9Ideal.defs _ _).mono
      (fun r h => ⟨fun c => (h c).2.2.2.2, Idealize.ShloMosaic.sem_eq_zero_of_no_sems (by decide) r.2⟩)
      (Cert.Reference9Ideal.Value.run (F := Ideal) m g),
    fun m g _ => Cert.Kernel10.Gen.frame m g,
    fun m g _ => Cert.Kernel10Ideal.Gen.frame m g,
    fun m g _ => (θ_run Cert.Reference10Ideal.defs _ _).mono
      (fun r h => ⟨fun c => (h c).2.2.2, Idealize.ShloMosaic.sem_eq_zero_of_no_sems (by decide) r.2⟩)
      (Cert.Reference10Ideal.Value.run (F := Ideal) m g),
    fun m g _ => Cert.Kernel11.Gen.frame m g,
    fun m g _ => Cert.Kernel11Ideal.Gen.frame m g,
    fun m g _ => (θ_run Cert.Reference11Ideal.defs _ _).mono
      (fun r h => ⟨fun c => (h c).2.2.2.2, Idealize.ShloMosaic.sem_eq_zero_of_no_sems (by decide) r.2⟩)
      (Cert.Reference11Ideal.Value.run (F := Ideal) m g),
    fun m g _ => Cert.Kernel12.Gen.frame m g,
    fun m g _ => Cert.Kernel12Ideal.Gen.frame m g,
    fun m g _ => (θ_run Cert.Reference12Ideal.defs _ _).mono
      (fun r h => ⟨fun c => (h c).2, Idealize.ShloMosaic.sem_eq_zero_of_no_sems (by decide) r.2⟩)
      (Cert.Reference12Ideal.Value.run (F := Ideal) m g),
    fun m g _ => Cert.Kernel13.Gen.frame m g,
    fun m g _ => Cert.Kernel13Ideal.Gen.frame m g,
    fun m g _ => (θ_run Cert.Reference13Ideal.defs _ _).mono
      (fun r h => ⟨fun c => (h c).2, Idealize.ShloMosaic.sem_eq_zero_of_no_sems (by decide) r.2⟩)
      (Cert.Reference13Ideal.Value.run (F := Ideal) m g),
    fun m g _ => Cert.Kernel14.Gen.frame m g,
    fun m g _ => Cert.Kernel14Ideal.Gen.frame m g,
    fun m g _ => (θ_run Cert.Reference14Ideal.defs _ _).mono
      (fun r h => ⟨fun c => (h c).2, Idealize.ShloMosaic.sem_eq_zero_of_no_sems (by decide) r.2⟩)
      (Cert.Reference14Ideal.Value.run (F := Ideal) m g),
    ⟨IdealRules.named_const.statement Cert.KernelIdeal.κ "log2e" .f32 0x3FB8AA3B#32 (((Real.log 2)⁻¹ : ℝ) : EReal) rfl,
      IdealRules.named_const.statement Cert.KernelIdeal.κ "ln2" .f32 0x3F317218#32 ((Real.log 2 : ℝ) : EReal) rfl⟩,
    Cert.Algebraic.holds,
    trivial, Cert.Norm.holds,
    trivial, Cert.Kernel4Ideal.Weight.holds,
    trivial, Cert.PlainNorm.holds,
    trivial, Cert.UpWeight.holds,
    trivial, Cert.Glu.holds,
    trivial, Cert.Down.holds,
    trivial, Cert.DownLoss.holds,
    trivial, Cert.OutNorm.holds,
    trivial, Cert.InNorm.holds,
    trivial, Cert.Kernel12Ideal.Weight.holds,
    trivial, Cert.Kernel13Ideal.Weight.holds,
    trivial, Cert.Kernel14Ideal.Weight.holds⟩

end Cert.Proof

end
